-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_finite [hPre_finite : Cert.Pre_finite.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_routed [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_routed [hPre_routed : Cert.Pre_routed.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_routed.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_bounded [hPre_bounded : Cert.Pre_bounded.Facts] (m : (ℓ : Loc Cert.RouterIdeal.nD Cert.RouterIdeal.τ Cert.RouterIdeal.sig) → Buf (Elt Ideal) ℓ) : Prop :=
  ∀ c : Dev Cert.RouterIdeal.nD,
    (Cert.Pre_bounded.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_bounded [hPre_bounded : Cert.Pre_bounded.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_bounded.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))) = (fun _ => 1#1)

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesReferenceIdeal (m : (ℓ : Loc Cert.TablesReferenceIdeal.nD Cert.TablesReferenceIdeal.τ Cert.TablesReferenceIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10))
      ∧ r.2.sem = fun _ => 0)

def quiescent_MixerReferenceIdeal_pre_finite [hMixerReferenceIdeal : Cert.MixerReferenceIdeal.Facts] [hPre_finite : Cert.Pre_finite.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_finite m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeIdeal_pre_routed [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_MoeReferenceIdeal_pre_routed [hMoeReferenceIdeal : Cert.MoeReferenceIdeal.Facts] [hPre_routed : Cert.Pre_routed.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_routed m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_bounded [hRouterIdeal : Cert.RouterIdeal.Facts] [hPre_bounded : Cert.Pre_bounded.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_bounded m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_bounded [hRouterReferenceIdeal : Cert.RouterReferenceIdeal.Facts] [hPre_bounded : Cert.Pre_bounded.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_bounded m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ r.2.sem = fun _ => 0)

def quiescent_TablesReferenceIdeal [hTablesReferenceIdeal : Cert.TablesReferenceIdeal.Facts] : Prop :=
  ∀ (m : (ℓ : Loc Cert.TablesReferenceIdeal.nD Cert.TablesReferenceIdeal.τ Cert.TablesReferenceIdeal.sig) → Buf (Elt Ideal) ℓ) (g : Dev Cert.TablesReferenceIdeal.nD → PrngReg), Pre_TablesReferenceIdeal m →
    θ_run (Cert.TablesReferenceIdeal.defs (F := Ideal)) (onTc (τ := Cert.TablesReferenceIdeal.τ) (Cert.TablesReferenceIdeal.main (F := Ideal))) ⟨m, fun _ => 0, g⟩ (fun r => (∀ c : Dev Cert.TablesReferenceIdeal.nD,
      r.2.mem ((c.tc : Thread Cert.TablesReferenceIdeal.nD Cert.TablesReferenceIdeal.τ).loc Cert.TablesReferenceIdeal.main_arg0) = m ((c.tc : Thread Cert.TablesReferenceIdeal.nD Cert.TablesReferenceIdeal.τ).loc Cert.TablesReferenceIdeal.main_arg0))
      ∧ r.2.sem = fun _ => 0)

def preserves_Mixer_MixerIdeal : Prop :=
  True

def algebraic_MixerIdeal_MixerReferenceIdeal_pre_finite [hMixerIdeal : Cert.MixerIdeal.Facts] [hMixerReferenceIdeal : Cert.MixerReferenceIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal_finite m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)
      ∧ m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9)
      ∧ m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10)) →
    ∃ (v0 : (c : Dev Cert.MixerIdeal.nD) → Buf (Elt Ideal) ((c.tc : Thread Cert.MixerIdeal.nD Cert.MixerIdeal.τ).loc Cert.MixerIdeal.main_v4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v263) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10))

def preserves_Moe_MoeIdeal : Prop :=
  True

def algebraic_MoeIdeal_MoeReferenceIdeal_pre_routed [hMoeIdeal : Cert.MoeIdeal.Facts] [hMoeReferenceIdeal : Cert.MoeReferenceIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_routed m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v126) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v54) = v0 c
          ∧ r.2.mem ((c.tc : Thread Cert.InProjReferenceIdeal.nD Cert.InProjReferenceIdeal.τ).loc Cert.InProjReferenceIdeal.main_v56) = v1 c
          ∧ r.2.mem ((c.tc : Thread Cert.InProjReferenceIdeal.nD Cert.InProjReferenceIdeal.τ).loc Cert.InProjReferenceIdeal.main_v58) = v2 c
          ∧ r.2.mem ((c.tc : Thread Cert.InProjReferenceIdeal.nD Cert.InProjReferenceIdeal.τ).loc Cert.InProjReferenceIdeal.main_v59) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v22) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v35) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5))

def preserves_Router_RouterIdeal : Prop :=
  True

def algebraic_RouterIdeal_RouterReferenceIdeal_pre_bounded [hRouterIdeal : Cert.RouterIdeal.Facts] [hRouterReferenceIdeal : Cert.RouterReferenceIdeal.Facts] [hPre_bounded : Cert.Pre_bounded.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_bounded m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v51) = v0 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def preserves_Tables_TablesIdeal : Prop :=
  True

def algebraic_TablesIdeal_TablesReferenceIdeal [hTablesIdeal : Cert.TablesIdeal.Facts] [hTablesReferenceIdeal : Cert.TablesReferenceIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesReferenceIdeal.nD Cert.TablesReferenceIdeal.τ Cert.TablesReferenceIdeal.sig) → Buf (Elt Ideal) ℓ) (g' : Dev Cert.TablesReferenceIdeal.nD → PrngReg), Pre_TablesIdeal m →
    (∀ c : Dev Cert.TablesIdeal.nD,
      m' ((c.tc : Thread Cert.TablesReferenceIdeal.nD Cert.TablesReferenceIdeal.τ).loc Cert.TablesReferenceIdeal.main_arg0) = m ((c.tc : Thread Cert.TablesIdeal.nD Cert.TablesIdeal.τ).loc Cert.TablesIdeal.main_arg0)) →
    ∃ (v0 : (c : Dev Cert.TablesIdeal.nD) → Buf (Elt Ideal) ((c.tc : Thread Cert.TablesIdeal.nD Cert.TablesIdeal.τ).loc Cert.TablesIdeal.main_v20_0)) (v1 : (c : Dev Cert.TablesIdeal.nD) → Buf (Elt Ideal) ((c.tc : Thread Cert.TablesIdeal.nD Cert.TablesIdeal.τ).loc Cert.TablesIdeal.main_v20_1)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v20_0) = v0 c
          ∧ r.2.mem ((c.tc : Thread Cert.TablesIdeal.nD Cert.TablesIdeal.τ).loc Cert.TablesIdeal.main_v20_1) = v1 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ θ_run (Cert.TablesReferenceIdeal.defs (F := Ideal)) (onTc (τ := Cert.TablesReferenceIdeal.τ) (Cert.TablesReferenceIdeal.main (F := Ideal))) ⟨m', fun _ => 0, g'⟩ (fun r => ∀ c : Dev Cert.TablesReferenceIdeal.nD,
          r.2.mem ((c.tc : Thread Cert.TablesReferenceIdeal.nD Cert.TablesReferenceIdeal.τ).loc Cert.TablesReferenceIdeal.main_v15) = v0 c
          ∧ r.2.mem ((c.tc : Thread Cert.TablesReferenceIdeal.nD Cert.TablesReferenceIdeal.τ).loc Cert.TablesReferenceIdeal.main_v18) = v1 c
          ∧ r.2.mem ((c.tc : Thread Cert.TablesReferenceIdeal.nD Cert.TablesReferenceIdeal.τ).loc Cert.TablesReferenceIdeal.main_arg0) = m' ((c.tc : Thread Cert.TablesReferenceIdeal.nD Cert.TablesReferenceIdeal.τ).loc Cert.TablesReferenceIdeal.main_arg0))

def Claim : Prop :=
  ∃ (hMixer : Cert.Mixer.Facts) (hMixerIdeal : Cert.MixerIdeal.Facts) (hMixerReferenceIdeal : Cert.MixerReferenceIdeal.Facts) (hMoe : Cert.Moe.Facts) (hMoeIdeal : Cert.MoeIdeal.Facts) (hMoeReferenceIdeal : Cert.MoeReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hPle : Cert.Ple.Facts) (hPleIdeal : Cert.PleIdeal.Facts) (hPleReferenceIdeal : Cert.PleReferenceIdeal.Facts) (hLast : Cert.Last.Facts) (hLastIdeal : Cert.LastIdeal.Facts) (hLastReferenceIdeal : Cert.LastReferenceIdeal.Facts) (hRouter : Cert.Router.Facts) (hRouterIdeal : Cert.RouterIdeal.Facts) (hRouterReferenceIdeal : Cert.RouterReferenceIdeal.Facts) (hTables : Cert.Tables.Facts) (hTablesIdeal : Cert.TablesIdeal.Facts) (hTablesReferenceIdeal : Cert.TablesReferenceIdeal.Facts) (hPre_finite : Cert.Pre_finite.Facts) (hPre_routed : Cert.Pre_routed.Facts) (hPre_bounded : Cert.Pre_bounded.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerReferenceIdeal (hMixerReferenceIdeal := hMixerReferenceIdeal)
    ∧ quiescent_MixerReferenceIdeal_pre_finite (hMixerReferenceIdeal := hMixerReferenceIdeal) (hPre_finite := hPre_finite)
    ∧ quiescent_Moe (hMoe := hMoe)
    ∧ quiescent_MoeIdeal (hMoeIdeal := hMoeIdeal)
    ∧ quiescent_MoeIdeal_pre_routed (hMoeIdeal := hMoeIdeal) (hPre_routed := hPre_routed)
    ∧ quiescent_MoeReferenceIdeal (hMoeReferenceIdeal := hMoeReferenceIdeal)
    ∧ quiescent_MoeReferenceIdeal_pre_routed (hMoeReferenceIdeal := hMoeReferenceIdeal) (hPre_routed := hPre_routed)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_Last (hLast := hLast)
    ∧ quiescent_LastIdeal (hLastIdeal := hLastIdeal)
    ∧ quiescent_LastReferenceIdeal (hLastReferenceIdeal := hLastReferenceIdeal)
    ∧ quiescent_Router (hRouter := hRouter)
    ∧ quiescent_RouterIdeal (hRouterIdeal := hRouterIdeal)
    ∧ quiescent_RouterIdeal_pre_bounded (hRouterIdeal := hRouterIdeal) (hPre_bounded := hPre_bounded)
    ∧ quiescent_RouterReferenceIdeal (hRouterReferenceIdeal := hRouterReferenceIdeal)
    ∧ quiescent_RouterReferenceIdeal_pre_bounded (hRouterReferenceIdeal := hRouterReferenceIdeal) (hPre_bounded := hPre_bounded)
    ∧ quiescent_Tables (hTables := hTables)
    ∧ quiescent_TablesIdeal (hTablesIdeal := hTablesIdeal)
    ∧ quiescent_TablesReferenceIdeal (hTablesReferenceIdeal := hTablesReferenceIdeal)
    ∧ preserves_Mixer_MixerIdeal
    ∧ algebraic_MixerIdeal_MixerReferenceIdeal_pre_finite (hMixerIdeal := hMixerIdeal) (hMixerReferenceIdeal := hMixerReferenceIdeal) (hPre_finite := hPre_finite)
    ∧ preserves_Moe_MoeIdeal
    ∧ algebraic_MoeIdeal_MoeReferenceIdeal_pre_routed (hMoeIdeal := hMoeIdeal) (hMoeReferenceIdeal := hMoeReferenceIdeal) (hPre_routed := hPre_routed)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_Ple_PleIdeal
    ∧ algebraic_PleIdeal_PleReferenceIdeal (hPleIdeal := hPleIdeal) (hPleReferenceIdeal := hPleReferenceIdeal)
    ∧ preserves_Last_LastIdeal
    ∧ algebraic_LastIdeal_LastReferenceIdeal (hLastIdeal := hLastIdeal) (hLastReferenceIdeal := hLastReferenceIdeal)
    ∧ preserves_Router_RouterIdeal
    ∧ algebraic_RouterIdeal_RouterReferenceIdeal_pre_bounded (hRouterIdeal := hRouterIdeal) (hRouterReferenceIdeal := hRouterReferenceIdeal) (hPre_bounded := hPre_bounded)
    ∧ preserves_Tables_TablesIdeal
    ∧ algebraic_TablesIdeal_TablesReferenceIdeal (hTablesIdeal := hTablesIdeal) (hTablesReferenceIdeal := hTablesReferenceIdeal)
-- ==== Pre_bounded.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩

class Facts : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x8 : S_.BroadcastsInDim S32768x8 (![] : Fin 0 → Fin S32768x8.rank)
  reducesTo_S32768x8_S_d0_1 : S32768x8.ReducesTo [0, 1] S_
  dot_S32768x1024_S1024x8_S32768x8_1_0_0_1_n_n_wf : DotDims.WF S32768x1024 S1024x8 S32768x8 [1] [0] [0] [1] [] []

variable [Facts]

def dot_S32768x1024_S1024x8_S32768x8_1_0_0_1_n_n : DotDims S32768x1024 S1024x8 S32768x8 where
  lhsContracting := [1]
  rhsContracting := [0]
  lhsNonContracting := [0]
  rhsNonContracting := [1]
  lhsBatch := []
  rhsBatch := []
  wf := dot_S32768x1024_S1024x8_S32768x8_1_0_0_1_n_n_wf
def fn_part1 {F : FTy → Type} [FloatOps F] (main_v18 : IVec S32768x8 1) : IVec S_ 1 :=
  let main_c : IVec S_ 1 := constantI S_ 1 1#1
  let main_v19 : IVec S_ 1 := (fun x v => Host.reduce IntOp.andi x v reducesTo_S32768x8_S_d0_1 h_S_) main_v18 main_c
  main_v19

def fn {F : FTy → Type} [FloatOps F] (main_arg0 : FVec F S32768x1024 .f32) (main_arg1 : FVec F S1024 .f32) (main_arg2 : FVec F S1024x8 .f32) : IVec S_ 1 :=
  let main_v0 : FVec F S32768x1024 .f32 := mulf main_arg0 main_arg0
  let main_cst : FVec F S_ .f32 := constant S_ .f32 0x00000000#32
  let main_v1 : FVec F S32768 .f32 := (fun x v => Host.reduceAdd x v reducesTo_S32768x1024_S32768_d1 h_S_) main_v0 main_cst
  let main_v2 : FVec F S32768x1 .f32 := broadcastInDim S32768x1 ![0] bcast_S32768_S32768x1_0 main_v1
  let main_cst_0 : FVec F S_ .f32 := constant S_ .f32 0x44800000#32
  let main_v3 : FVec F S32768x1 .f32 := broadcastInDim S32768x1 ![] bcast_S_S32768x1 main_cst_0
  let main_v4 : FVec F S32768x1 .f32 := Host.divf main_v2 main_v3
  let main_cst_1 : FVec F S_ .f32 := constant S_ .f32 0x358637BD#32
  let main_v5 : FVec F S32768x1 .f32 := broadcastInDim S32768x1 ![] bcast_S_S32768x1 main_cst_1
  let main_v6 : FVec F S32768x1 .f32 := addf main_v4 main_v5
  let main_v7 : FVec F S32768x1 .f32 := Host.rsqrt main_v6
  let main_v8 : FVec F S32768x1024 .f32 := broadcastInDim S32768x1024 ![0, 1] bcast_S32768x1_S32768x1024_0_1 main_v7
  let main_v9 : FVec F S32768x1024 .f32 := mulf main_arg0 main_v8
  let main_v10 : FVec F S1x1024 .f32 := broadcastInDim S1x1024 ![1] bcast_S1024_S1x1024_1 main_arg1
  let main_v11 : FVec F S32768x1024 .f32 := broadcastInDim S32768x1024 ![0, 1] bcast_S1x1024_S32768x1024_0_1 main_v10
  let main_v12 : FVec F S32768x1024 .f32 := mulf main_v9 main_v11
  let main_v13 : FVec F S32768x8 .f32 := (fun l r => Host.dotGeneral dot_S32768x1024_S1024x8_S32768x8_1_0_0_1_n_n none l r) main_v12 main_arg2
  let main_cst_2 : FVec F S_ .f32 := constant S_ .f32 0xF149F2CA#32
  let main_v14 : FVec F S32768x8 .f32 := broadcastInDim S32768x8 ![] bcast_S_S32768x8 main_cst_2
  let main_v15 : IVec S32768x8 1 := cmpf .ogt main_v13 main_v14
  let main_cst_3 : FVec F S_ .f32 := constant S_ .f32 0x7F800000#32
  let main_v16 : FVec F S32768x8 .f32 := broadcastInDim S32768x8 ![] bcast_S_S32768x8 main_cst_3
  let main_v17 : IVec S32768x8 1 := cmpf .olt main_v13 main_v16
  let main_v18 : IVec S32768x8 1 := andi main_v15 main_v17
  fn_part1 (F := F) main_v18
-- ==== Pre_finite.lean ====
abbrev S32768x1024 : Shape := ⟨2, ![32768, 1024]⟩
abbrev S32768x1536 : Shape := ⟨2, ![32768, 1536]⟩
abbrev S32768x256 : Shape := ⟨2, ![32768, 256]⟩
abbrev S32768x3072 : Shape := ⟨2, ![32768, 3072]⟩
abbrev S8 : Shape := ⟨1, ![8]⟩
abbrev S3x512 : Shape := ⟨2, ![3, 512]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S32768x512 : Shape := ⟨2, ![32768, 512]⟩
abbrev S_ : Shape := ⟨0, ![]⟩
abbrev S32768x128 : Shape := ⟨2, ![32768, 128]⟩

class Facts : Prop where
  slices_S32768x1024_S32768x512_0_512 : S32768x1024.Slices ![0, 512] S32768x512
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  slices_S32768x256_S32768x128_0_0 : S32768x256.Slices ![0, 0] S32768x128
  bcast_S_S32768x128 : S_.BroadcastsInDim S32768x128 (![] : Fin 0 → Fin S32768x128.rank)
  reducesTo_S32768x128_S_d0_1 : S32768x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v16 : IVec S_ 1) (main_cst_4 : FVec F S_ .f32) : IVec S_ 1 :=
  let main_v17 : FVec F S8 .f32 := broadcastInDim S8 ![] bcast_S_S8 main_cst_4
  let main_v18 : IVec S8 1 := cmpf .ogt main_arg5 main_v17
  let main_cst_5 : FVec F S_ .f32 := constant S_ .f32 0x7F800000#32
  let main_v19 : FVec F S8 .f32 := broadcastInDim S8 ![] bcast_S_S8 main_cst_5
  let main_v20 : IVec S8 1 := cmpf .olt main_arg5 main_v19
  let main_v21 : IVec S8 1 := andi main_v18 main_v20
  let main_c_6 : IVec S_ 1 := constantI S_ 1 1#1
  let main_v22 : IVec S_ 1 := (fun x v => Host.reduce IntOp.andi x v reducesTo_S8_S_d0 h_S_) main_v21 main_c_6
  let main_v23 : IVec S_ 1 := andi main_v16 main_v22
  main_v23

def fn {F : FTy → Type} [FloatOps F] (main_arg0 : FVec F S32768x1024 .f32) (main_arg1 : FVec F S32768x1536 .bf16) (main_arg2 : FVec F S32768x1024 .bf16) (main_arg3 : FVec F S32768x256 .bf16) (main_arg4 : FVec F S32768x3072 .bf16) (main_arg5 : FVec F S8 .f32) (main_arg6 : FVec F S3x512 .f32) (main_arg7 : FVec F S4x128x128 .f32) (main_arg8 : FVec F S512 .f32) (main_arg9 : FVec F S3x512x1024 .f32) (main_arg10 : FVec F S1024x1024 .f32) : IVec S_ 1 :=
  let main_v0 : FVec F S32768x512 .bf16 := (extractStridedSlice S32768x512 ![0, 512] · slices_S32768x1024_S32768x512_0_512) main_arg2
  let main_v1 : FVec F S32768x512 .f32 := (extf .f32 · bitsLt_bf16_f32) main_v0
  let main_cst : FVec F S_ .f32 := constant S_ .f32 0xFF800000#32
  let main_v2 : FVec F S32768x512 .f32 := broadcastInDim S32768x512 ![] bcast_S_S32768x512 main_cst
  let main_v3 : IVec S32768x512 1 := cmpf .ogt main_v1 main_v2
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v1 main_v4
  let main_v6 : IVec S32768x512 1 := andi main_v3 main_v5
  let main_c : IVec S_ 1 := constantI S_ 1 1#1
  let main_v7 : IVec S_ 1 := (fun x v => Host.reduce IntOp.andi x v reducesTo_S32768x512_S_d0_1 h_S_) main_v6 main_c
  let main_v8 : FVec F S32768x128 .bf16 := (extractStridedSlice S32768x128 ![0, 0] · slices_S32768x256_S32768x128_0_0) main_arg3
  let main_v9 : FVec F S32768x128 .f32 := (extf .f32 · bitsLt_bf16_f32) main_v8
  let main_cst_1 : FVec F S_ .f32 := constant S_ .f32 0xFF800000#32
  let main_v10 : FVec F S32768x128 .f32 := broadcastInDim S32768x128 ![] bcast_S_S32768x128 main_cst_1
  let main_v11 : IVec S32768x128 1 := cmpf .ogt main_v9 main_v10
  let main_cst_2 : FVec F S_ .f32 := constant S_ .f32 0x7F800000#32
  let main_v12 : FVec F S32768x128 .f32 := broadcastInDim S32768x128 ![] bcast_S_S32768x128 main_cst_2
  let main_v13 : IVec S32768x128 1 := cmpf .olt main_v9 main_v12
  let main_v14 : IVec S32768x128 1 := andi main_v11 main_v13
  let main_c_3 : IVec S_ 1 := constantI S_ 1 1#1
  let main_v15 : IVec S_ 1 := (fun x v => Host.reduce IntOp.andi x v reducesTo_S32768x128_S_d0_1 h_S_) main_v14 main_c_3
  let main_v16 : IVec S_ 1 := andi main_v7 main_v15
  let main_cst_4 : FVec F S_ .f32 := constant S_ .f32 0xFF800000#32
  fn_part1 (F := F) main_arg5 main_v16 main_cst_4
-- ==== Pre_routed.lean ====
abbrev S32768x1024 : Shape := ⟨2, ![32768, 1024]⟩
abbrev S1024 : Shape := ⟨1, ![1024]⟩
abbrev S32768x128 : Shape := ⟨2, ![32768, 128]⟩
abbrev S8x1024x3584 : Shape := ⟨3, ![8, 1024, 3584]⟩
abbrev S8x1792x1024 : Shape := ⟨3, ![8, 1792, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x1024 .f32) (main_arg1 : FVec F S1024 .f32) (main_arg2 : FVec F S32768x128 .f32) (main_arg3 : FVec F S8x1024x3584 .f32) (main_arg4 : FVec F S8x1792x1024 .f32) : IVec S_ 1 :=
  let main_cst : FVec F S_ .f32 := constant S_ .f32 0x00000000#32
  let main_v0 : FVec F S32768x128 .f32 := broadcastInDim S32768x128 ![] bcast_S_S32768x128 main_cst
  let main_v1 : IVec S32768x128 1 := cmpf .oge main_arg2 main_v0
  let main_cst_0 : FVec F S_ .f32 := constant S_ .f32 0x7F800000#32
  let main_v2 : FVec F S32768x128 .f32 := broadcastInDim S32768x128 ![] bcast_S_S32768x128 main_cst_0
  let main_v3 : IVec S32768x128 1 := cmpf .olt main_arg2 main_v2
  let main_v4 : IVec S32768x128 1 := andi main_v1 main_v3
  let main_c : IVec S_ 1 := constantI S_ 1 1#1
  let main_v5 : IVec S_ 1 := (fun x v => Host.reduce IntOp.andi x v reducesTo_S32768x128_S_d0_1 h_S_) main_v4 main_c
  main_v5
-- ==== Mixer.lean ====
abbrev S32768x1024 : Shape := ⟨2, ![32768, 1024]⟩
abbrev S32768x1536 : Shape := ⟨2, ![32768, 1536]⟩
abbrev S32768x256 : Shape := ⟨2, ![32768, 256]⟩
abbrev S32768x3072 : Shape := ⟨2, ![32768, 3072]⟩
abbrev S8 : Shape := ⟨1, ![8]⟩
abbrev S3x512 : Shape := ⟨2, ![3, 512]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S1x512 : Shape := ⟨2, ![1, 512]⟩
abbrev S512x1536 : Shape := ⟨2, ![512, 1536]⟩
abbrev S16x1536 : Shape := ⟨2, ![16, 1536]⟩
abbrev S512x1024 : Shape := ⟨2, ![512, 1024]⟩
abbrev S16x512 : Shape := ⟨2, ![16, 512]⟩
abbrev S512x256 : Shape := ⟨2, ![512, 256]⟩
abbrev S128x256 : Shape := ⟨2, ![128, 256]⟩
abbrev S512x3072 : Shape := ⟨2, ![512, 3072]⟩
abbrev S512x512 : Shape := ⟨2, ![512, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S528x384 : Shape := ⟨2, ![528, 384]⟩
abbrev S528x256 : Shape := ⟨2, ![528, 256]⟩
abbrev S528x128 : Shape := ⟨2, ![528, 128]⟩
abbrev S640x256 : Shape := ⟨2, ![640, 256]⟩
abbrev S256x128 : Shape := ⟨2, ![256, 128]⟩
abbrev S256x256 : Shape := ⟨2, ![256, 256]⟩
abbrev S1024x256 : Shape := ⟨2, ![1024, 256]⟩
abbrev S128x1024 : Shape := ⟨2, ![128, 1024]⟩
abbrev S1 : Shape := ⟨1, ![1]⟩
abbrev S128 : Shape := ⟨1, ![128]⟩
abbrev S128x1 : Shape := ⟨2, ![128, 1]⟩
abbrev S1x512x1024 : Shape := ⟨3, ![1, 512, 1024]⟩

abbrev nBuf : Space → Nat
  | .hbm => 16
  | .vmem => 24
  | .smem => 1
  | _ => 0

abbrev bufTy : (tb : Table) → Fin (tcTables nBuf tb) → BufTy
  | .hbm, ⟨0, _⟩ => ⟨S32768x1024, .f32⟩
  | .hbm, ⟨1, _⟩ => ⟨S32768x1536, .bf16⟩
  | .hbm, ⟨2, _⟩ => ⟨S32768x1024, .bf16⟩
  | .hbm, ⟨3, _⟩ => ⟨S32768x256, .bf16⟩
  | .hbm, ⟨4, _⟩ => ⟨S32768x3072, .bf16⟩
  | .hbm, ⟨5, _⟩ => ⟨S8, .f32⟩
  | .hbm, ⟨6, _⟩ => ⟨S3x512, .f32⟩
  | .hbm, ⟨7, _⟩ => ⟨S4x128x128, .f32⟩
  | .hbm, ⟨8, _⟩ => ⟨S512, .f32⟩
  | .hbm, ⟨9, _⟩ => ⟨S3x512x1024, .f32⟩
  | .hbm, ⟨10, _⟩ => ⟨S1024x1024, .f32⟩
  | .hbm, ⟨11, _⟩ => ⟨S4x128x128, .bf16⟩
  | .hbm, ⟨12, _⟩ => ⟨S1x512, .f32⟩
  | .hbm, ⟨13, _⟩ => ⟨S3x512x1024, .bf16⟩
  | .hbm, ⟨14, _⟩ => ⟨S1024x1024, .bf16⟩
  | .hbm, ⟨15, _⟩ => ⟨S32768x1024, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S512x1024, .bf16⟩
  | .local _ .vmem, ⟨5, _⟩ => ⟨S512x1024, .bf16⟩
  | .local _ .vmem, ⟨6, _⟩ => ⟨S16x512, .bf16⟩
  | .local _ .vmem, ⟨7, _⟩ => ⟨S16x512, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x3072, .bf16⟩
  | .local _ .vmem, ⟨13, _⟩ => ⟨S512x3072, .bf16⟩
  | .local _ .vmem, ⟨14, _⟩ => ⟨S512x1024, .f32⟩
  | .local _ .vmem, ⟨15, _⟩ => ⟨S512x1024, .f32⟩
  | .local _ .vmem, ⟨16, _⟩ => ⟨S3x512, .f32⟩
  | .local _ .vmem, ⟨17, _⟩ => ⟨S4x128x128, .bf16⟩
  | .local _ .vmem, ⟨18, _⟩ => ⟨S1x512, .f32⟩
  | .local _ .vmem, ⟨19, _⟩ => ⟨S3x512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S512x512, .bf16⟩
  | .local _ .smem, ⟨0, _⟩ => ⟨S8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixerReferenceIdeal.lean ====
abbrev S32768x1024 : Shape := ⟨2, ![32768, 1024]⟩
abbrev S32768x1536 : Shape := ⟨2, ![32768, 1536]⟩
abbrev S32768x256 : Shape := ⟨2, ![32768, 256]⟩
abbrev S32768x3072 : Shape := ⟨2, ![32768, 3072]⟩
abbrev S8 : Shape := ⟨1, ![8]⟩
abbrev S3x512 : Shape := ⟨2, ![3, 512]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S16x2048x1536 : Shape := ⟨3, ![16, 2048, 1536]⟩
abbrev S16x2048x1024 : Shape := ⟨3, ![16, 2048, 1024]⟩
abbrev S16x2048x256 : Shape := ⟨3, ![16, 2048, 256]⟩
abbrev S16x2048x3072 : Shape := ⟨3, ![16, 2048, 3072]⟩
abbrev S16x2048x512 : Shape := ⟨3, ![16, 2048, 512]⟩
abbrev S_ : Shape := ⟨0, ![]⟩
abbrev S16x2050x512 : Shape := ⟨3, ![16, 2050, 512]⟩
abbrev S1x512 : Shape := ⟨2, ![1, 512]⟩
abbrev S1x1x512 : Shape := ⟨3, ![1, 1, 512]⟩
abbrev S16x2048x4x128 : Shape := ⟨4, ![16, 2048, 4, 128]⟩
abbrev S16x2063x4x128 : Shape := ⟨4, ![16, 2063, 4, 128]⟩
abbrev S2048 : Shape := ⟨1, ![2048]⟩
abbrev S16x2048x1x128 : Shape := ⟨4, ![16, 2048, 1, 128]⟩
abbrev S16x2048x128 : Shape := ⟨3, ![16, 2048, 128]⟩
abbrev S1x2048x1 : Shape := ⟨3, ![1, 2048, 1]⟩
abbrev S4x128x16x2048 : Shape := ⟨4, ![4, 128, 16, 2048]⟩
abbrev S16x2048x8x64 : Shape := ⟨4, ![16, 2048, 8, 64]⟩
abbrev S16x2048x2x64 : Shape := ⟨4, ![16, 2048, 2, 64]⟩
abbrev S16x16x128x8x64 : Shape := ⟨5, ![16, 16, 128, 8, 64]⟩
abbrev S16x2176x2x64 : Shape := ⟨4, ![16, 2176, 2, 64]⟩
abbrev S16x16x128x2x64 : Shape := ⟨5, ![16, 16, 128, 2, 64]⟩
abbrev S16x16x256x2x64 : Shape := ⟨5, ![16, 16, 256, 2, 64]⟩
abbrev S16x16x256x2x4x64 : Shape := ⟨6, ![16, 16, 256, 2, 4, 64]⟩
abbrev S16x16x256x8x64 : Shape := ⟨5, ![16, 16, 256, 8, 64]⟩
abbrev S16x16x8x128x256 : Shape := ⟨5, ![16, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x128x256 : Shape := ⟨5, ![1, 16, 1, 128, 256]⟩
abbrev S1x1x8x1x1 : Shape := ⟨5, ![1, 1, 8, 1, 1]⟩
abbrev S16x16x8x128 : Shape := ⟨4, ![16, 16, 8, 128]⟩
abbrev S16x16x8x128x1 : Shape := ⟨5, ![16, 16, 8, 128, 1]⟩
abbrev S16x16x8x64x128 : Shape := ⟨5, ![16, 16, 8, 64, 128]⟩
abbrev S16x2048x1x512 : Shape := ⟨4, ![16, 2048, 1, 512]⟩
abbrev S16x2048x3x512 : Shape := ⟨4, ![16, 2048, 3, 512]⟩
abbrev S3x1024x16x2048 : Shape := ⟨4, ![3, 1024, 16, 2048]⟩
abbrev S16x2048x3x1024 : Shape := ⟨4, ![16, 2048, 3, 1024]⟩

abbrev nBuf : Space → Nat
  | .hbm => 303
  | .vmem => 0
  | .smem => 0
  | _ => 0

abbrev hbmTy0_0 (i : Nat) : BufTy := match i % 128 with
  | 0 => ⟨S32768x1024, .f32⟩
  | 1 => ⟨S32768x1536, .bf16⟩
  | 2 => ⟨S32768x1024, .bf16⟩
  | 3 => ⟨S32768x256, .bf16⟩
  | 4 => ⟨S32768x3072, .bf16⟩
  | 5 => ⟨S8, .f32⟩
  | 6 => ⟨S3x512, .f32⟩
  | 7 => ⟨S4x128x128, .f32⟩
  | 8 => ⟨S512, .f32⟩
  | 9 => ⟨S3x512x1024, .f32⟩
  | 10 => ⟨S1024x1024, .f32⟩
  | 11 => ⟨S32768x1536, .f32⟩
  | 12 => ⟨S16x2048x1536, .f32⟩
  | 13 => ⟨S32768x1024, .f32⟩
  | 14 => ⟨S16x2048x1024, .f32⟩
  | 15 => ⟨S32768x256, .f32⟩
  | 16 => ⟨S16x2048x256, .f32⟩
  | 17 => ⟨S32768x3072, .f32⟩
  | 18 => ⟨S16x2048x3072, .f32⟩
  | 19 => ⟨S16x2048x512, .f32⟩
  | 20 => ⟨S16x2048x512, .f32⟩
  | 21 => ⟨S16x2048x512, .f32⟩
  | 22 => ⟨S16x2048x512, .f32⟩
  | 23 => ⟨S_, .i32⟩
  | 24 => ⟨S_, .f32⟩
  | 25 => ⟨S16x2050x512, .f32⟩
  | 26 => ⟨S1x512, .f32⟩
  | 27 => ⟨S512, .f32⟩
  | 28 => ⟨S16x2048x512, .f32⟩
  | 29 => ⟨S1x1x512, .f32⟩
  | 30 => ⟨S16x2048x512, .f32⟩
  | 31 => ⟨S16x2048x512, .f32⟩
  | 32 => ⟨S1x512, .f32⟩
  | 33 => ⟨S512, .f32⟩
  | 34 => ⟨S16x2048x512, .f32⟩
  | 35 => ⟨S1x1x512, .f32⟩
  | 36 => ⟨S16x2048x512, .f32⟩
  | 37 => ⟨S16x2048x512, .f32⟩
  | 38 => ⟨S16x2048x512, .f32⟩
  | 39 => ⟨S1x512, .f32⟩
  | 40 => ⟨S512, .f32⟩
  | 41 => ⟨S16x2048x512, .f32⟩
  | 42 => ⟨S1x1x512, .f32⟩
  | 43 => ⟨S16x2048x512, .f32⟩
  | 44 => ⟨S16x2048x512, .f32⟩
  | 45 => ⟨S16x2048x512, .f32⟩
  | 46 => ⟨S16x2048x512, .f32⟩
  | 47 => ⟨S16x2048x512, .f32⟩
  | 48 => ⟨S16x2048x4x128, .f32⟩
  | 49 => ⟨S_, .i32⟩
  | 50 => ⟨S_, .f32⟩
  | 51 => ⟨S16x2063x4x128, .f32⟩
  | 52 => ⟨S2048, .i32⟩
  | 53 => ⟨S_, .i32⟩
  | 54 => ⟨S2048, .i32⟩
  | 55 => ⟨S2048, .i32⟩
  | 56 => ⟨S16x2048x1x128, .f32⟩
  | 57 => ⟨S16x2048x128, .f32⟩
  | 58 => ⟨S16x2048x1x128, .f32⟩
  | 59 => ⟨S16x2048x128, .f32⟩
  | 60 => ⟨S16x2048x128, .f32⟩
  | 61 => ⟨S_, .i32⟩
  | 62 => ⟨S2048, .i32⟩
  | 63 => ⟨S2048, .i32⟩
  | 64 => ⟨S2048, .f32⟩
  | 65 => ⟨S1x2048x1, .f32⟩
  | 66 => ⟨S16x2048x128, .f32⟩
  | 67 => ⟨S16x2048x128, .f32⟩
  | 68 => ⟨S16x2048x1x128, .f32⟩
  | 69 => ⟨S16x2048x128, .f32⟩
  | 70 => ⟨S16x2048x128, .f32⟩
  | 71 => ⟨S16x2048x1x128, .f32⟩
  | 72 => ⟨S16x2048x128, .f32⟩
  | 73 => ⟨S16x2048x1x128, .f32⟩
  | 74 => ⟨S16x2048x128, .f32⟩
  | 75 => ⟨S16x2048x128, .f32⟩
  | 76 => ⟨S16x2048x1x128, .f32⟩
  | 77 => ⟨S16x2048x128, .f32⟩
  | 78 => ⟨S16x2048x128, .f32⟩
  | 79 => ⟨S16x2048x1x128, .f32⟩
  | 80 => ⟨S16x2048x128, .f32⟩
  | 81 => ⟨S16x2048x128, .f32⟩
  | 82 => ⟨S_, .i32⟩
  | 83 => ⟨S2048, .i32⟩
  | 84 => ⟨S2048, .i32⟩
  | 85 => ⟨S2048, .f32⟩
  | 86 => ⟨S1x2048x1, .f32⟩
  | 87 => ⟨S16x2048x128, .f32⟩
  | 88 => ⟨S16x2048x128, .f32⟩
  | 89 => ⟨S16x2048x1x128, .f32⟩
  | 90 => ⟨S16x2048x128, .f32⟩
  | 91 => ⟨S16x2048x128, .f32⟩
  | 92 => ⟨S16x2048x1x128, .f32⟩
  | 93 => ⟨S16x2048x128, .f32⟩
  | 94 => ⟨S16x2048x1x128, .f32⟩
  | 95 => ⟨S16x2048x128, .f32⟩
  | 96 => ⟨S16x2048x128, .f32⟩
  | 97 => ⟨S16x2048x1x128, .f32⟩
  | 98 => ⟨S16x2048x128, .f32⟩
  | 99 => ⟨S16x2048x128, .f32⟩
  | 100 => ⟨S16x2048x1x128, .f32⟩
  | 101 => ⟨S16x2048x128, .f32⟩
  | 102 => ⟨S16x2048x128, .f32⟩
  | 103 => ⟨S16x2048x1x128, .f32⟩
  | 104 => ⟨S16x2048x128, .f32⟩
  | 105 => ⟨S16x2048x128, .f32⟩
  | 106 => ⟨S16x2048x1x128, .f32⟩
  | 107 => ⟨S16x2048x128, .f32⟩
  | 108 => ⟨S16x2048x128, .f32⟩
  | 109 => ⟨S16x2048x1x128, .f32⟩
  | 110 => ⟨S16x2048x128, .f32⟩
  | 111 => ⟨S16x2048x128, .f32⟩
  | 112 => ⟨S16x2048x1x128, .f32⟩
  | 113 => ⟨S16x2048x128, .f32⟩
  | 114 => ⟨S16x2048x128, .f32⟩
  | 115 => ⟨S_, .i32⟩
  | 116 => ⟨S2048, .i32⟩
  | 117 => ⟨S2048, .i32⟩
  | 118 => ⟨S2048, .f32⟩
  | 119 => ⟨S1x2048x1, .f32⟩
  | 120 => ⟨S16x2048x128, .f32⟩
  | 121 => ⟨S16x2048x128, .f32⟩
  | 122 => ⟨S16x2048x1x128, .f32⟩
  | 123 => ⟨S16x2048x128, .f32⟩
  | 124 => ⟨S16x2048x128, .f32⟩
  | 125 => ⟨S16x2048x1x128, .f32⟩
  | 126 => ⟨S16x2048x128, .f32⟩
  | 127 => ⟨S16x2048x1x128, .f32⟩
  | _ => ⟨S32768x1024, .f32⟩

abbrev hbmTy0_1 (i : Nat) : BufTy := match i % 128 with
  | 0 => ⟨S16x2048x128, .f32⟩
  | 1 => ⟨S16x2048x128, .f32⟩
  | 2 => ⟨S16x2048x1x128, .f32⟩
  | 3 => ⟨S16x2048x128, .f32⟩
  | 4 => ⟨S16x2048x128, .f32⟩
  | 5 => ⟨S16x2048x1x128, .f32⟩
  | 6 => ⟨S16x2048x128, .f32⟩
  | 7 => ⟨S16x2048x128, .f32⟩
  | 8 => ⟨S16x2048x1x128, .f32⟩
  | 9 => ⟨S16x2048x128, .f32⟩
  | 10 => ⟨S16x2048x128, .f32⟩
  | 11 => ⟨S16x2048x1x128, .f32⟩
  | 12 => ⟨S16x2048x128, .f32⟩
  | 13 => ⟨S16x2048x128, .f32⟩
  | 14 => ⟨S16x2048x1x128, .f32⟩
  | 15 => ⟨S16x2048x128, .f32⟩
  | 16 => ⟨S16x2048x128, .f32⟩
  | 17 => ⟨S16x2048x1x128, .f32⟩
  | 18 => ⟨S16x2048x128, .f32⟩
  | 19 => ⟨S16x2048x128, .f32⟩
  | 20 => ⟨S16x2048x1x128, .f32⟩
  | 21 => ⟨S16x2048x128, .f32⟩
  | 22 => ⟨S16x2048x128, .f32⟩
  | 23 => ⟨S16x2048x1x128, .f32⟩
  | 24 => ⟨S16x2048x128, .f32⟩
  | 25 => ⟨S16x2048x128, .f32⟩
  | 26 => ⟨S16x2048x1x128, .f32⟩
  | 27 => ⟨S16x2048x128, .f32⟩
  | 28 => ⟨S16x2048x128, .f32⟩
  | 29 => ⟨S16x2048x1x128, .f32⟩
  | 30 => ⟨S16x2048x128, .f32⟩
  | 31 => ⟨S16x2048x128, .f32⟩
  | 32 => ⟨S16x2048x1x128, .f32⟩
  | 33 => ⟨S16x2048x128, .f32⟩
  | 34 => ⟨S16x2048x128, .f32⟩
  | 35 => ⟨S16x2048x1x128, .f32⟩
  | 36 => ⟨S16x2048x128, .f32⟩
  | 37 => ⟨S16x2048x128, .f32⟩
  | 38 => ⟨S16x2048x1x128, .f32⟩
  | 39 => ⟨S16x2048x128, .f32⟩
  | 40 => ⟨S16x2048x128, .f32⟩
  | 41 => ⟨S16x2048x1x128, .f32⟩
  | 42 => ⟨S16x2048x128, .f32⟩
  | 43 => ⟨S16x2048x128, .f32⟩
  | 44 => ⟨S_, .i32⟩
  | 45 => ⟨S2048, .i32⟩
  | 46 => ⟨S2048, .i32⟩
  | 47 => ⟨S2048, .f32⟩
  | 48 => ⟨S1x2048x1, .f32⟩
  | 49 => ⟨S16x2048x128, .f32⟩
  | 50 => ⟨S16x2048x128, .f32⟩
  | 51 => ⟨S16x2048x1x128, .f32⟩
  | 52 => ⟨S16x2048x128, .f32⟩
  | 53 => ⟨S16x2048x128, .f32⟩
  | 54 => ⟨S16x2048x1x128, .f32⟩
  | 55 => ⟨S16x2048x1x128, .f32⟩
  | 56 => ⟨S16x2048x1x128, .f32⟩
  | 57 => ⟨S16x2048x1x128, .f32⟩
  | 58 => ⟨S16x2048x4x128, .f32⟩
  | 59 => ⟨S4x128x16x2048, .f32⟩
  | 60 => ⟨S16x2048x4x128, .f32⟩
  | 61 => ⟨S16x2048x512, .f32⟩
  | 62 => ⟨S1x1x512, .f32⟩
  | 63 => ⟨S16x2048x512, .f32⟩
  | 64 => ⟨S16x2048x512, .f32⟩
  | 65 => ⟨S16x2048x512, .f32⟩
  | 66 => ⟨S16x2048x8x64, .f32⟩
  | 67 => ⟨S16x2048x128, .f32⟩
  | 68 => ⟨S16x2048x2x64, .f32⟩
  | 69 => ⟨S16x2048x128, .f32⟩
  | 70 => ⟨S16x2048x2x64, .f32⟩
  | 71 => ⟨S16x16x128x8x64, .f32⟩
  | 72 => ⟨S_, .i32⟩
  | 73 => ⟨S_, .f32⟩
  | 74 => ⟨S16x2176x2x64, .f32⟩
  | 75 => ⟨S16x2048x2x64, .f32⟩
  | 76 => ⟨S16x16x128x2x64, .f32⟩
  | 77 => ⟨S16x16x128x2x64, .f32⟩
  | 78 => ⟨S16x16x256x2x64, .f32⟩
  | 79 => ⟨S16x16x256x2x4x64, .f32⟩
  | 80 => ⟨S16x16x256x8x64, .f32⟩
  | 81 => ⟨S_, .i32⟩
  | 82 => ⟨S_, .f32⟩
  | 83 => ⟨S16x2176x2x64, .f32⟩
  | 84 => ⟨S16x2048x2x64, .f32⟩
  | 85 => ⟨S16x16x128x2x64, .f32⟩
  | 86 => ⟨S16x16x128x2x64, .f32⟩
  | 87 => ⟨S16x16x256x2x64, .f32⟩
  | 88 => ⟨S16x16x256x2x4x64, .f32⟩
  | 89 => ⟨S16x16x256x8x64, .f32⟩
  | 90 => ⟨S16x16x8x128x256, .f32⟩
  | 91 => ⟨S128, .i32⟩
  | 92 => ⟨S128x1, .i32⟩
  | 93 => ⟨S_, .i32⟩
  | 94 => ⟨S128x1, .i32⟩
  | 95 => ⟨S128x1, .i32⟩
  | 96 => ⟨S256, .i32⟩
  | 97 => ⟨S1x256, .i32⟩
  | 98 => ⟨S128x256, .i32⟩
  | 99 => ⟨S128x256, .i32⟩
  | 100 => ⟨S128x256, .i32⟩
  | 101 => ⟨S16, .i32⟩
  | 102 => ⟨S16x1x1, .i32⟩
  | 103 => ⟨S_, .i32⟩
  | 104 => ⟨S128x256, .i32⟩
  | 105 => ⟨S128x256, .i1⟩
  | 106 => ⟨S_, .i32⟩
  | 107 => ⟨S128x256, .i32⟩
  | 108 => ⟨S128x256, .i1⟩
  | 109 => ⟨S128x256, .i1⟩
  | 110 => ⟨S_, .i32⟩
  | 111 => ⟨S16x1x1, .i32⟩
  | 112 => ⟨S16x1x1, .i32⟩
  | 113 => ⟨S_, .i32⟩
  | 114 => ⟨S16x1x1, .i32⟩
  | 115 => ⟨S16x1x1, .i32⟩
  | 116 => ⟨S1x1x256, .i32⟩
  | 117 => ⟨S16x1x256, .i32⟩
  | 118 => ⟨S16x1x256, .i32⟩
  | 119 => ⟨S16x1x256, .i32⟩
  | 120 => ⟨S_, .i32⟩
  | 121 => ⟨S16x1x256, .i32⟩
  | 122 => ⟨S16x1x256, .i1⟩
  | 123 => ⟨S1x128x256, .i1⟩
  | 124 => ⟨S16x128x256, .i1⟩
  | 125 => ⟨S16x128x256, .i1⟩
  | 126 => ⟨S16x128x256, .i1⟩
  | 127 => ⟨S1x16x1x128x256, .i1⟩
  | _ => ⟨S32768x1024, .f32⟩

abbrev hbmTy0_2 (i : Nat) : BufTy := match i % 128 with
  | 0 => ⟨S_, .f32⟩
  | 1 => ⟨S_, .f32⟩
  | 2 => ⟨S16x16x8x128x256, .i1⟩
  | 3 => ⟨S16x16x8x128x256, .f32⟩
  | 4 => ⟨S16x16x8x128x256, .f32⟩
  | 5 => ⟨S1x1x8x1x1, .f32⟩
  | 6 => ⟨S_, .f32⟩
  | 7 => ⟨S16x16x8x128, .f32⟩
  | 8 => ⟨S16x16x8x128x1, .f32⟩
  | 9 => ⟨S16x16x8x128x1, .f32⟩
  | 10 => ⟨S16x16x8x128x1, .f32⟩
  | 11 => ⟨S16x16x8x128x256, .f32⟩
  | 12 => ⟨S16x16x8x128x256, .f32⟩
  | 13 => ⟨S16x16x8x128x256, .f32⟩
  | 14 => ⟨S_, .f32⟩
  | 15 => ⟨S16x16x8x128, .f32⟩
  | 16 => ⟨S16x16x8x128x1, .f32⟩
  | 17 => ⟨S16x16x8x128x1, .f32⟩
  | 18 => ⟨S16x16x8x128x1, .f32⟩
  | 19 => ⟨S16x16x8x128x1, .f32⟩
  | 20 => ⟨S16x16x8x128x1, .f32⟩
  | 21 => ⟨S16x16x8x128x256, .f32⟩
  | 22 => ⟨S16x16x8x128x256, .f32⟩
  | 23 => ⟨S16x16x8x64x128, .f32⟩
  | 24 => ⟨S16x16x128x8x64, .f32⟩
  | 25 => ⟨S16x2048x512, .f32⟩
  | 26 => ⟨S16x2048x1x512, .f32⟩
  | 27 => ⟨S16x2048x1x512, .f32⟩
  | 28 => ⟨S16x2048x1x512, .f32⟩
  | 29 => ⟨S16x2048x3x512, .f32⟩
  | 30 => ⟨S3x1024x16x2048, .f32⟩
  | 31 => ⟨S16x2048x3x1024, .f32⟩
  | 32 => ⟨S16x2048x3x1024, .f32⟩
  | 33 => ⟨S16x2048x3x1024, .f32⟩
  | 34 => ⟨S16x2048x3x1024, .f32⟩
  | 35 => ⟨S_, .f32⟩
  | 36 => ⟨S16x2048x3x1024, .f32⟩
  | 37 => ⟨S16x2048x3x1024, .f32⟩
  | 38 => ⟨S_, .f32⟩
  | 39 => ⟨S16x2048x3x1024, .f32⟩
  | 40 => ⟨S16x2048x3x1024, .f32⟩
  | 41 => ⟨S16x2048x3x1024, .f32⟩
  | 42 => ⟨S_, .f32⟩
  | 43 => ⟨S16x2048x1024, .f32⟩
  | 44 => ⟨S16x2048x1024, .f32⟩
  | 45 => ⟨S32768x1024, .f32⟩
  | 46 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_0 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_3 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_c_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_c_5 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_c_6 : Ref sig .tc := ⟨.hbm, 200, rfl⟩
abbrev main_call2_v0 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_c_7 : Ref sig .tc := ⟨.hbm, 209, rfl⟩
abbrev main_call3_v0 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_c_8 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_c_9 : Ref sig .tc := ⟨.hbm, 231, rfl⟩
abbrev main_v206 : Ref sig .tc := ⟨.hbm, 232, rfl⟩
abbrev main_v207 : Ref sig .tc := ⟨.hbm, 233, rfl⟩
abbrev main_c_10 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_c_11 : Ref sig .tc := ⟨.hbm, 238, rfl⟩
abbrev main_v211 : Ref sig .tc := ⟨.hbm, 239, rfl⟩
abbrev main_v212 : Ref sig .tc := ⟨.hbm, 240, rfl⟩
abbrev main_c_12 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_c_13 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_cst : Ref sig .tc := ⟨.hbm, 256, rfl⟩
abbrev main_call4_v0 : Ref sig .tc := ⟨.hbm, 257, rfl⟩
abbrev main_call4_v1 : Ref sig .tc := ⟨.hbm, 258, rfl⟩
abbrev main_call4_v2 : Ref sig .tc := ⟨.hbm, 259, rfl⟩
abbrev main_v226 : Ref sig .tc := ⟨.hbm, 260, rfl⟩
abbrev main_v227 : Ref sig .tc := ⟨.hbm, 261, rfl⟩
abbrev main_cst_14 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_cst_15 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_16 : Ref sig .tc := ⟨.hbm, 291, rfl⟩
abbrev main_v255 : Ref sig .tc := ⟨.hbm, 292, rfl⟩
abbrev main_v256 : Ref sig .tc := ⟨.hbm, 293, rfl⟩
abbrev main_cst_17 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_cst_18 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩

abbrev nD : Nat := 1
abbrev τ : Topo := Topo.v7x

variable {F : FTy → Type} [FloatOps F]
-- ==== Moe.lean ====
abbrev S32768x1024 : Shape := ⟨2, ![32768, 1024]⟩
abbrev S1024 : Shape := ⟨1, ![1024]⟩
abbrev S32768x128 : Shape := ⟨2, ![32768, 128]⟩
abbrev S8x1024x3584 : Shape := ⟨3, ![8, 1024, 3584]⟩
abbrev S8x1792x1024 : Shape := ⟨3, ![8, 1792, 1024]⟩
abbrev S1x1024 : Shape := ⟨2, ![1, 1024]⟩
abbrev S1024x1024 : Shape := ⟨2, ![1024, 1024]⟩
abbrev S1024x128 : Shape := ⟨2, ![1024, 128]⟩
abbrev S1x1024x896 : Shape := ⟨3, ![1, 1024, 896]⟩
abbrev S1x896x1024 : Shape := ⟨3, ![1, 896, 1024]⟩
abbrev S1024x1 : Shape := ⟨2, ![1024, 1]⟩
abbrev S1024x896 : Shape := ⟨2, ![1024, 896]⟩
abbrev S896x1024 : Shape := ⟨2, ![896, 1024]⟩

abbrev nBuf : Space → Nat
  | .hbm => 9
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x128, .f32⟩
  | .hbm, ⟨3, _⟩ => ⟨S8x1024x3584, .f32⟩
  | .hbm, ⟨4, _⟩ => ⟨S8x1792x1024, .f32⟩
  | .hbm, ⟨5, _⟩ => ⟨S1x1024, .f32⟩
  | .hbm, ⟨6, _⟩ => ⟨S8x1024x3584, .bf16⟩
  | .hbm, ⟨7, _⟩ => ⟨S8x1792x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1x1024x896, .bf16⟩
  | .local _ .vmem, ⟨6, _⟩ => ⟨S1x1024x896, .bf16⟩
  | .local _ .vmem, ⟨7, _⟩ => ⟨S1x1024x896, .bf16⟩
  | .local _ .vmem, ⟨8, _⟩ => ⟨S1x1024x896, .bf16⟩
  | .local _ .vmem, ⟨9, _⟩ => ⟨S1x896x1024, .bf16⟩
  | .local _ .vmem, ⟨10, _⟩ => ⟨S1x896x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c1_i32 : BitVec 32 := 1#32
  let v41 : BitVec 1 := Scalar.cmpi .eq arg2 c1_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x896x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MoeReferenceIdeal.lean ====
abbrev S32768x1024 : Shape := ⟨2, ![32768, 1024]⟩
abbrev S1024 : Shape := ⟨1, ![1024]⟩
abbrev S32768x128 : Shape := ⟨2, ![32768, 128]⟩
abbrev S8x1024x3584 : Shape := ⟨3, ![8, 1024, 3584]⟩
abbrev S8x1792x1024 : Shape := ⟨3, ![8, 1792, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x3584 : Shape := ⟨3, ![1, 1024, 3584]⟩
abbrev S1024x3584 : Shape := ⟨2, ![1024, 3584]⟩
abbrev S1x1792x1024 : Shape := ⟨3, ![1, 1792, 1024]⟩
abbrev S1792x1024 : Shape := ⟨2, ![1792, 1024]⟩
abbrev S32768x3584 : Shape := ⟨2, ![32768, 3584]⟩
abbrev S32768x1792 : Shape := ⟨2, ![32768, 1792]⟩

abbrev nBuf : Space → Nat
  | .hbm => 200
  | .vmem => 0
  | .smem => 0
  | _ => 0

abbrev hbmTy0_0 (i : Nat) : BufTy := match i % 128 with
  | 0 => ⟨S32768x1024, .f32⟩
  | 1 => ⟨S1024, .f32⟩
  | 2 => ⟨S32768x128, .f32⟩
  | 3 => ⟨S8x1024x3584, .f32⟩
  | 4 => ⟨S8x1792x1024, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S_, .f32⟩
  | 22 => ⟨S32768x1024, .f32⟩
  | 23 => ⟨S32768x1, .f32⟩
  | 24 => ⟨S1x1024x3584, .f32⟩
  | 25 => ⟨S1024x3584, .f32⟩
  | 26 => ⟨S1x1792x1024, .f32⟩
  | 27 => ⟨S1792x1024, .f32⟩
  | 28 => ⟨S32768x3584, .f32⟩
  | 29 => ⟨S32768x1792, .f32⟩
  | 30 => ⟨S32768x1792, .f32⟩
  | 31 => ⟨S32768x1792, .f32⟩
  | 32 => ⟨S_, .f32⟩
  | 33 => ⟨S32768x1792, .f32⟩
  | 34 => ⟨S32768x1792, .f32⟩
  | 35 => ⟨S_, .f32⟩
  | 36 => ⟨S32768x1792, .f32⟩
  | 37 => ⟨S32768x1792, .f32⟩
  | 38 => ⟨S32768x1792, .f32⟩
  | 39 => ⟨S32768x1792, .f32⟩
  | 40 => ⟨S32768x1792, .f32⟩
  | 41 => ⟨S32768x1024, .f32⟩
  | 42 => ⟨S32768x1024, .f32⟩
  | 43 => ⟨S32768x1024, .f32⟩
  | 44 => ⟨S32768x1024, .f32⟩
  | 45 => ⟨S32768x1, .f32⟩
  | 46 => ⟨S1x1024x3584, .f32⟩
  | 47 => ⟨S1024x3584, .f32⟩
  | 48 => ⟨S1x1792x1024, .f32⟩
  | 49 => ⟨S1792x1024, .f32⟩
  | 50 => ⟨S32768x3584, .f32⟩
  | 51 => ⟨S32768x1792, .f32⟩
  | 52 => ⟨S32768x1792, .f32⟩
  | 53 => ⟨S32768x1792, .f32⟩
  | 54 => ⟨S_, .f32⟩
  | 55 => ⟨S32768x1792, .f32⟩
  | 56 => ⟨S32768x1792, .f32⟩
  | 57 => ⟨S_, .f32⟩
  | 58 => ⟨S32768x1792, .f32⟩
  | 59 => ⟨S32768x1792, .f32⟩
  | 60 => ⟨S32768x1792, .f32⟩
  | 61 => ⟨S32768x1792, .f32⟩
  | 62 => ⟨S32768x1792, .f32⟩
  | 63 => ⟨S32768x1024, .f32⟩
  | 64 => ⟨S32768x1024, .f32⟩
  | 65 => ⟨S32768x1024, .f32⟩
  | 66 => ⟨S32768x1024, .f32⟩
  | 67 => ⟨S32768x1, .f32⟩
  | 68 => ⟨S1x1024x3584, .f32⟩
  | 69 => ⟨S1024x3584, .f32⟩
  | 70 => ⟨S1x1792x1024, .f32⟩
  | 71 => ⟨S1792x1024, .f32⟩
  | 72 => ⟨S32768x3584, .f32⟩
  | 73 => ⟨S32768x1792, .f32⟩
  | 74 => ⟨S32768x1792, .f32⟩
  | 75 => ⟨S32768x1792, .f32⟩
  | 76 => ⟨S_, .f32⟩
  | 77 => ⟨S32768x1792, .f32⟩
  | 78 => ⟨S32768x1792, .f32⟩
  | 79 => ⟨S_, .f32⟩
  | 80 => ⟨S32768x1792, .f32⟩
  | 81 => ⟨S32768x1792, .f32⟩
  | 82 => ⟨S32768x1792, .f32⟩
  | 83 => ⟨S32768x1792, .f32⟩
  | 84 => ⟨S32768x1792, .f32⟩
  | 85 => ⟨S32768x1024, .f32⟩
  | 86 => ⟨S32768x1024, .f32⟩
  | 87 => ⟨S32768x1024, .f32⟩
  | 88 => ⟨S32768x1024, .f32⟩
  | 89 => ⟨S32768x1, .f32⟩
  | 90 => ⟨S1x1024x3584, .f32⟩
  | 91 => ⟨S1024x3584, .f32⟩
  | 92 => ⟨S1x1792x1024, .f32⟩
  | 93 => ⟨S1792x1024, .f32⟩
  | 94 => ⟨S32768x3584, .f32⟩
  | 95 => ⟨S32768x1792, .f32⟩
  | 96 => ⟨S32768x1792, .f32⟩
  | 97 => ⟨S32768x1792, .f32⟩
  | 98 => ⟨S_, .f32⟩
  | 99 => ⟨S32768x1792, .f32⟩
  | 100 => ⟨S32768x1792, .f32⟩
  | 101 => ⟨S_, .f32⟩
  | 102 => ⟨S32768x1792, .f32⟩
  | 103 => ⟨S32768x1792, .f32⟩
  | 104 => ⟨S32768x1792, .f32⟩
  | 105 => ⟨S32768x1792, .f32⟩
  | 106 => ⟨S32768x1792, .f32⟩
  | 107 => ⟨S32768x1024, .f32⟩
  | 108 => ⟨S32768x1024, .f32⟩
  | 109 => ⟨S32768x1024, .f32⟩
  | 110 => ⟨S32768x1024, .f32⟩
  | 111 => ⟨S32768x1, .f32⟩
  | 112 => ⟨S1x1024x3584, .f32⟩
  | 113 => ⟨S1024x3584, .f32⟩
  | 114 => ⟨S1x1792x1024, .f32⟩
  | 115 => ⟨S1792x1024, .f32⟩
  | 116 => ⟨S32768x3584, .f32⟩
  | 117 => ⟨S32768x1792, .f32⟩
  | 118 => ⟨S32768x1792, .f32⟩
  | 119 => ⟨S32768x1792, .f32⟩
  | 120 => ⟨S_, .f32⟩
  | 121 => ⟨S32768x1792, .f32⟩
  | 122 => ⟨S32768x1792, .f32⟩
  | 123 => ⟨S_, .f32⟩
  | 124 => ⟨S32768x1792, .f32⟩
  | 125 => ⟨S32768x1792, .f32⟩
  | 126 => ⟨S32768x1792, .f32⟩
  | 127 => ⟨S32768x1792, .f32⟩
  | _ => ⟨S32768x1024, .f32⟩

abbrev hbmTy0_1 (i : Nat) : BufTy := match i % 128 with
  | 0 => ⟨S32768x1792, .f32⟩
  | 1 => ⟨S32768x1024, .f32⟩
  | 2 => ⟨S32768x1024, .f32⟩
  | 3 => ⟨S32768x1024, .f32⟩
  | 4 => ⟨S32768x1024, .f32⟩
  | 5 => ⟨S32768x1, .f32⟩
  | 6 => ⟨S1x1024x3584, .f32⟩
  | 7 => ⟨S1024x3584, .f32⟩
  | 8 => ⟨S1x1792x1024, .f32⟩
  | 9 => ⟨S1792x1024, .f32⟩
  | 10 => ⟨S32768x3584, .f32⟩
  | 11 => ⟨S32768x1792, .f32⟩
  | 12 => ⟨S32768x1792, .f32⟩
  | 13 => ⟨S32768x1792, .f32⟩
  | 14 => ⟨S_, .f32⟩
  | 15 => ⟨S32768x1792, .f32⟩
  | 16 => ⟨S32768x1792, .f32⟩
  | 17 => ⟨S_, .f32⟩
  | 18 => ⟨S32768x1792, .f32⟩
  | 19 => ⟨S32768x1792, .f32⟩
  | 20 => ⟨S32768x1792, .f32⟩
  | 21 => ⟨S32768x1792, .f32⟩
  | 22 => ⟨S32768x1792, .f32⟩
  | 23 => ⟨S32768x1024, .f32⟩
  | 24 => ⟨S32768x1024, .f32⟩
  | 25 => ⟨S32768x1024, .f32⟩
  | 26 => ⟨S32768x1024, .f32⟩
  | 27 => ⟨S32768x1, .f32⟩
  | 28 => ⟨S1x1024x3584, .f32⟩
  | 29 => ⟨S1024x3584, .f32⟩
  | 30 => ⟨S1x1792x1024, .f32⟩
  | 31 => ⟨S1792x1024, .f32⟩
  | 32 => ⟨S32768x3584, .f32⟩
  | 33 => ⟨S32768x1792, .f32⟩
  | 34 => ⟨S32768x1792, .f32⟩
  | 35 => ⟨S32768x1792, .f32⟩
  | 36 => ⟨S_, .f32⟩
  | 37 => ⟨S32768x1792, .f32⟩
  | 38 => ⟨S32768x1792, .f32⟩
  | 39 => ⟨S_, .f32⟩
  | 40 => ⟨S32768x1792, .f32⟩
  | 41 => ⟨S32768x1792, .f32⟩
  | 42 => ⟨S32768x1792, .f32⟩
  | 43 => ⟨S32768x1792, .f32⟩
  | 44 => ⟨S32768x1792, .f32⟩
  | 45 => ⟨S32768x1024, .f32⟩
  | 46 => ⟨S32768x1024, .f32⟩
  | 47 => ⟨S32768x1024, .f32⟩
  | 48 => ⟨S32768x1024, .f32⟩
  | 49 => ⟨S32768x1, .f32⟩
  | 50 => ⟨S1x1024x3584, .f32⟩
  | 51 => ⟨S1024x3584, .f32⟩
  | 52 => ⟨S1x1792x1024, .f32⟩
  | 53 => ⟨S1792x1024, .f32⟩
  | 54 => ⟨S32768x3584, .f32⟩
  | 55 => ⟨S32768x1792, .f32⟩
  | 56 => ⟨S32768x1792, .f32⟩
  | 57 => ⟨S32768x1792, .f32⟩
  | 58 => ⟨S_, .f32⟩
  | 59 => ⟨S32768x1792, .f32⟩
  | 60 => ⟨S32768x1792, .f32⟩
  | 61 => ⟨S_, .f32⟩
  | 62 => ⟨S32768x1792, .f32⟩
  | 63 => ⟨S32768x1792, .f32⟩
  | 64 => ⟨S32768x1792, .f32⟩
  | 65 => ⟨S32768x1792, .f32⟩
  | 66 => ⟨S32768x1792, .f32⟩
  | 67 => ⟨S32768x1024, .f32⟩
  | 68 => ⟨S32768x1024, .f32⟩
  | 69 => ⟨S32768x1024, .f32⟩
  | 70 => ⟨S32768x1024, .f32⟩
  | 71 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call4_v0 : Ref sig .tc := ⟨.hbm, 118, rfl⟩
abbrev main_call4_v1 : Ref sig .tc := ⟨.hbm, 119, rfl⟩
abbrev main_call4_cst : Ref sig .tc := ⟨.hbm, 120, rfl⟩
abbrev main_call4_v2 : Ref sig .tc := ⟨.hbm, 121, rfl⟩
abbrev main_call4_v3 : Ref sig .tc := ⟨.hbm, 122, rfl⟩
abbrev main_call4_cst_0 : Ref sig .tc := ⟨.hbm, 123, rfl⟩
abbrev main_call4_v4 : Ref sig .tc := ⟨.hbm, 124, rfl⟩
abbrev main_call4_v5 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_call5_v5 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call6_v0 : Ref sig .tc := ⟨.hbm, 162, rfl⟩
abbrev main_call6_v1 : Ref sig .tc := ⟨.hbm, 163, rfl⟩
abbrev main_call6_cst : Ref sig .tc := ⟨.hbm, 164, rfl⟩
abbrev main_call6_v2 : Ref sig .tc := ⟨.hbm, 165, rfl⟩
abbrev main_call6_v3 : Ref sig .tc := ⟨.hbm, 166, rfl⟩
abbrev main_call6_cst_0 : Ref sig .tc := ⟨.hbm, 167, rfl⟩
abbrev main_call6_v4 : Ref sig .tc := ⟨.hbm, 168, rfl⟩
abbrev main_call6_v5 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_call7_v0 : Ref sig .tc := ⟨.hbm, 184, rfl⟩
abbrev main_call7_v1 : Ref sig .tc := ⟨.hbm, 185, rfl⟩
abbrev main_call7_cst : Ref sig .tc := ⟨.hbm, 186, rfl⟩
abbrev main_call7_v2 : Ref sig .tc := ⟨.hbm, 187, rfl⟩
abbrev main_call7_v3 : Ref sig .tc := ⟨.hbm, 188, rfl⟩
abbrev main_call7_cst_0 : Ref sig .tc := ⟨.hbm, 189, rfl⟩
abbrev main_call7_v4 : Ref sig .tc := ⟨.hbm, 190, rfl⟩
abbrev main_call7_v5 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x7168 : Shape := ⟨2, ![1024, 7168]⟩
abbrev S3584x1024 : Shape := ⟨2, ![3584, 1024]⟩
abbrev S_ : Shape := ⟨0, ![]⟩
abbrev S32768x128 : Shape := ⟨2, ![32768, 128]⟩
abbrev S1x1024x7168 : Shape := ⟨3, ![1, 1024, 7168]⟩
abbrev S1x3584x1024 : Shape := ⟨3, ![1, 3584, 1024]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S3584x1024, .f32⟩
  | .hbm, ⟨4, _⟩ => ⟨S_, .f32⟩
  | .hbm, ⟨5, _⟩ => ⟨S32768x128, .f32⟩
  | .hbm, ⟨6, _⟩ => ⟨S1x1024x7168, .f32⟩
  | .hbm, ⟨7, _⟩ => ⟨S1x1024x7168, .bf16⟩
  | .hbm, ⟨8, _⟩ => ⟨S1x3584x1024, .f32⟩
  | .hbm, ⟨9, _⟩ => ⟨S1x3584x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 1, 7], ![false, false, false]⟩

def k0_cond2 (i : grid0.Coords) : BitVec 1 :=
  let arg1 : BitVec 32 := BitVec.ofNat 32 (i 1).val
  let c0_i32_25 : BitVec 32 := 0#32
  let v41 : BitVec 1 := Scalar.cmpi .eq arg1 c0_i32_25
  let arg2 : BitVec 32 := BitVec.ofNat 32 (i 2).val
  let c6_i32 : BitVec 32 := 6#32
  let v42 : BitVec 1 := Scalar.cmpi .eq arg2 c6_i32
  let v43 : BitVec 1 := Scalar.andi v41 v42
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg2 c7_i32
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== FfnReferenceIdeal.lean ====
abbrev S32768x1024 : Shape := ⟨2, ![32768, 1024]⟩
abbrev S1024 : Shape := ⟨1, ![1024]⟩
abbrev S1024x7168 : Shape := ⟨2, ![1024, 7168]⟩
abbrev S3584x1024 : Shape := ⟨2, ![3584, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7168 : Shape := ⟨2, ![32768, 7168]⟩
abbrev S32768x3584 : Shape := ⟨2, ![32768, 3584]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S3584x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x7168, .f32⟩
  | .hbm, ⟨21, _⟩ => ⟨S32768x3584, .f32⟩
  | .hbm, ⟨22, _⟩ => ⟨S32768x3584, .f32⟩
  | .hbm, ⟨23, _⟩ => ⟨S32768x3584, .f32⟩
  | .hbm, ⟨24, _⟩ => ⟨S_, .f32⟩
  | .hbm, ⟨25, _⟩ => ⟨S32768x3584, .f32⟩
  | .hbm, ⟨26, _⟩ => ⟨S32768x3584, .f32⟩
  | .hbm, ⟨27, _⟩ => ⟨S_, .f32⟩
  | .hbm, ⟨28, _⟩ => ⟨S32768x3584, .f32⟩
  | .hbm, ⟨29, _⟩ => ⟨S32768x3584, .f32⟩
  | .hbm, ⟨30, _⟩ => ⟨S32768x3584, .f32⟩
  | .hbm, ⟨31, _⟩ => ⟨S32768x3584, .f32⟩
  | .hbm, ⟨32, _⟩ => ⟨S32768x3584, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== InProj.lean ====
abbrev S32768x1024 : Shape := ⟨2, ![32768, 1024]⟩
abbrev S1024 : Shape := ⟨1, ![1024]⟩
abbrev S32768x128 : Shape := ⟨2, ![32768, 128]⟩
abbrev S1024x5888 : Shape := ⟨2, ![1024, 5888]⟩
abbrev S1x1024 : Shape := ⟨2, ![1, 1024]⟩
abbrev S32768x1536 : Shape := ⟨2, ![32768, 1536]⟩
abbrev S32768x256 : Shape := ⟨2, ![32768, 256]⟩
abbrev S32768x3072 : Shape := ⟨2, ![32768, 3072]⟩
abbrev S512x1024 : Shape := ⟨2, ![512, 1024]⟩
abbrev S512x128 : Shape := ⟨2, ![512, 128]⟩
abbrev S512x1536 : Shape := ⟨2, ![512, 1536]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x128, .f32⟩
  | .hbm, ⟨3, _⟩ => ⟨S32768x128, .f32⟩
  | .hbm, ⟨4, _⟩ => ⟨S1024x5888, .f32⟩
  | .hbm, ⟨5, _⟩ => ⟨S1x1024, .f32⟩
  | .hbm, ⟨6, _⟩ => ⟨S1024x5888, .bf16⟩
  | .hbm, ⟨7, _⟩ => ⟨S32768x1536, .bf16⟩
  | .hbm, ⟨8, _⟩ => ⟨S32768x1024, .bf16⟩
  | .hbm, ⟨9, _⟩ => ⟨S32768x256, .bf16⟩
  | .hbm, ⟨10, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x5888, .bf16⟩
  | .local _ .vmem, ⟨8, _⟩ => ⟨S512x1536, .bf16⟩
  | .local _ .vmem, ⟨9, _⟩ => ⟨S512x1536, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x3072, .bf16⟩
  | .local _ .vmem, ⟨15, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5888 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjReferenceIdeal.lean ====
abbrev S32768x1024 : Shape := ⟨2, ![32768, 1024]⟩
abbrev S1024 : Shape := ⟨1, ![1024]⟩
abbrev S32768x128 : Shape := ⟨2, ![32768, 128]⟩
abbrev S1024x5888 : Shape := ⟨2, ![1024, 5888]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5888 : Shape := ⟨2, ![32768, 5888]⟩
abbrev S32768x1536 : Shape := ⟨2, ![32768, 1536]⟩
abbrev S32768x512 : Shape := ⟨2, ![32768, 512]⟩
abbrev S32768x3072 : Shape := ⟨2, ![32768, 3072]⟩
abbrev S32768x8x64 : Shape := ⟨3, ![32768, 8, 64]⟩
abbrev S32768x8x32 : Shape := ⟨3, ![32768, 8, 32]⟩
abbrev S32768x2x64 : Shape := ⟨3, ![32768, 2, 64]⟩
abbrev S1x32768x1x2x1x64 : Shape := ⟨6, ![1, 32768, 1, 2, 1, 64]⟩
abbrev S1x32768x4x2x1x64 : Shape := ⟨6, ![1, 32768, 4, 2, 1, 64]⟩
abbrev S32768x2x32 : Shape := ⟨3, ![32768, 2, 32]⟩
abbrev S32768x256 : Shape := ⟨2, ![32768, 256]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x128, .f32⟩
  | .hbm, ⟨3, _⟩ => ⟨S32768x128, .f32⟩
  | .hbm, ⟨4, _⟩ => ⟨S1024x5888, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5888, .f32⟩
  | .hbm, ⟨22, _⟩ => ⟨S32768x1536, .f32⟩
  | .hbm, ⟨23, _⟩ => ⟨S32768x512, .f32⟩
  | .hbm, ⟨24, _⟩ => ⟨S32768x512, .f32⟩
  | .hbm, ⟨25, _⟩ => ⟨S32768x128, .f32⟩
  | .hbm, ⟨26, _⟩ => ⟨S32768x128, .f32⟩
  | .hbm, ⟨27, _⟩ => ⟨S32768x3072, .f32⟩
  | .hbm, ⟨28, _⟩ => ⟨S32768x8x64, .f32⟩
  | .hbm, ⟨29, _⟩ => ⟨S32768x8x32, .f32⟩
  | .hbm, ⟨30, _⟩ => ⟨S32768x8x32, .f32⟩
  | .hbm, ⟨31, _⟩ => ⟨S32768x8x64, .f32⟩
  | .hbm, ⟨32, _⟩ => ⟨S32768x2x64, .f32⟩
  | .hbm, ⟨33, _⟩ => ⟨S1x32768x1x2x1x64, .f32⟩
  | .hbm, ⟨34, _⟩ => ⟨S1x32768x4x2x1x64, .f32⟩
  | .hbm, ⟨35, _⟩ => ⟨S32768x8x64, .f32⟩
  | .hbm, ⟨36, _⟩ => ⟨S32768x8x64, .f32⟩
  | .hbm, ⟨37, _⟩ => ⟨S32768x2x64, .f32⟩
  | .hbm, ⟨38, _⟩ => ⟨S1x32768x1x2x1x64, .f32⟩
  | .hbm, ⟨39, _⟩ => ⟨S1x32768x4x2x1x64, .f32⟩
  | .hbm, ⟨40, _⟩ => ⟨S32768x8x64, .f32⟩
  | .hbm, ⟨41, _⟩ => ⟨S32768x8x64, .f32⟩
  | .hbm, ⟨42, _⟩ => ⟨S32768x8x64, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S32768x2x64, .f32⟩
  | .hbm, ⟨48, _⟩ => ⟨S32768x2x32, .f32⟩
  | .hbm, ⟨49, _⟩ => ⟨S32768x2x32, .f32⟩
  | .hbm, ⟨50, _⟩ => ⟨S32768x2x64, .f32⟩
  | .hbm, ⟨51, _⟩ => ⟨S32768x2x64, .f32⟩
  | .hbm, ⟨52, _⟩ => ⟨S1x32768x1x2x1x64, .f32⟩
  | .hbm, ⟨53, _⟩ => ⟨S1x32768x1x2x1x64, .f32⟩
  | .hbm, ⟨54, _⟩ => ⟨S32768x2x64, .f32⟩
  | .hbm, ⟨55, _⟩ => ⟨S32768x2x64, .f32⟩
  | .hbm, ⟨56, _⟩ => ⟨S32768x2x64, .f32⟩
  | .hbm, ⟨57, _⟩ => ⟨S1x32768x1x2x1x64, .f32⟩
  | .hbm, ⟨58, _⟩ => ⟨S1x32768x1x2x1x64, .f32⟩
  | .hbm, ⟨59, _⟩ => ⟨S32768x2x64, .f32⟩
  | .hbm, ⟨60, _⟩ => ⟨S32768x2x64, .f32⟩
  | .hbm, ⟨61, _⟩ => ⟨S32768x2x64, .f32⟩
  | .hbm, ⟨62, _⟩ => ⟨S32768x128, .f32⟩
  | .hbm, ⟨63, _⟩ => ⟨S32768x1536, .bf16⟩
  | .hbm, ⟨64, _⟩ => ⟨S32768x1024, .f32⟩
  | .hbm, ⟨65, _⟩ => ⟨S32768x1024, .bf16⟩
  | .hbm, ⟨66, _⟩ => ⟨S32768x256, .f32⟩
  | .hbm, ⟨67, _⟩ => ⟨S32768x256, .bf16⟩
  | .hbm, ⟨68, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩

abbrev nD : Nat := 1
abbrev τ : Topo := Topo.v7x

variable {F : FTy → Type} [FloatOps F]
-- ==== Ple.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Last.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastReferenceIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouterReferenceIdeal.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S8 : Shape := ⟨1, ![8]⟩
abbrev S1x8 : Shape := ⟨2, ![1, 8]⟩
abbrev S32768x128 : Shape := ⟨2, ![32768, 128]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8, .f32⟩
  | .hbm, ⟨20, _⟩ => ⟨S8, .i32⟩
  | .hbm, ⟨21, _⟩ => ⟨S1x8, .i32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x8, .f32⟩
  | .hbm, ⟨26, _⟩ => ⟨S32768x8, .i1⟩
  | .hbm, ⟨27, _⟩ => ⟨S_, .i32⟩
  | .hbm, ⟨28, _⟩ => ⟨S_, .i32⟩
  | .hbm, ⟨29, _⟩ => ⟨S32768x8, .i32⟩
  | .hbm, ⟨30, _⟩ => ⟨S32768x8, .i32⟩
  | .hbm, ⟨31, _⟩ => ⟨S32768x8, .i32⟩
  | .hbm, ⟨32, _⟩ => ⟨S_, .i32⟩
  | .hbm, ⟨33, _⟩ => ⟨S32768, .i32⟩
  | .hbm, ⟨34, _⟩ => ⟨S32768x1, .i32⟩
  | .hbm, ⟨35, _⟩ => ⟨S32768x8, .i32⟩
  | .hbm, ⟨36, _⟩ => ⟨S32768x8, .i32⟩
  | .hbm, ⟨37, _⟩ => ⟨S32768x8, .i1⟩
  | .hbm, ⟨38, _⟩ => ⟨S_, .f32⟩
  | .hbm, ⟨39, _⟩ => ⟨S_, .f32⟩
  | .hbm, ⟨40, _⟩ => ⟨S32768x8, .f32⟩
  | .hbm, ⟨41, _⟩ => ⟨S32768x8, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S32768x8, .f32⟩
  | .hbm, ⟨46, _⟩ => ⟨S32768x8, .i1⟩
  | .hbm, ⟨47, _⟩ => ⟨S_, .i32⟩
  | .hbm, ⟨48, _⟩ => ⟨S_, .i32⟩
  | .hbm, ⟨49, _⟩ => ⟨S32768x8, .i32⟩
  | .hbm, ⟨50, _⟩ => ⟨S32768x8, .i32⟩
  | .hbm, ⟨51, _⟩ => ⟨S32768x8, .i32⟩
  | .hbm, ⟨52, _⟩ => ⟨S_, .i32⟩
  | .hbm, ⟨53, _⟩ => ⟨S32768, .i32⟩
  | .hbm, ⟨54, _⟩ => ⟨S32768x1, .i32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x8, .i32⟩
  | .hbm, ⟨60, _⟩ => ⟨S32768x8, .i32⟩
  | .hbm, ⟨61, _⟩ => ⟨S32768x8, .i1⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S_, .f32⟩
  | .hbm, ⟨66, _⟩ => ⟨S32768x8, .f32⟩
  | .hbm, ⟨67, _⟩ => ⟨S32768x8, .f32⟩
  | .hbm, ⟨68, _⟩ => ⟨S32768x8, .f32⟩
  | .hbm, ⟨69, _⟩ => ⟨S32768x8, .i32⟩
  | .hbm, ⟨70, _⟩ => ⟨S32768x8, .i32⟩
  | .hbm, ⟨71, _⟩ => ⟨S32768x8, .i1⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S_, .f32⟩
  | .hbm, ⟨76, _⟩ => ⟨S32768x8, .f32⟩
  | .hbm, ⟨77, _⟩ => ⟨S32768x8, .f32⟩
  | .hbm, ⟨78, _⟩ => ⟨S32768x8, .f32⟩
  | .hbm, ⟨79, _⟩ => ⟨S32768x8, .f32⟩
  | .hbm, ⟨80, _⟩ => ⟨S_, .i32⟩
  | .hbm, ⟨81, _⟩ => ⟨S_, .f32⟩
  | .hbm, ⟨82, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_call5_v0 : Ref sig .tc := ⟨.hbm, 81, rfl⟩
abbrev main_v51 : Ref sig .tc := ⟨.hbm, 82, rfl⟩

abbrev nD : Nat := 1
abbrev τ : Topo := Topo.v7x

variable {F : FTy → Type} [FloatOps F]
-- ==== Tables.lean ====
abbrev S16x2048 : Shape := ⟨2, ![16, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S32768x1 : Shape := ⟨2, ![32768, 1]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 28
  | .vmem => 8
  | .smem => 0
  | _ => 0

abbrev bufTy : (tb : Table) → Fin (tcTables nBuf tb) → BufTy
  | .hbm, ⟨0, _⟩ => ⟨S16x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S4x32, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S64, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S32768x1, .i32⟩
  | .hbm, ⟨26, _⟩ => ⟨S32768x128, .f32⟩
  | .hbm, ⟨27, _⟩ => ⟨S32768x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TablesReferenceIdeal.lean ====
abbrev S16x2048 : Shape := ⟨2, ![16, 2048]⟩
abbrev S32 : Shape := ⟨1, ![32]⟩
abbrev S_ : Shape := ⟨0, ![]⟩
abbrev S32768x1 : Shape := ⟨2, ![32768, 1]⟩
abbrev S1x32 : Shape := ⟨2, ![1, 32]⟩
abbrev S32768x32 : Shape := ⟨2, ![32768, 32]⟩
abbrev S32768x128 : Shape := ⟨2, ![32768, 128]⟩

abbrev nBuf : Space → Nat
  | .hbm => 23
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32768x1, .i32⟩
  | .hbm, ⟨12, _⟩ => ⟨S32768x1, .f32⟩
  | .hbm, ⟨13, _⟩ => ⟨S1x32, .f32⟩
  | .hbm, ⟨14, _⟩ => ⟨S32768x32, .f32⟩
  | .hbm, ⟨15, _⟩ => ⟨S32768x32, .f32⟩
  | .hbm, ⟨16, _⟩ => ⟨S32768x32, .f32⟩
  | .hbm, ⟨17, _⟩ => ⟨S32768x32, .f32⟩
  | .hbm, ⟨18, _⟩ => ⟨S32768x32, .f32⟩
  | .hbm, ⟨19, _⟩ => ⟨S32768x128, .f32⟩
  | .hbm, ⟨20, _⟩ => ⟨S32768x32, .f32⟩
  | .hbm, ⟨21, _⟩ => ⟨S32768x32, .f32⟩
  | .hbm, ⟨22, _⟩ => ⟨S32768x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.MixTile.lean ====
module

public import proofs.«01_k».proof.Proof.Gen.MixerIdeal.Skeleton
public import Idealize.ShloMosaic.Lib.Pipeline.ValueKit
public import Idealize.ShloMosaic.Lib.Pointwise

/-! The attention tile of the mixer: 128 queries of one key head against a band of 256 keys. The
four query heads that share the key head are scored by one product with a block-diagonal matrix
of the keys; this module reads that tile at an index as four ordinary softmax attentions. -/

@[expose] public section

set_option maxRecDepth 16384

noncomputable section

open Idealize.ShloMosaic Idealize.ShloMosaic.TcCoe Idealize.SL.Sem

namespace Cert.MixerIdeal.Hand

open Cert.MixerIdeal Cert.MixerIdeal.Gen

/-- The 256 lanes of a 128-lane block put on the left half, the right half zero. -/
def padR (x : FVec Ideal S256x128 .bf16) : FVec Ideal S256x256 .bf16 :=
  concatenate S256x256 1 [⟨S256x128, x⟩, ⟨S256x128, broadcast S256x128 (Scalar.ofBits .bf16 0x0000#16 : Ideal .bf16)⟩]
    concatenates_S256x128_S256x128_S256x256_d1

/-- The 256 lanes of a 128-lane block put on the right half, the left half zero. -/
def padL (x : FVec Ideal S256x128 .bf16) : FVec Ideal S256x256 .bf16 :=
  concatenate S256x256 1 [⟨S256x128, broadcast S256x128 (Scalar.ofBits .bf16 0x0000#16 : Ideal .bf16)⟩, ⟨S256x128, x⟩]
    concatenates_S256x128_S256x128_S256x256_d1

/-- The first 64 lanes of a block, the rest zero. -/
def lowHalf (x : FVec Ideal S256x128 .f32) : FVec Ideal S256x128 .bf16 :=
  truncf .bf16 (select k0_pay13 x (broadcast S256x128 (Scalar.ofBits .f32 0x00000000#32 : Ideal .f32))) bitsLt_bf16_f32

/-- The last 64 lanes of a block, the rest zero. -/
def highHalf (x : FVec Ideal S256x128 .f32) : FVec Ideal S256x128 .bf16 :=
  truncf .bf16 (select k0_pay13 (broadcast S256x128 (Scalar.ofBits .f32 0x00000000#32 : Ideal .f32)) x) bitsLt_bf16_f32

/-- The block-diagonal matrix: four copies of a key head, each in its own 64 lanes. -/
def bd (A B : FVec Ideal S256x128 .f32) : FVec Ideal S1024x256 .bf16 :=
  concatenate S1024x256 0 [⟨S256x256, padR (lowHalf A)⟩, ⟨S256x256, padR (highHalf B)⟩, ⟨S256x256, padL (lowHalf A)⟩,
    ⟨S256x256, padL (highHalf B)⟩] concatenates_S256x256_S256x256_S256x256_S256x256_S1024x256_d0

/-- The 128 lanes rolled by 64. -/
def roll64 (x : FVec Ideal S256x128 .f32) : FVec Ideal S256x128 .f32 :=
  dynamicRotate 1 64#32 none x rotates_S256x128_d1

/-- The masked scores of one head. -/
def masked (valid : IVec S128x256 1) (s : FVec Ideal S128x256 .f32) : FVec Ideal S128x256 .f32 :=
  select valid s (broadcast S128x256 (Scalar.ofBits .f32 0xF149F2CA#32 : Ideal .f32))

/-- The largest score of a row, or the sink if that is larger. -/
def top (s : FVec Ideal S128x256 .f32) (sink : Ideal .f32) : FVec Ideal S128x1 .f32 :=
  maximumf (shapeCast S128x1 (multiReduction .maximumf [1] S128 s 0xFF800000#32 reduces_S128x256_S128 (.inl rfl) rfl)
    shapeCasts_S128_S128x1) (broadcast S128x1 sink)

/-- The exponentials of the scores less the largest. -/
def pexp (s : FVec Ideal S128x256 .f32) (sink : Ideal .f32) : FVec Ideal S128x256 .f32 :=
  exp (subf s (broadcastTo S128x256 (top s sink) broadcasts_S128x1_S128x256))

/-- The sum of a row's exponentials with the sink's. -/
def denom (s : FVec Ideal S128x256 .f32) (sink : Ideal .f32) : FVec Ideal S128x1 .f32 :=
  addf (shapeCast S128x1 (multiReduction .add [1] S128 (pexp s sink) 0x00000000#32 reduces_S128x256_S128 (.inl rfl) rfl)
    shapeCasts_S128_S128x1) (exp (subf (broadcast S128x1 sink) (top s sink)))

/-- The weights of one head's keys. -/
def probs (s : FVec Ideal S128x256 .f32) (sink : Ideal .f32) : FVec Ideal S128x256 .bf16 :=
  truncf .bf16 (mulf (pexp s sink) (broadcastTo S128x256
    (divf (broadcast S128x1 (Scalar.ofBits .f32 0x3F800000#32 : Ideal .f32)) (denom s sink)) broadcasts_S128x1_S128x256))
    bitsLt_bf16_f32

/-- The scores of the four heads side by side. -/
def scores (q : FVec Ideal S128x256 .bf16) (kb : FVec Ideal S1024x256 .bf16) : FVec Ideal S128x1024 .f32 :=
  matmul dot_S128x256_S1024x256_S128x1024_1_1_0_0_n_n none q kb (constant S128x1024 .f32 0x00000000#32)

/-- Four heads' weights side by side. -/
def cat4 (a b c d : FVec Ideal S128x256 .bf16) : FVec Ideal S128x1024 .bf16 :=
  concatenate S128x1024 1 [⟨S128x256, a⟩, ⟨S128x256, b⟩, ⟨S128x256, c⟩, ⟨S128x256, d⟩]
    concatenates_S128x256_S128x256_S128x256_S128x256_S128x1024_d1

/-- The attention tile. -/
def tile (valid : IVec S128x256 1) (q : FVec Ideal S128x256 .bf16) (kb vb : FVec Ideal S1024x256 .bf16)
    (s0 s1 s2 s3 : Ideal .f32) : FVec Ideal S128x256 .bf16 :=
  shapeCast S128x256 (truncf .bf16 (matmul dot_S128x1024_S1024x256_S128x256_1_0_0_1_n_n none
    (cat4
      (probs (masked valid (extractStridedSlice S128x256 ![0, 0] (scores q kb) slices_S128x1024_o0_0_S128x256)) s0)
      (probs (masked valid (extractStridedSlice S128x256 ![0, 256] (scores q kb) slices_S128x1024_o0_256_S128x256)) s1)
      (probs (masked valid (extractStridedSlice S128x256 ![0, 512] (scores q kb) slices_S128x1024_o0_512_S128x256)) s2)
      (probs (masked valid (extractStridedSlice S128x256 ![0, 768] (scores q kb) slices_S128x1024_o0_768_S128x256)) s3)) vb (constant S128x256 .f32 0x00000000#32))
    bitsLt_bf16_f32) shapeCasts_S128x256_S128x256

/-- The band of 256 keys at row `o`, a half of its lanes. -/
def half0 (x : FVec Ideal S256x256 .f32) : FVec Ideal S256x128 .f32 :=
  extractStridedSlice S256x128 ![0, 0] x slices_S256x256_o0_0_S256x128
/-- The other half of the lanes. -/
def half1 (x : FVec Ideal S256x256 .f32) : FVec Ideal S256x128 .f32 :=
  extractStridedSlice S256x128 ![0, 128] x slices_S256x256_o0_128_S256x128

/-- The stored tile of key head 0 from the band, the queries, the sinks and the mask. -/
def tile0 (valid : IVec S128x256 1) (b : FVec Ideal S256x256 .f32) (q : FVec Ideal S128x256 .bf16) (s0 s1 s2 s3 : Ideal .f32) :
    FVec Ideal S128x256 .bf16 :=
  tile valid q (bd (half0 b) (roll64 (half0 b))) (bd (half1 b) (roll64 (half1 b))) s0 s1 s2 s3

/-- The stored tile of key head 1. -/
def tile1 (valid : IVec S128x256 1) (b : FVec Ideal S256x256 .f32) (q : FVec Ideal S128x256 .bf16) (s0 s1 s2 s3 : Ideal .f32) :
    FVec Ideal S128x256 .bf16 :=
  tile valid q (bd (roll64 (half0 b)) (half0 b)) (bd (roll64 (half1 b)) (half1 b)) s0 s1 s2 s3

/-- The largest of a row of scores, or the sink. -/
def rowTop (s : Fin 256 → EReal) (z : EReal) : EReal :=
  max (Finset.fold max (Ideal.ofBits FTy.f32 4286578688#32) s Finset.univ) z
/-- A row's exponentials. -/
def rowExp (s : Fin 256 → EReal) (z : EReal) (k : Fin 256) : EReal := Ideal.exp (s k - rowTop s z)
/-- The sum of a row's exponentials with the sink's. -/
def rowDen (s : Fin 256 → EReal) (z : EReal) : EReal := ∑ k, rowExp s z k + Ideal.exp (z - rowTop s z)

/-- A lane below 64 takes the first value. -/
theorem sel_low {x y : EReal} (n : ℕ) (h : n < 64) : Scalar.select (IntOp.cmpi CmpIPredicate.slt (BitVec.ofNat 32 n) 64#32) x y = x := by
  have : ∀ n : Fin 64, IntOp.cmpi CmpIPredicate.slt (BitVec.ofNat 32 n.val) 64#32 = 1#1 := by decide +kernel
  rw [this ⟨n, h⟩]; rfl
/-- A lane of 64 or more takes the second. -/
theorem sel_high {x y : EReal} (n : ℕ) (h : 64 ≤ n) (h' : n < 128) :
    Scalar.select (IntOp.cmpi CmpIPredicate.slt (BitVec.ofNat 32 n) 64#32) x y = y := by
  have : ∀ n : Fin 128, 64 ≤ n.val → IntOp.cmpi CmpIPredicate.slt (BitVec.ofNat 32 n.val) 64#32 = 0#1 := by decide +kernel
  rw [this ⟨n, h'⟩ h]; rfl

/-- A copy of the key head at its own row block and lanes. -/
theorem bd_at (A B : FVec Ideal S256x128 .f32) (h : Fin 256 → Fin 64 → EReal)
    (hA : ∀ k d, A (ix2 k (⟨d.val, by omega⟩ : Fin 128)) = h k d) (hB : ∀ k d, B (ix2 k (⟨64 + d.val, by omega⟩ : Fin 128)) = h k d)
    (hh : Fin 4) (k : Fin 256) (b : Fin 4) (d : Fin 64) :
    bd A B (ix2 (⟨256 * hh.val + k.val, by omega⟩ : Fin 1024) (⟨64 * b.val + d.val, by omega⟩ : Fin 256)) = if b = hh then h k d else 0 := by
  fin_cases hh <;> fin_cases b <;> pointwise [bd, padL, padR, lowHalf, highHalf, k0_pay13]
  all_goals repeat' split
  all_goals first | omega | rfl | skip
  all_goals first
    | rw [sel_low _ (by omega)]
    | rw [sel_high _ (by omega) (by omega)]
  all_goals first
    | rfl
    | exact Eq.trans (congrArg A (congrArg₂ ix2 (Fin.ext (by simp; try omega)) (Fin.ext (by simp; try omega)))) (hA k d)
    | exact Eq.trans (congrArg B (congrArg₂ ix2 (Fin.ext (by simp; try omega)) (Fin.ext (by simp; try omega)))) (hB k d)

theorem top_at (s : FVec Ideal S128x256 .f32) (z : Ideal .f32) (a : Fin 128) :
    top s z (ix2 a (0 : Fin 1)) = rowTop (fun k => s (ix2 a k)) z := by
  pointwise [top, rowTop]
theorem pexp_at (s : FVec Ideal S128x256 .f32) (z : Ideal .f32) (a : Fin 128) (k : Fin 256) :
    pexp s z (ix2 a k) = rowExp (fun k => s (ix2 a k)) z k := by
  pointwise [pexp, rowExp, top_at]
theorem denom_at (s : FVec Ideal S128x256 .f32) (z : Ideal .f32) (a : Fin 128) :
    denom s z (ix2 a (0 : Fin 1)) = rowDen (fun k => s (ix2 a k)) z := by
  pointwise [denom, rowDen, top_at, pexp_at]
/-- A weight of one head at a query and a key. -/
theorem probs_at (s : FVec Ideal S128x256 .f32) (z : Ideal .f32) (a : Fin 128) (k : Fin 256) :
    probs s z (ix2 a k) = rowExp (fun k => s (ix2 a k)) z k * Ideal.div 1 (rowDen (fun k => s (ix2 a k)) z) := by
  pointwise [probs, denom_at, pexp_at]
theorem roll_at (s : FVec Ideal S256x128 .f32) (a : Fin 256) (k : Fin 128) :
    roll64 s (ix2 a k) = s (ix2 a ⟨(k.val + 128 - 64) % 128, by omega⟩) := by
  pointwise [roll64]

/-- A sum over 256 lanes of which only one group of 64 counts. -/
theorem sum_lanes (f : Fin 256 → EReal) (b : Fin 4) (g : Fin 64 → EReal)
    (hf : ∀ (b' : Fin 4) (d : Fin 64), f (⟨64 * b'.val + d.val, by omega⟩ : Fin 256) = if b' = b then g d else 0) :
    ∑ c, f c = ∑ d, g d := by
  have e : ∑ s : Fin 4, ∑ k : Fin 64, f (⟨64 * s.val + k.val, by omega⟩ : Fin 256) = ∑ l : Fin 256, f l :=
    Fin.sum_mul_add_congr fun s k hl => congrArg f (Fin.ext (by show 64 * s.val + k.val = s.val * 64 + k.val; omega))
  rw [← e]
  rw [Finset.sum_eq_single b]
  · exact Finset.sum_congr rfl fun d _ => by rw [hf, if_pos rfl]
  · intro b' _ hne
    exact Finset.sum_eq_zero fun d _ => by rw [hf, if_neg hne]
  · simp

/-- A sum over 1024 rows of which only one block of 256 counts. -/
theorem sum_rows (f : Fin 1024 → EReal) (b : Fin 4) (g : Fin 256 → EReal)
    (hf : ∀ (b' : Fin 4) (d : Fin 256), f (⟨256 * b'.val + d.val, by omega⟩ : Fin 1024) = if b' = b then g d else 0) :
    ∑ c, f c = ∑ d, g d := by
  have e : ∑ s : Fin 4, ∑ k : Fin 256, f (⟨256 * s.val + k.val, by omega⟩ : Fin 1024) = ∑ l : Fin 1024, f l :=
    Fin.sum_mul_add_congr fun s k hl => congrArg f (Fin.ext (by show 256 * s.val + k.val = s.val * 256 + k.val; omega))
  rw [← e]
  rw [Finset.sum_eq_single b]
  · exact Finset.sum_congr rfl fun d _ => by rw [hf, if_pos rfl]
  · intro b' _ hne
    exact Finset.sum_eq_zero fun d _ => by rw [hf, if_neg hne]
  · simp

/-- The scores of head `hh` are the products of its 64 query lanes with the key head's. -/
theorem scores_at (q : FVec Ideal S128x256 .bf16) (A B : FVec Ideal S256x128 .f32) (h : Fin 256 → Fin 64 → EReal)
    (hA : ∀ k d, A (ix2 k (⟨d.val, by omega⟩ : Fin 128)) = h k d) (hB : ∀ k d, B (ix2 k (⟨64 + d.val, by omega⟩ : Fin 128)) = h k d)
    (hh : Fin 4) (a : Fin 128) (k : Fin 256) :
    scores q (bd A B) (ix2 a (⟨256 * hh.val + k.val, by omega⟩ : Fin 1024))
      = ∑ d : Fin 64, q (ix2 a (⟨64 * hh.val + d.val, by omega⟩ : Fin 256)) * h k d := by
  pointwise [scores]
  refine sum_lanes _ hh _ fun b d => ?_
  rw [bd_at A B h hA hB]
  split
  · next e => rw [e]
  · exact mul_zero _

/-- The masked score of head `hh` at query `a` and key `k`. -/
def sc (valid : IVec S128x256 1) (q : FVec Ideal S128x256 .bf16) (h : Fin 256 → Fin 64 → EReal) (hh : Fin 4) (a : Fin 128) (k : Fin 256) : EReal :=
  Scalar.select (valid (ix2 a k)) (∑ d : Fin 64, q (ix2 a (⟨64 * hh.val + d.val, by omega⟩ : Fin 256)) * h k d)
    (Ideal.ofBits .f32 0xF149F2CA#32)

/-- Each head's weights in its own block of 256. -/
theorem cat4_at (p : Fin 4 → FVec Ideal S128x256 .bf16) (hh : Fin 4) (a : Fin 128) (k : Fin 256) :
    cat4 (p 0) (p 1) (p 2) (p 3) (ix2 a (⟨256 * hh.val + k.val, by omega⟩ : Fin 1024)) = p hh (ix2 a k) := by
  fin_cases hh <;> pointwise [cat4]
  all_goals repeat' split
  all_goals first
    | omega
    | rfl
    | exact congrArg (p _) (congrArg₂ ix2 rfl (Fin.ext (by simp; try omega)))

/-- A head's block of the scores. -/
def block (hh : Fin 4) (s : FVec Ideal S128x1024 .f32) : FVec Ideal S128x256 .f32 :=
  (![extractStridedSlice S128x256 ![0, 0] s slices_S128x1024_o0_0_S128x256,
     extractStridedSlice S128x256 ![0, 256] s slices_S128x1024_o0_256_S128x256,
     extractStridedSlice S128x256 ![0, 512] s slices_S128x1024_o0_512_S128x256,
     extractStridedSlice S128x256 ![0, 768] s slices_S128x1024_o0_768_S128x256] : Fin 4 → FVec Ideal S128x256 .f32) hh

/-- A head's block of the scores at an index. -/
theorem block_at (hh : Fin 4) (s : FVec Ideal S128x1024 .f32) (a : Fin 128) (k : Fin 256) :
    block hh s (ix2 a k) = s (ix2 a (⟨256 * hh.val + k.val, by omega⟩ : Fin 1024)) := by
  fin_cases hh <;> pointwise [block]

/-- The tile, its heads counted. -/
theorem tile_eq (valid : IVec S128x256 1) (q : FVec Ideal S128x256 .bf16) (kb vb : FVec Ideal S1024x256 .bf16)
    (s0 s1 s2 s3 : Ideal .f32) (p : Fin 4 → FVec Ideal S128x256 .bf16)
    (hp : p = fun hh => probs (masked valid (block hh (scores q kb))) ((![s0, s1, s2, s3] : Fin 4 → EReal) hh)) :
    tile valid q kb vb s0 s1 s2 s3 = shapeCast S128x256 (truncf .bf16 (matmul dot_S128x1024_S1024x256_S128x256_1_0_0_1_n_n none
    (cat4 (p 0) (p 1) (p 2) (p 3)) vb (constant S128x256 .f32 0x00000000#32))
    bitsLt_bf16_f32) shapeCasts_S128x256_S128x256 := by
  subst hp; rfl

/-- The tile at a query and a lane: the head's attention. -/
theorem tile_at (valid : IVec S128x256 1) (q : FVec Ideal S128x256 .bf16) (A B A' B' : FVec Ideal S256x128 .f32)
    (h h' : Fin 256 → Fin 64 → EReal)
    (hA : ∀ k d, A (ix2 k (⟨d.val, by omega⟩ : Fin 128)) = h k d) (hB : ∀ k d, B (ix2 k (⟨64 + d.val, by omega⟩ : Fin 128)) = h k d)
    (hA' : ∀ k d, A' (ix2 k (⟨d.val, by omega⟩ : Fin 128)) = h' k d) (hB' : ∀ k d, B' (ix2 k (⟨64 + d.val, by omega⟩ : Fin 128)) = h' k d)
    (s0 s1 s2 s3 : Ideal .f32) (hh : Fin 4) (a : Fin 128) (d : Fin 64) :
    tile valid q (bd A B) (bd A' B') s0 s1 s2 s3 (ix2 a (⟨64 * hh.val + d.val, by omega⟩ : Fin 256))
      = ∑ k, rowExp (sc valid q h hh a) ((![s0, s1, s2, s3] : Fin 4 → EReal) hh) k
          * Ideal.div 1 (rowDen (sc valid q h hh a) ((![s0, s1, s2, s3] : Fin 4 → EReal) hh)) * h' k d := by
  obtain ⟨p, hp⟩ : ∃ p : Fin 4 → FVec Ideal S128x256 .bf16,
    p = fun hh => probs (masked valid (block hh (scores q (bd A B)))) ((![s0, s1, s2, s3] : Fin 4 → EReal) hh) := ⟨_, rfl⟩
  rw [tile_eq valid q _ _ s0 s1 s2 s3 p hp]
  pointwise
  refine sum_rows _ hh _ fun b k => ?_
  rw [bd_at A' B' h' hA' hB', cat4_at]
  by_cases e : hh = b
  · subst e
    rw [if_pos rfl, if_pos rfl]
    congr 1
    rw [hp]
    have key : (fun k => masked valid (block hh (scores q (bd A B))) (ix2 a k)) = sc valid q h hh a := by
      funext k'
      pointwise [masked, block_at, sc]
      rw [scores_at q A B h hA hB hh a k']
    show probs _ _ _ = _
    rw [probs_at, key]
  · rw [if_neg e, if_neg (Ne.symm e)]; exact mul_zero _

/-- The band's key head 0: its lanes at 0 and, rolled, at 64. -/
theorem tile0_at (valid : IVec S128x256 1) (b : FVec Ideal S256x256 .f32) (q : FVec Ideal S128x256 .bf16)
    (s0 s1 s2 s3 : Ideal .f32) (hh : Fin 4) (a : Fin 128) (d : Fin 64) :
    tile0 valid b q s0 s1 s2 s3 (ix2 a (⟨64 * hh.val + d.val, by omega⟩ : Fin 256))
      = ∑ k, rowExp (sc valid q (fun k d => b (ix2 k (⟨d.val, by omega⟩ : Fin 256))) hh a) ((![s0, s1, s2, s3] : Fin 4 → EReal) hh) k
          * Ideal.div 1 (rowDen (sc valid q (fun k d => b (ix2 k (⟨d.val, by omega⟩ : Fin 256))) hh a) ((![s0, s1, s2, s3] : Fin 4 → EReal) hh))
          * b (ix2 k (⟨128 + d.val, by omega⟩ : Fin 256)) := by
  refine tile_at valid q _ _ _ _ _ (fun k d => b (ix2 k (⟨128 + d.val, by omega⟩ : Fin 256))) ?_ ?_ ?_ ?_ s0 s1 s2 s3 hh a d
  all_goals intro k d; pointwise [half0, half1, roll_at]
  all_goals first | rfl | exact congrArg b (congrArg₂ ix2 rfl (Fin.ext (by simp; try omega)))

/-- The band's key head 1: its lanes at 64 and, rolled, at 0. -/
theorem tile1_at (valid : IVec S128x256 1) (b : FVec Ideal S256x256 .f32) (q : FVec Ideal S128x256 .bf16)
    (s0 s1 s2 s3 : Ideal .f32) (hh : Fin 4) (a : Fin 128) (d : Fin 64) :
    tile1 valid b q s0 s1 s2 s3 (ix2 a (⟨64 * hh.val + d.val, by omega⟩ : Fin 256))
      = ∑ k, rowExp (sc valid q (fun k d => b (ix2 k (⟨64 + d.val, by omega⟩ : Fin 256))) hh a) ((![s0, s1, s2, s3] : Fin 4 → EReal) hh) k
          * Ideal.div 1 (rowDen (sc valid q (fun k d => b (ix2 k (⟨64 + d.val, by omega⟩ : Fin 256))) hh a) ((![s0, s1, s2, s3] : Fin 4 → EReal) hh))
          * b (ix2 k (⟨192 + d.val, by omega⟩ : Fin 256)) := by
  refine tile_at valid q _ _ _ _ _ (fun k d => b (ix2 k (⟨192 + d.val, by omega⟩ : Fin 256))) ?_ ?_ ?_ ?_ s0 s1 s2 s3 hh a d
  all_goals intro k d; pointwise [half0, half1, roll_at]
  all_goals first | rfl | exact congrArg b (congrArg₂ ix2 rfl (Fin.ext (by simp; try omega)))

end Cert.MixerIdeal.Hand

end
-- ==== Proof.MixRef.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixTile

/-! The attention of the mixer reference read at an index. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- The float of the integer zero. -/
theorem sitofp_zero : (FloatOps.sitofp (F := Ideal) FTy.f32 0#32 : EReal) = 0 := by
  show (((0#32 : BitVec 32).toInt : ℝ) : EReal) = 0
  simp

/-- The keys and values a block of 128 queries sees: its own rows and the 128 before, which are zero before the start. -/
def band (x3 : FVec Ideal S32768x256 .bf16) (b n : Fin 16) (k : Fin 256) (col : Fin 256) : EReal :=
  if h : 128 ≤ 128 * n.val + k.val then x3 (ix2 (⟨2048 * b.val + (128 * n.val + k.val - 128), by omega⟩ : Fin 32768) col) else 0

/-- The reference's key at a block, a band row, a head and a lane. -/
theorem key_at (x3 : FVec Ideal S32768x256 .bf16) (b n : Fin 16) (k : Fin 256) (g : Fin 2) (d : Fin 64) :
    val_main_v184 (F := Ideal) x3 (ix5 b n k g d) = band x3 b n k (⟨64 * g.val + d.val, by omega⟩ : Fin 256) := by
  pointwise [val_main_v4, val_main_v5, val_main_v175, val_main_v176, val_main_c_6, val_main_call2_v0, val_main_v180, val_main_v181, val_main_v182, val_main_v183, val_main_v184, band]
  repeat' split
  all_goals first
    | omega
    | exact sitofp_zero
    | exact congrArg x3 (congrArg₂ ix2 (Fin.ext (by simp; omega)) (Fin.ext (by simp; omega)))

/-- The reference's value at a block, a band row, a head and a lane. -/
theorem val_at (x3 : FVec Ideal S32768x256 .bf16) (b n : Fin 16) (k : Fin 256) (g : Fin 2) (d : Fin 64) :
    val_main_v191 (F := Ideal) x3 (ix5 b n k g d) = band x3 b n k (⟨128 + (64 * g.val + d.val), by omega⟩ : Fin 256) := by
  pointwise [val_main_v4, val_main_v5, val_main_v177, val_main_v178, val_main_c_7, val_main_call3_v0, val_main_v187, val_main_v188, val_main_v189, val_main_v190, val_main_v191, band]
  repeat' split
  all_goals first
    | omega
    | exact sitofp_zero
    | exact congrArg x3 (congrArg₂ ix2 (Fin.ext (by simp; omega)) (Fin.ext (by simp; omega)))

/-- Whether a key's distance from the query is in the window. -/
def near (a : Fin 128) (k : Fin 256) : BitVec 1 :=
  IntOp.andi
    (IntOp.cmpi CmpIPredicate.sge (IntOp.subi (IntOp.addi (BitVec.ofNat 32 a.val) 128#32) (BitVec.ofNat 32 k.val)) 0#32)
    (IntOp.cmpi CmpIPredicate.slt (IntOp.subi (IntOp.addi (BitVec.ofNat 32 a.val) 128#32) (BitVec.ofNat 32 k.val)) 128#32)

/-- Whether a key's position is not before the start. -/
def started (n : Fin 16) (k : Fin 256) : BitVec 1 :=
  IntOp.cmpi CmpIPredicate.sge (IntOp.addi (IntOp.subi (IntOp.muli (BitVec.ofNat 32 n.val) 128#32) 128#32) (BitVec.ofNat 32 k.val)) 0#32

/-- Whether key `k` of the band of block `n` is in the window of query `a`. -/
theorem seen_eq (n : Fin 16) (a : Fin 128) (k : Fin 256) :
    val_main_v224 (F := Ideal) (ix3 n a k) = IntOp.andi (near a k) (started n k) := by
  pointwise [val_main_v195, val_main_v196, val_main_c_8, val_main_v197, val_main_v198, val_main_v199, val_main_v200, val_main_v201, val_main_v202, val_main_v203, val_main_v204, val_main_v205, val_main_c_9, val_main_v206, val_main_v207, val_main_c_10, val_main_v208, val_main_v209, val_main_v210, val_main_c_11, val_main_v211, val_main_v212, val_main_c_12, val_main_v213, val_main_v214, val_main_v215, val_main_v216, val_main_v217, val_main_v218, val_main_c_13, val_main_v219, val_main_v220, val_main_v221, val_main_v222, val_main_v223, val_main_v224, near, started]

/-- The masked score of head `h` in block `n` at query `a` and key `k`. -/
def score (x2 : FVec Ideal S32768x1024 .bf16) (x3 : FVec Ideal S32768x256 .bf16) (b n : Fin 16) (h : Fin 8) (a : Fin 128) (k : Fin 256) : EReal :=
  Scalar.select (IntOp.andi (near a k) (started n k))
    (∑ d : Fin 64, x2 (ix2 (⟨2048 * b.val + (128 * n.val + a.val), by omega⟩ : Fin 32768) (⟨512 + (64 * h.val + d.val), by omega⟩ : Fin 1024))
      * band x3 b n k (⟨64 * (h.val / 4) + d.val, by omega⟩ : Fin 256))
    (Ideal.ofBits .f32 0xF149F2CA#32)

theorem score_at (x2 : FVec Ideal S32768x1024 .bf16) (x3 : FVec Ideal S32768x256 .bf16) (b n : Fin 16) (h : Fin 8) (a : Fin 128) (k : Fin 256) :
    val_main_v226 (F := Ideal) x2 x3 (ix5 b n h a k) = score x2 x3 b n h a k := by
  pointwise [val_main_v2, val_main_v3, val_main_v173, val_main_v174, val_main_v179, val_main_v185, val_main_v186, val_main_v194, val_main_v225, val_main_cst, val_main_call4_v0, val_main_call4_v1, val_main_call4_v2, val_main_v226, key_at, score, seen_eq]
  refine congrArg₂ (fun x y : EReal => Scalar.select (IntOp.andi (near a k) (started n k)) x y) (Finset.sum_congr rfl fun d _ => ?_) rfl
  refine congrArg₂ (fun x y : EReal => x * y) (congrArg x2 (congrArg₂ ix2 (Fin.ext (by simp; omega)) (Fin.ext (by simp; omega)))) rfl

/-- A row's maximum as the reference takes it, for any scores. -/
theorem max_any (v : FVec Ideal Cert.MixerReferenceIdeal.S16x16x8x128x256 .f32) (w : FVec Ideal Cert.MixerReferenceIdeal.S_ .f32)
    (b n : Fin 16) (h : Fin 8) (a : Fin 128) :
    Host.reduce FloatOps.maximumf v w Cert.MixerReferenceIdeal.Gen.reducesTo_S16x16x8x128x256_S16x16x8x128_d4
      Cert.MixerReferenceIdeal.Gen.h_S_ (ix4 b n h a) = Finset.fold max (w ix0) (fun k => v (ix5 b n h a k)) Finset.univ := by
  refine (Host.reduce_eq_fold _ _ _ _ _ _).trans ?_
  refine (Cert.MixerReferenceIdeal.Gen.reducesTo_S16x16x8x128x256_S16x16x8x128_d4.fold_fiber_r5_a4 _ _ _ _).trans ?_
  have e : Shape.Idx.first Cert.MixerReferenceIdeal.Gen.h_S_ = ix0 := funext fun i => i.elim0
  rw [e]
  rfl

/-- The largest score of a row. -/
theorem max_ref (x2 : FVec Ideal S32768x1024 .bf16) (x3 : FVec Ideal S32768x256 .bf16) (b n : Fin 16) (h : Fin 8) (a : Fin 128) :
    val_main_v228 (F := Ideal) x2 x3 (ix4 b n h a) = Finset.fold max (Ideal.ofBits FTy.f32 4286578688#32) (fun k => val_main_v226 (F := Ideal) x2 x3 (ix5 b n h a k)) Finset.univ := by
  have e : val_main_cst_14 (F := Ideal) ix0 = Ideal.ofBits FTy.f32 4286578688#32 := by
    rw [val_main_cst_14_apply]; rfl
  unfold val_main_v228
  generalize val_main_v226 (F := Ideal) x2 x3 = y
  refine (max_any y _ b n h a).trans ?_
  rw [e]

end Cert.MixerIdeal.Hand

end
-- ==== Proof.MixPast.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixRef

/-! The convolution and the pooling of the mixer reference read at an index. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- A row function `d` rows back inside its sequence, zero before the start. -/
def past (f : Fin 32768 → EReal) (b : Fin 16) (s : Fin 2048) (d : ℕ) : EReal :=
  if h : d ≤ s.val then f (⟨2048 * b.val + (s.val - d), by omega⟩ : Fin 32768) else 0

/-- The product the convolution runs over, at a row. -/
def gated (x1 : FVec Ideal S32768x1536 .bf16) (c : Fin 512) (r : Fin 32768) : EReal :=
  x1 (ix2 r (⟨512 + c.val, by omega⟩ : Fin 1536)) * x1 (ix2 r (⟨1024 + c.val, by omega⟩ : Fin 1536))

/-- The short convolution's branch at a position and a channel. -/
def convAt (x1 : FVec Ideal S32768x1536 .bf16) (x6 : FVec Ideal S3x512 .f32) (b : Fin 16) (s : Fin 2048) (c : Fin 512) : EReal :=
  x1 (ix2 (⟨2048 * b.val + s.val, by omega⟩ : Fin 32768) (⟨c.val, by omega⟩ : Fin 1536))
    * (x6 (ix2 (0 : Fin 3) c) * past (gated x1 c) b s 2 + x6 (ix2 (1 : Fin 3) c) * past (gated x1 c) b s 1 + x6 (ix2 (2 : Fin 3) c) * past (gated x1 c) b s 0)

/-- The padded product at a row of the padded sequence. -/
theorem padded_at (x1 : FVec Ideal S32768x1536 .bf16) (b : Fin 16) (s : Fin 2048) (c : Fin 512) (d : ℕ) (hd : d ≤ 2) (p : Fin 2050) (hp : p.val = s.val + (2 - d)) :
    val_main_v12 (F := Ideal) x1 (ix3 b p c) = past (gated x1 c) b s d := by
  pointwise [val_main_v0, val_main_v1, val_main_v8, val_main_v9, val_main_v10, val_main_v11, val_main_c, val_main_call0_v0, val_main_v12, past, gated]
  repeat' split
  all_goals first
    | omega
    | exact sitofp_zero
    | exact congrArg₂ (fun x y : EReal => x * y) (congrArg x1 (congrArg₂ ix2 (Fin.ext (by simp <;> omega)) (Fin.ext (by simp <;> omega)))) (congrArg x1 (congrArg₂ ix2 (Fin.ext (by simp <;> omega)) (Fin.ext (by simp <;> omega))))

/-- The reference's convolution branch. -/
theorem conv_ref (x1 : FVec Ideal S32768x1536 .bf16) (x6 : FVec Ideal S3x512 .f32) (b : Fin 16) (s : Fin 2048) (c : Fin 512) :
    val_main_v33 (F := Ideal) x1 x6 (ix3 b s c) = convAt x1 x6 b s c := by
  pointwise [val_main_v0, val_main_v1, val_main_v8, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, convAt]
  refine congrArg₂ (fun x y : EReal => x * y) ?_ (congrArg₂ (fun x y : EReal => x + y) (congrArg₂ (fun x y : EReal => x + y) ?_ ?_) ?_)
  · exact congrArg x1 (congrArg₂ ix2 (Fin.ext (by simp <;> omega)) (Fin.ext (by simp <;> omega)))
  · exact congrArg₂ (fun x y : EReal => x * y) (congrArg x6 (congrArg₂ ix2 (Fin.ext (by simp)) (Fin.ext (by simp)))) (padded_at x1 b s c 2 (by omega) _ (by simp))
  · exact congrArg₂ (fun x y : EReal => x * y) (congrArg x6 (congrArg₂ ix2 (Fin.ext (by simp)) (Fin.ext (by simp)))) (padded_at x1 b s c 1 (by omega) _ (by simp <;> omega))
  · exact congrArg₂ (fun x y : EReal => x * y) (congrArg x6 (congrArg₂ ix2 (Fin.ext (by simp)) (Fin.ext (by simp)))) (padded_at x1 b s c 0 (by omega) _ (by simp <;> omega))

/-- A row function's mean over the last `w` rows, less its own value. -/
def mean (f : Fin 32768 → EReal) (b : Fin 16) (s : Fin 2048) (w : ℕ) : EReal :=
  Ideal.div (∑ i ∈ Finset.range w, past f b s i)
      (FloatOps.sitofp (F := Ideal) FTy.f32 (IntOp.minsi (IntOp.addi 1#32 (BitVec.ofNat 32 s.val)) (BitVec.ofNat 32 w)))
    - f (⟨2048 * b.val + s.val, by omega⟩ : Fin 32768)

/-- A column of the pooled values, by rows. -/
def pooled (x2 : FVec Ideal S32768x1024 .bf16) (g : Fin 4) (d : Fin 128) (r : Fin 32768) : EReal :=
  x2 (ix2 r (⟨128 * g.val + d.val, by omega⟩ : Fin 1024))

/-- The padded values at a row of the padded sequence. -/
theorem up_at (x2 : FVec Ideal S32768x1024 .bf16) (b : Fin 16) (s : Fin 2048) (g : Fin 4) (c : Fin 128) (d : ℕ) (hd : d ≤ 15) (p : Fin 2063) (hp : p.val = s.val + (15 - d)) :
    val_main_v36 (F := Ideal) x2 (ix4 b p g c) = past (pooled x2 g c) b s d := by
  pointwise [val_main_v2, val_main_v3, val_main_v34, val_main_v35, val_main_c_0, val_main_call1_v0, val_main_v36, past, pooled]
  repeat' split
  all_goals first
    | omega
    | exact sitofp_zero
    | exact congrArg x2 (congrArg₂ ix2 (Fin.ext (by simp <;> omega)) (Fin.ext (by simp <;> omega)))

/-- The reference's pooled value of group 0: the mean over the last 2 positions, less the position's own value. -/
theorem pool_0 (x2 : FVec Ideal S32768x1024 .bf16) (b : Fin 16) (s : Fin 2048) (d : Fin 128) :
    val_main_v53 (F := Ideal) x2 (ix3 b s d) = mean (pooled x2 0 d) b s 2 := by
  pointwise [val_main_v2, val_main_v3, val_main_v34, val_main_v35, val_main_v37, val_main_c_1, val_main_v38, val_main_v39, val_main_c_1, val_main_v40, val_main_v41, val_main_v42, val_main_v43, val_main_v44, val_main_c_2, val_main_v45, val_main_v46, val_main_v47, val_main_v48, val_main_v49, val_main_v50, val_main_v51, val_main_v52, val_main_v53, mean, Finset.sum_range_succ, Finset.sum_range_zero, zero_add]
  refine congrArg₂ (fun x y : EReal => x - y) (congrArg₂ Ideal.div ?_ ?_) ?_
  · repeat' first
      | exact up_at x2 b s 0 d _ (by omega) _ (by simp <;> omega)
      | refine congrArg₂ (fun x y : EReal => x + y) ?_ ?_
  · rfl
  · exact congrArg x2 (congrArg₂ ix2 (Fin.ext (by simp <;> omega)) (Fin.ext (by simp <;> omega)))

/-- The reference's pooled value of group 1: the mean over the last 4 positions, less the position's own value. -/
theorem pool_1 (x2 : FVec Ideal S32768x1024 .bf16) (b : Fin 16) (s : Fin 2048) (d : Fin 128) :
    val_main_v73 (F := Ideal) x2 (ix3 b s d) = mean (pooled x2 1 d) b s 4 := by
  pointwise [val_main_v2, val_main_v3, val_main_v34, val_main_v35, val_main_v37, val_main_c_1, val_main_v38, val_main_v39, val_main_c_1, val_main_v54, val_main_v55, val_main_v56, val_main_v57, val_main_v58, val_main_v59, val_main_v60, val_main_v61, val_main_v62, val_main_v63, val_main_v64, val_main_c_3, val_main_v65, val_main_v66, val_main_v67, val_main_v68, val_main_v69, val_main_v70, val_main_v71, val_main_v72, val_main_v73, mean, Finset.sum_range_succ, Finset.sum_range_zero, zero_add]
  refine congrArg₂ (fun x y : EReal => x - y) (congrArg₂ Ideal.div ?_ ?_) ?_
  · repeat' first
      | exact up_at x2 b s 1 d _ (by omega) _ (by simp <;> omega)
      | refine congrArg₂ (fun x y : EReal => x + y) ?_ ?_
  · rfl
  · exact congrArg x2 (congrArg₂ ix2 (Fin.ext (by simp <;> omega)) (Fin.ext (by simp <;> omega)))

/-- The reference's pooled value of group 2: the mean over the last 8 positions, less the position's own value. -/
theorem pool_2 (x2 : FVec Ideal S32768x1024 .bf16) (b : Fin 16) (s : Fin 2048) (d : Fin 128) :
    val_main_v105 (F := Ideal) x2 (ix3 b s d) = mean (pooled x2 2 d) b s 8 := by
  pointwise [val_main_v2, val_main_v3, val_main_v34, val_main_v35, val_main_v37, val_main_c_1, val_main_v38, val_main_v39, val_main_c_1, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_c_4, val_main_v97, val_main_v98, val_main_v99, val_main_v100, val_main_v101, val_main_v102, val_main_v103, val_main_v104, val_main_v105, mean, Finset.sum_range_succ, Finset.sum_range_zero, zero_add]
  refine congrArg₂ (fun x y : EReal => x - y) (congrArg₂ Ideal.div ?_ ?_) ?_
  · repeat' first
      | exact up_at x2 b s 2 d _ (by omega) _ (by simp <;> omega)
      | refine congrArg₂ (fun x y : EReal => x + y) ?_ ?_
  · rfl
  · exact congrArg x2 (congrArg₂ ix2 (Fin.ext (by simp <;> omega)) (Fin.ext (by simp <;> omega)))

/-- The reference's pooled value of group 3: the mean over the last 16 positions, less the position's own value. -/
theorem pool_3 (x2 : FVec Ideal S32768x1024 .bf16) (b : Fin 16) (s : Fin 2048) (d : Fin 128) :
    val_main_v161 (F := Ideal) x2 (ix3 b s d) = mean (pooled x2 3 d) b s 16 := by
  pointwise [val_main_v2, val_main_v3, val_main_v34, val_main_v35, val_main_v37, val_main_c_1, val_main_v38, val_main_v39, val_main_c_1, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_c_5, val_main_v153, val_main_v154, val_main_v155, val_main_v156, val_main_v157, val_main_v158, val_main_v159, val_main_v160, val_main_v161, mean, Finset.sum_range_succ, Finset.sum_range_zero, zero_add]
  refine congrArg₂ (fun x y : EReal => x - y) (congrArg₂ Ideal.div ?_ ?_) ?_
  · repeat' first
      | exact up_at x2 b s 3 d _ (by omega) _ (by simp <;> omega)
      | refine congrArg₂ (fun x y : EReal => x + y) ?_ ?_
  · rfl
  · exact congrArg x2 (congrArg₂ ix2 (Fin.ext (by simp <;> omega)) (Fin.ext (by simp <;> omega)))

end Cert.MixerIdeal.Hand

end
-- ==== Proof.MixBranch.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixPast

/-! The convolution and the pooling of a grid point, read at an index. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- A row function at row `r` of a tile with the 16 rows before it, zero before the start. -/
def back (f : Fin 32768 → EReal) (b : Fin 16) (i : Fin 4) (r : ℕ) : EReal :=
  if h : (i.val = 0 ∧ r < 16) ∨ 528 ≤ r then 0 else f (⟨2048 * b.val + (512 * i.val + r - 16), by omega⟩ : Fin 32768)

/-- A row of the tile with rows before it is the row function that many rows back. -/
theorem back_past (f : Fin 32768 → EReal) (b : Fin 16) (i : Fin 4) (a : Fin 512) (s : Fin 2048) (hs : s.val = 512 * i.val + a.val) (d : ℕ) (hd : d ≤ 16) (r : ℕ)
    (hr : r = 16 + a.val - d) : back f b i r = past f b s d := by
  unfold back past
  split
  · rw [dif_neg (by omega)]
  · rw [dif_pos (by omega)]
    exact congrArg f (Fin.ext (by simp; omega))

/-- The choice by whether the tile is not the first. -/
theorem sel_first (i : Fin 4) (x : EReal) :
    Scalar.select (Scalar.cmpi CmpIPredicate.sgt (BitVec.ofNat 32 i.val) 0#32) x 0 = if i.val = 0 then 0 else x := by
  have h : ∀ i : Fin 4, Scalar.cmpi CmpIPredicate.sgt (BitVec.ofNat 32 i.val) 0#32 = if i.val = 0 then 0#1 else 1#1 := by decide +kernel
  rw [h i]
  split <;> rfl

/-- A tile below the 16 rows before it, read at a row. -/
theorem ext_at (f : Fin 32768 → EReal) (b : Fin 16) (i : Fin 4) (cur : Fin 512 → EReal) (halo : Fin 16 → EReal)
    (hc : ∀ a : Fin 512, cur a = f (⟨2048 * b.val + (512 * i.val + a.val), by omega⟩ : Fin 32768))
    (hh : ∀ (h : i.val ≠ 0) (r : Fin 16), halo r = f (⟨2048 * b.val + (512 * i.val + r.val - 16), by omega⟩ : Fin 32768))
    (r : ℕ) (hr : r < 528) :
    (if h : r < 16 then Scalar.select (Scalar.cmpi CmpIPredicate.sgt (BitVec.ofNat 32 i.val) 0#32) (halo ⟨r, h⟩) 0 else cur ⟨r - 16, by omega⟩) = back f b i r := by
  unfold back
  split
  · rw [sel_first]
    split
    · rw [dif_pos (by omega)]
    · rw [dif_neg (by omega), hh (by assumption)]
  · rw [dif_neg (by omega), hc]
    exact congrArg f (Fin.ext (by simp; omega))

/-- The sum of the last `w` rows at a row of the tile with rows before it. -/
def trail (f : Fin 32768 → EReal) (b : Fin 16) (i : Fin 4) (r w : ℕ) : EReal := ∑ j ∈ Finset.range w, back f b i (r - j)

/-- Two neighbouring sums join. -/
theorem trail_add (f : Fin 32768 → EReal) (b : Fin 16) (i : Fin 4) (r w : ℕ) : trail f b i r w + trail f b i (r - w) w = trail f b i r (w + w) := by
  unfold trail
  rw [Finset.sum_range_add]
  simp only [Nat.sub_sub]

/-- The sum at a tile's own row is the sum over the last `w` positions. -/
theorem trail_past (f : Fin 32768 → EReal) (b : Fin 16) (i : Fin 4) (a : Fin 512) (s : Fin 2048) (hs : s.val = 512 * i.val + a.val) (w : ℕ) (hw : w ≤ 16) :
    trail f b i (16 + a.val) w = ∑ j ∈ Finset.range w, past f b s j := by
  refine Finset.sum_congr rfl fun j hj => back_past f b i a s hs j ?_ _ rfl
  have := Finset.mem_range.mp hj
  omega

/-- The count of a position. -/
theorem count_at (i : Fin 4) (a : Fin 512) (s : Fin 2048) (hs : s.val = 512 * i.val + a.val) :
    IntOp.addi (IntOp.addi (Scalar.muli (BitVec.ofNat 32 i.val) 512#32) (BitVec.ofNat 32 a.val)) 1#32 = IntOp.addi 1#32 (BitVec.ofNat 32 s.val) := by
  show (BitVec.ofNat 32 i.val * 512#32 + BitVec.ofNat 32 a.val) + 1#32 = 1#32 + BitVec.ofNat 32 s.val
  apply BitVec.eq_of_toNat_eq
  simp
  omega

section

variable (f : Fin 512 → Fin 32768 → EReal) (b : Fin 16) (i : Fin 4) (v35 : FVec Ideal S512x512 .f32) (v37 : FVec Ideal S16x512 .f32)
  (hc : ∀ (a c : Fin 512), v35 (ix2 a c) = f c (⟨2048 * b.val + (512 * i.val + a.val), by omega⟩ : Fin 32768))
  (hh : ∀ (h : i.val ≠ 0) (r : Fin 16) (c : Fin 512), v37 (ix2 r c) = f c (⟨2048 * b.val + (512 * i.val + r.val - 16), by omega⟩ : Fin 32768))

include hc hh

/-- The first stage sums two rows. -/
theorem stage2 (r : Fin 528) (h : 1 ≤ r.val) (c : Fin 512) :
    k0_pay5 (Scalar.cmpi CmpIPredicate.sgt (BitVec.ofNat 32 i.val) 0#32) v35 v37 (ix2 r c) = trail (f c) b i r.val 2 := by
  rw [← trail_add (f c) b i r.val 1]
  simp only [trail, Finset.sum_range_one, Nat.sub_zero]
  have e := ext_at (f c) b i (fun a => v35 (ix2 a c)) (fun q => v37 (ix2 q c)) (fun a => hc a c) (fun h q => hh h q c)
  rw [← e r.val (by omega), ← e (r.val - 1) (by omega)]
  have hm : (r.val + 528 - 1) % 528 = r.val - 1 := by omega
  pointwise [k0_pay5]
  simp only [hm]

/-- The second stage sums four rows. -/
theorem stage4 (r : Fin 528) (h : 3 ≤ r.val) (c : Fin 384) :
    k0_pay7 (Scalar.cmpi CmpIPredicate.sgt (BitVec.ofNat 32 i.val) 0#32) v35 v37 (ix2 r c) = trail (f ⟨128 + c.val, by omega⟩) b i r.val 4 := by
  rw [← trail_add _ b i r.val 2]
  rw [← stage2 f b i v35 v37 hc hh r (by omega), ← stage2 f b i v35 v37 hc hh ⟨r.val - 2, by omega⟩ (by simp; omega)]
  have hm : (r.val + 528 - 2) % 528 = r.val - 2 := by omega
  pointwise [k0_pay7]
  simp only [hm]

/-- The third stage sums eight rows. -/
theorem stage8 (r : Fin 528) (h : 7 ≤ r.val) (c : Fin 256) :
    k0_pay9 (Scalar.cmpi CmpIPredicate.sgt (BitVec.ofNat 32 i.val) 0#32) v35 v37 (ix2 r c) = trail (f ⟨256 + c.val, by omega⟩) b i r.val 8 := by
  have e : (⟨256 + c.val, by omega⟩ : Fin 512) = ⟨128 + (128 + c.val), by omega⟩ := Fin.ext (by simp; omega)
  rw [e, ← trail_add _ b i r.val 4]
  rw [← stage4 f b i v35 v37 hc hh r (by omega) ⟨128 + c.val, by omega⟩, ← stage4 f b i v35 v37 hc hh ⟨r.val - 4, by omega⟩ (by simp; omega) ⟨128 + c.val, by omega⟩]
  have hm : (r.val + 528 - 4) % 528 = r.val - 4 := by omega
  pointwise [k0_pay9]
  simp only [hm]

/-- A quarter of the pooling branch: the means times the group's weights. -/
def quarter (s : Fin 2048) (w : ℕ) (o : Fin 4) (p : FVec Ideal S1x128x128 .bf16) (d : Fin 128) : EReal :=
  ∑ k : Fin 128, mean (f ⟨128 * o.val + k.val, by omega⟩) b s w * p (ix3 0 k d)

omit hc hh in
/-- A mean from its parts. -/
theorem mean_of (g : Fin 32768 → EReal) (a : Fin 512) (s : Fin 2048) (hs : s.val = 512 * i.val + a.val) (w : ℕ) (hw : w ≤ 16) (n : BitVec 32) (hn : n = BitVec.ofNat 32 w)
    (x y : EReal) (hx : x = trail g b i (16 + a.val) w) (hy : y = g (⟨2048 * b.val + (512 * i.val + a.val), by omega⟩ : Fin 32768)) :
    Ideal.div x (FloatOps.sitofp (F := Ideal) FTy.f32
      (IntOp.minsi (IntOp.addi (IntOp.addi (Scalar.muli (BitVec.ofNat 32 i.val) 512#32) (BitVec.ofNat 32 a.val)) 1#32) n)) - y = mean g b s w := by
  rw [hx, hy, hn, count_at i a s hs, trail_past g b i a s hs w hw]
  unfold mean
  exact congrArg (fun z => _ - g z) (Fin.ext (by simp; omega))

/-- The first quarter. -/
theorem quarter0 (p : FVec Ideal S1x128x128 .bf16) (a : Fin 512) (s : Fin 2048) (hs : s.val = 512 * i.val + a.val) (d : Fin 128) :
    k0_pay6 (BitVec.ofNat 32 i.val) (Scalar.cmpi CmpIPredicate.sgt (BitVec.ofNat 32 i.val) 0#32) v35 v37 p (ix2 a d) = quarter f b s 2 0 p d := by
  pointwise [k0_pay6, k0_pay4]
  refine Finset.sum_congr rfl fun k _ => congrArg (fun z : EReal => z * p (ix3 0 k d)) ?_
  refine mean_of b i _ a s hs 2 (by omega) _ rfl _ _ ?_ ?_
  · exact (stage2 f b i v35 v37 hc hh ⟨16 + a.val, by omega⟩ (by simp; omega) _).trans (congrArg (fun z => trail (f z) b i _ 2) (Fin.ext (by simp)))
  · exact (hc _ _).trans (congrArg (fun z => f z _) (Fin.ext (by simp)))

/-- The second quarter. -/
theorem quarter1 (p : FVec Ideal S1x128x128 .bf16) (a : Fin 512) (s : Fin 2048) (hs : s.val = 512 * i.val + a.val) (d : Fin 128) :
    k0_pay8 (BitVec.ofNat 32 i.val) (Scalar.cmpi CmpIPredicate.sgt (BitVec.ofNat 32 i.val) 0#32) v35 v37 p (ix2 a d) = quarter f b s 4 1 p d := by
  pointwise [k0_pay8, k0_pay4]
  refine Finset.sum_congr rfl fun k _ => congrArg (fun z : EReal => z * p (ix3 0 k d)) ?_
  refine mean_of b i _ a s hs 4 (by omega) _ rfl _ _ ?_ ?_
  · exact (stage4 f b i v35 v37 hc hh ⟨16 + a.val, by omega⟩ (by simp; omega) _).trans (congrArg (fun z => trail (f z) b i _ 4) (Fin.ext (by simp)))
  · exact (hc _ _).trans (congrArg (fun z => f z _) (Fin.ext (by simp)))

/-- The pooling branch, read at a position and a channel. -/
theorem pool_pay (p0 p1 p2 p3 : FVec Ideal S1x128x128 .bf16) (z : FVec Ideal S1x512 .f32) (a : Fin 512) (s : Fin 2048) (hs : s.val = 512 * i.val + a.val) (g : Fin 4) (d : Fin 128) :
    k0_pay11 v35 (k0_pay4 (BitVec.ofNat 32 i.val))
      (k0_pay6 (BitVec.ofNat 32 i.val) (Scalar.cmpi CmpIPredicate.sgt (BitVec.ofNat 32 i.val) 0#32) v35 v37 p0)
      (k0_pay8 (BitVec.ofNat 32 i.val) (Scalar.cmpi CmpIPredicate.sgt (BitVec.ofNat 32 i.val) 0#32) v35 v37 p1)
      (k0_pay9 (Scalar.cmpi CmpIPredicate.sgt (BitVec.ofNat 32 i.val) 0#32) v35 v37)
      (k0_pay10 (BitVec.ofNat 32 i.val)) p2 p3 z (ix2 a ⟨128 * g.val + d.val, by omega⟩)
      = quarter f b s (![2, 4, 8, 16] g) g (![p0, p1, p2, p3] g) d * z (ix2 0 ⟨128 * g.val + d.val, by omega⟩) := by
  have h2 : ∀ k : Fin 128, Ideal.div (k0_pay9 (Scalar.cmpi CmpIPredicate.sgt (BitVec.ofNat 32 i.val) 0#32) v35 v37 (ix2 ⟨16 + a.val, by omega⟩ ⟨k.val, by omega⟩))
      (FloatOps.sitofp (F := Ideal) FTy.f32 (k0_pay10 (BitVec.ofNat 32 i.val) (ix2 a 0))) - v35 (ix2 a ⟨256 + k.val, by omega⟩) = mean (f ⟨256 + k.val, by omega⟩) b s 8 := by
    intro k
    pointwise [k0_pay10, k0_pay4]
    refine mean_of b i _ a s hs 8 (by omega) _ rfl _ _ ?_ ?_
    · exact (stage8 f b i v35 v37 hc hh ⟨16 + a.val, by omega⟩ (by simp; omega) _)
    · exact (hc _ _)
  have h3 : ∀ k : Fin 128, Ideal.div (k0_pay9 (Scalar.cmpi CmpIPredicate.sgt (BitVec.ofNat 32 i.val) 0#32) v35 v37 (ix2 ⟨16 + a.val, by omega⟩ ⟨128 + k.val, by omega⟩)
        + k0_pay9 (Scalar.cmpi CmpIPredicate.sgt (BitVec.ofNat 32 i.val) 0#32) v35 v37 (ix2 ⟨(16 + a.val + 528 - 8) % 528, by omega⟩ ⟨128 + k.val, by omega⟩))
      (FloatOps.sitofp (F := Ideal) FTy.f32 (IntOp.minsi (k0_pay4 (BitVec.ofNat 32 i.val) (ix2 a 0)) 16#32)) - v35 (ix2 a ⟨384 + k.val, by omega⟩)
        = mean (f ⟨384 + k.val, by omega⟩) b s 16 := by
    intro k
    pointwise [k0_pay4]
    refine mean_of b i _ a s hs 16 (by omega) _ rfl _ _ ?_ ?_
    · rw [← trail_add _ b i _ 8]
      have hm : (16 + a.val + 528 - 8) % 528 = 16 + a.val - 8 := by omega
      have e : (⟨384 + k.val, by omega⟩ : Fin 512) = ⟨256 + (128 + k.val), by omega⟩ := Fin.ext (by simp; omega)
      rw [e]
      refine congrArg₂ (fun x y : EReal => x + y) ?_ ?_
      · exact (stage8 f b i v35 v37 hc hh ⟨16 + a.val, by omega⟩ (by simp; omega) ⟨128 + k.val, by omega⟩)
      · refine (stage8 f b i v35 v37 hc hh ⟨(16 + a.val + 528 - 8) % 528, by omega⟩ (by simp; omega) ⟨128 + k.val, by omega⟩).trans ?_
        simp only [hm]
    · exact (hc _ _)
  fin_cases g
  · refine Eq.trans ?_ (congrArg (fun y : EReal => y * z (ix2 0 _)) (quarter0 f b i v35 v37 hc hh p0 a s hs d))
    pointwise [k0_pay11]
  · refine Eq.trans ?_ (congrArg (fun y : EReal => y * z (ix2 0 _)) (quarter1 f b i v35 v37 hc hh p1 a s hs d))
    pointwise [k0_pay11]
  · pointwise [k0_pay11, h2, h3, quarter]
    rw [dif_neg (by omega), dif_neg (by omega), dif_pos (by omega)]
    exact congrArg (fun y : EReal => y * z (ix2 0 _)) (Finset.sum_congr rfl fun x _ => congrArg (fun q => _ * p2 (ix3 0 x q)) (Fin.ext (by simp <;> omega)))
  · pointwise [k0_pay11, h2, h3, quarter]
    rw [dif_neg (by omega), dif_neg (by omega), dif_neg (by omega)]
    exact congrArg (fun y : EReal => y * z (ix2 0 _)) (Finset.sum_congr rfl fun x _ => congrArg (fun q => _ * p3 (ix3 0 x q)) (Fin.ext (by simp <;> omega)))

end

/-- A sum of three, the other way round. -/
theorem swap3 (x y z : EReal) : x + y + z = z + y + x := by
  rw [add_comm, add_comm x y, add_assoc]

/-- The convolution branch, read at a position and a channel. -/
theorem conv_pay (f : Fin 32768 → EReal) (b : Fin 16) (i : Fin 4) (t : grid0.Coords) (ht : (t 1).val = i.val) (v1 v3 : FVec Ideal S512x512 .bf16) (v6 v8 : FVec Ideal S16x512 .bf16)
    (v14 : FVec Ideal S3x512 .f32) (v30 : FVec Ideal S512x512 .bf16) (c : Fin 512)
    (hc : ∀ a : Fin 512, v1 (ix2 a c) * v3 (ix2 a c) = f (⟨2048 * b.val + (512 * i.val + a.val), by omega⟩ : Fin 32768))
    (hh : ∀ (h : i.val ≠ 0) (r : Fin 16), v6 (ix2 r c) * v8 (ix2 r c) = f (⟨2048 * b.val + (512 * i.val + r.val - 16), by omega⟩ : Fin 32768))
    (a : Fin 512) (s : Fin 2048) (hs : s.val = 512 * i.val + a.val) :
    k0_pay1 (F := Ideal) t v1 v3 v6 v8 v14 v30 (ix2 a c)
      = v30 (ix2 a c) * (v14 (ix2 (0 : Fin 3) c) * past f b s 2 + v14 (ix2 (1 : Fin 3) c) * past f b s 1 + v14 (ix2 (2 : Fin 3) c) * past f b s 0) := by
  have e := ext_at f b i (fun a => v1 (ix2 a c) * v3 (ix2 a c)) (fun q => v6 (ix2 q c) * v8 (ix2 q c)) hc hh
  rw [← back_past f b i a s hs 2 (by omega) _ rfl, ← back_past f b i a s hs 1 (by omega) _ rfl, ← back_past f b i a s hs 0 (by omega) _ rfl,
    ← e _ (by omega), ← e _ (by omega), ← e _ (by omega), dif_neg (by omega : ¬ 16 + a.val - 0 < 16)]
  have h1 : (16 + a.val + 528 - 1) % 528 = 16 + a.val - 1 := by omega
  have h2 : (16 + a.val + 528 - 2) % 528 = 16 + a.val - 2 := by omega
  pointwise [k0_pay1]
  simp only [h1, h2, ht]
  refine congrArg (fun z : EReal => v30 (ix2 a c) * z) ?_
  exact swap3 _ _ _

end Cert.MixerIdeal.Hand

end
-- ==== Proof.MixSoft.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixRef

/-! The attention of the mixer reference read at an index: the softmax. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

theorem top_any (y : FVec Ideal Cert.MixerReferenceIdeal.S16x16x8x128 .f32) (z : FVec Ideal Cert.MixerReferenceIdeal.S16x16x8x128x1 .f32) (b n : Fin 16) (h : Fin 8) (a : Fin 128) :
    maximumf (broadcastInDim Cert.MixerReferenceIdeal.S16x16x8x128x1 ![0, 1, 2, 3] Cert.MixerReferenceIdeal.Gen.bcast_S16x16x8x128_S16x16x8x128x1_0_1_2_3 y) z (ix5 b n h a (0 : Fin 1))
      = max (y (ix4 b n h a)) (z (ix5 b n h a (0 : Fin 1))) := by
  pointwise
theorem sink_raw (x5 : FVec Ideal S8 .f32) (b n : Fin 16) (h : Fin 8) (a : Fin 128) :
    val_main_v230 (F := Ideal) x5 (ix5 b n h a (0 : Fin 1)) = x5 (ix1 h) := by
  pointwise [val_main_v227, val_main_v230]
theorem top_raw (x2 : FVec Ideal S32768x1024 .bf16) (x3 : FVec Ideal S32768x256 .bf16) (x5 : FVec Ideal S8 .f32) (b n : Fin 16) (h : Fin 8) (a : Fin 128) :
    val_main_v231 (F := Ideal) x2 x3 x5 (ix5 b n h a (0 : Fin 1)) = max (val_main_v228 (F := Ideal) x2 x3 (ix4 b n h a)) (x5 (ix1 h)) := by
  refine (top_any _ _ b n h a).trans ?_
  rw [sink_raw]

/-- The largest score of a row, or the sink. -/
theorem top_ref (x2 : FVec Ideal S32768x1024 .bf16) (x3 : FVec Ideal S32768x256 .bf16) (x5 : FVec Ideal S8 .f32) (b n : Fin 16) (h : Fin 8) (a : Fin 128) :
    val_main_v231 (F := Ideal) x2 x3 x5 (ix5 b n h a (0 : Fin 1)) = rowTop (score x2 x3 b n h a) (x5 (ix1 h)) := by
  rw [top_raw]
  have e : (fun k => val_main_v226 (F := Ideal) x2 x3 (ix5 b n h a k)) = score x2 x3 b n h a := funext fun k => score_at x2 x3 b n h a k
  have e' := (max_ref x2 x3 b n h a).trans (congrArg (fun f => Finset.fold max (Ideal.ofBits FTy.f32 4286578688#32) f Finset.univ) e)
  exact congrArg (fun z : EReal => max z (x5 (ix1 h))) e'

/-- A row's exponentials. -/
theorem exp_ref (x2 : FVec Ideal S32768x1024 .bf16) (x3 : FVec Ideal S32768x256 .bf16) (x5 : FVec Ideal S8 .f32) (b n : Fin 16) (h : Fin 8) (a : Fin 128) (k : Fin 256) :
    val_main_v234 (F := Ideal) x2 x3 x5 (ix5 b n h a k) = rowExp (score x2 x3 b n h a) (x5 (ix1 h)) k := by
  pointwise [val_main_v232, val_main_v233, val_main_v234, score_at, top_ref, rowExp]

/-- A row's denominator. -/
theorem den_ref (x2 : FVec Ideal S32768x1024 .bf16) (x3 : FVec Ideal S32768x256 .bf16) (x5 : FVec Ideal S8 .f32) (b n : Fin 16) (h : Fin 8) (a : Fin 128) :
    val_main_v240 (F := Ideal) x2 x3 x5 (ix5 b n h a (0 : Fin 1)) = rowDen (score x2 x3 b n h a) (x5 (ix1 h)) := by
  pointwise [val_main_v227, val_main_cst_15, val_main_v235, val_main_v236, val_main_v237, val_main_v238, val_main_v239, val_main_v240, exp_ref, top_ref, rowDen]

/-- A row's weights. -/
theorem wt_ref (x2 : FVec Ideal S32768x1024 .bf16) (x3 : FVec Ideal S32768x256 .bf16) (x5 : FVec Ideal S8 .f32) (b n : Fin 16) (h : Fin 8) (a : Fin 128) (k : Fin 256) :
    val_main_v242 (F := Ideal) x2 x3 x5 (ix5 b n h a k) = Ideal.div (rowExp (score x2 x3 b n h a) (x5 (ix1 h)) k) (rowDen (score x2 x3 b n h a) (x5 (ix1 h))) := by
  pointwise [val_main_v241, val_main_v242, exp_ref, den_ref]

/-- The attention at a row, a head and a lane. -/
theorem att_ref (x2 : FVec Ideal S32768x1024 .bf16) (x3 : FVec Ideal S32768x256 .bf16) (x5 : FVec Ideal S8 .f32) (b : Fin 16) (s : Fin 2048) (h : Fin 8) (d : Fin 64) :
    val_main_v245 (F := Ideal) x2 x3 x5 (ix3 b s (⟨64 * h.val + d.val, by omega⟩ : Fin 512))
      = ∑ k, band x3 b (⟨s.val / 128, by omega⟩ : Fin 16) k (⟨128 + (64 * (h.val / 4) + d.val), by omega⟩ : Fin 256)
          * Ideal.div (rowExp (score x2 x3 b (⟨s.val / 128, by omega⟩ : Fin 16) h (⟨s.val % 128, by omega⟩ : Fin 128)) (x5 (ix1 h)) k)
            (rowDen (score x2 x3 b (⟨s.val / 128, by omega⟩ : Fin 16) h (⟨s.val % 128, by omega⟩ : Fin 128)) (x5 (ix1 h))) := by
  pointwise [val_main_v192, val_main_v193, val_main_v243, val_main_v244, val_main_v245, val_at, wt_ref]

end Cert.MixerIdeal.Hand

end
-- ==== Proof.MixDen.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixSoft

/-! Rows of real scores have a denominator that is not zero. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 1000000

/-- An extended real that is a real. -/
def IsReal (x : EReal) : Prop := ∃ r : ℝ, x = r

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.zero : IsReal 0 := ⟨0, rfl⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

theorem IsReal.lt_top {x : EReal} (hx : IsReal x) : x < ⊤ := by
  obtain ⟨r, rfl⟩ := hx
  exact EReal.coe_lt_top r

theorem exp_nonneg (x : EReal) : 0 ≤ Ideal.exp x := by
  induction x with
  | bot => simp
  | top => simp
  | coe r => simpa using (Real.exp_pos r).le

theorem exp_pos {x : EReal} (h : x ≠ ⊥) : 0 < Ideal.exp x := by
  induction x with
  | bot => exact absurd rfl h
  | top => simp
  | coe r => simpa using Real.exp_pos r

/-- A row of real scores below a real sink has a denominator that is not zero. -/
theorem den_ne_zero (s : Fin 256 → EReal) (z : EReal) (hs : ∀ k, s k < ⊤) (hz : IsReal z) : rowDen s z ≠ 0 := by
  have ht : rowTop s z < ⊤ := by
    unfold rowTop
    refine max_lt ((Finset.fold_max_lt _).2 ⟨?_, fun k _ => hs k⟩) hz.lt_top
    simp [Ideal.ofBits, Ideal.ieee]
  have h1 : z - rowTop s z ≠ ⊥ := by
    obtain ⟨r, rfl⟩ := hz
    intro h
    rw [sub_eq_add_neg, EReal.add_eq_bot_iff] at h
    rcases h with h | h
    · exact EReal.coe_ne_bot r h
    · exact ht.ne (EReal.neg_eq_bot_iff.1 h)
  have h2 := exp_pos h1
  unfold rowDen
  refine ne_of_gt (lt_of_lt_of_le h2 (le_add_of_nonneg_left (Finset.sum_nonneg fun k _ => ?_)))
  exact exp_nonneg _

/-- Every query is real: the columns from 512. -/
def QueriesReal (x2 : FVec Ideal S32768x1024 .bf16) : Prop :=
  ∀ (r : Fin 32768) (e : Fin 512), IsReal (x2 (ix2 r (⟨512 + e.val, by omega⟩ : Fin 1024)))

/-- Every key is real: the columns below 128. -/
def KeysReal (x3 : FVec Ideal S32768x256 .bf16) : Prop :=
  ∀ (r : Fin 32768) (e : Fin 128), IsReal (x3 (ix2 r (⟨e.val, by omega⟩ : Fin 256)))

/-- A band of real keys is real. -/
theorem band_real (x3 : FVec Ideal S32768x256 .bf16) (h3 : KeysReal x3) (b n : Fin 16) (k : Fin 256) (e : Fin 128) : IsReal (band x3 b n k (⟨e.val, by omega⟩ : Fin 256)) := by
  unfold band
  split
  · exact h3 _ e
  · exact IsReal.zero

/-- A score of real queries and keys is below the top. -/
theorem score_lt (x2 : FVec Ideal S32768x1024 .bf16) (x3 : FVec Ideal S32768x256 .bf16) (h2 : QueriesReal x2) (h3 : KeysReal x3)
    (b n : Fin 16) (h : Fin 8) (a : Fin 128) (k : Fin 256) : score x2 x3 b n h a k < ⊤ := by
  unfold score Scalar.select
  split
  · exact (IsReal.sum Finset.univ _ fun d : Fin 64 => (h2 _ (⟨64 * h.val + d.val, by omega⟩ : Fin 512)).mul (band_real x3 h3 _ _ _ (⟨64 * (h.val / 4) + d.val, by omega⟩ : Fin 128))).lt_top
  · rw [lt_top_iff_ne_top]
    simp only [Ideal.ofBits, Ideal.ieee]
    rw [if_neg (by decide), if_neg (by decide)]
    exact EReal.coe_ne_top _

end Cert.MixerIdeal.Hand

end
-- ==== Proof.MixStored.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixTile

/-! The eight tiles a grid point stores are the attention tile of MixTile, each at its band of keys. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

/-- The tile stored for block 0 of queries and key head 0. -/
theorem stored_00 (valid : IVec S128x256 1) (kx : FVec Ideal S640x256 .bf16) (q : FVec Ideal S128x256 .bf16) (s0 s1 s2 s3 : Ideal .f32) :
    k0_pay23 valid (k0_pay17 kx k0_pay13) (k0_pay18 kx k0_pay13 q) (k0_pay20 valid (k0_pay19 kx k0_pay13 q) s0) (k0_pay21 valid (k0_pay18 kx k0_pay13 q) s1) (k0_pay22 valid (k0_pay18 kx k0_pay13 q)) s2 s3
    = tile0 valid (k0_pay15 kx) q s0 s1 s2 s3 := rfl

/-- The tile stored for block 0 of queries and key head 1. -/
theorem stored_01 (valid : IVec S128x256 1) (kx : FVec Ideal S640x256 .bf16) (q : FVec Ideal S128x256 .bf16) (s0 s1 s2 s3 : Ideal .f32) :
    k0_pay36 valid (k0_pay26 k0_pay13 (k0_pay15 kx)) (k0_pay32 (k0_pay30 k0_pay13 valid (k0_pay24 (k0_pay15 kx)) (k0_pay25 (k0_pay15 kx)) q s0) (k0_pay31 k0_pay13 valid (k0_pay24 (k0_pay15 kx)) (k0_pay25 (k0_pay15 kx)) q s0) (FloatOps.ofBits FTy.f32 1065353216#32 : Ideal .f32)) (k0_pay33 valid (k0_pay27 k0_pay13 (k0_pay24 (k0_pay15 kx)) (k0_pay25 (k0_pay15 kx)) q) s1) (k0_pay34 valid (k0_pay27 k0_pay13 (k0_pay24 (k0_pay15 kx)) (k0_pay25 (k0_pay15 kx)) q) s2) (k0_pay35 (k0_pay27 k0_pay13 (k0_pay24 (k0_pay15 kx)) (k0_pay25 (k0_pay15 kx)) q)) s3
    = tile1 valid (k0_pay15 kx) q s0 s1 s2 s3 := rfl

/-- The band of 256 keys from row 128. -/
def band1 (kx : FVec Ideal S640x256 .bf16) : FVec Ideal S256x256 .f32 :=
  extf .f32 (extractStridedSlice S256x256 ![128, 0] kx slices_S640x256_o128_0_S256x256) bitsLt_bf16_f32

/-- The tile stored for block 1 of queries and key head 0. -/
theorem stored_10 (valid : IVec S128x256 1) (kx : FVec Ideal S640x256 .bf16) (q : FVec Ideal S128x256 .bf16) (s0 s1 s2 s3 : Ideal .f32) :
    k0_pay54 (k0_pay41 k0_pay13 (k0_pay39 kx) (k0_pay40 kx) (FloatOps.ofBits FTy.f32 0#32 : Ideal .f32)) (k0_pay43 valid (k0_pay38 kx k0_pay13) q s0) (k0_pay47 s1 (k0_pay45 valid (k0_pay38 kx k0_pay13) q s1) (k0_pay46 valid (k0_pay38 kx k0_pay13) q s1)) (k0_pay48 valid (k0_pay42 (k0_pay38 kx k0_pay13) q) s2) (k0_pay51 valid (k0_pay42 (k0_pay38 kx k0_pay13) q) s3) (k0_pay52 valid (k0_pay42 (k0_pay38 kx k0_pay13) q) s3) (k0_pay53 valid (k0_pay42 (k0_pay38 kx k0_pay13) q) s3)
    = tile0 valid (band1 kx) q s0 s1 s2 s3 := rfl

/-- The tile stored for block 1 of queries and key head 1. -/
theorem stored_11 (valid : IVec S128x256 1) (kx : FVec Ideal S640x256 .bf16) (q : FVec Ideal S128x256 .bf16) (s0 s1 s2 s3 : Ideal .f32) :
    k0_pay62 valid (k0_pay55 k0_pay13 (k0_pay37 kx)) (k0_pay56 k0_pay13 (k0_pay37 kx) q) (k0_pay58 valid (k0_pay57 k0_pay13 (k0_pay37 kx) q) (FloatOps.ofBits FTy.f32 4048155338#32 : Ideal .f32) s0) (k0_pay59 valid (k0_pay56 k0_pay13 (k0_pay37 kx) q) s1) (k0_pay60 valid (k0_pay56 k0_pay13 (k0_pay37 kx) q)) s2 (k0_pay61 valid (k0_pay56 k0_pay13 (k0_pay37 kx) q)) s3
    = tile1 valid (band1 kx) q s0 s1 s2 s3 := rfl

/-- The band of 256 keys from row 256. -/
def band2 (kx : FVec Ideal S640x256 .bf16) : FVec Ideal S256x256 .f32 :=
  extf .f32 (extractStridedSlice S256x256 ![256, 0] kx slices_S640x256_o256_0_S256x256) bitsLt_bf16_f32

/-- The tile stored for block 2 of queries and key head 0. -/
theorem stored_20 (valid : IVec S128x256 1) (kx : FVec Ideal S640x256 .bf16) (q : FVec Ideal S128x256 .bf16) (s0 s1 s2 s3 : Ideal .f32) :
    k0_pay74 valid (k0_pay65 k0_pay13 (k0_pay63 kx)) (k0_pay66 k0_pay13 (k0_pay64 kx) (64#32) q) (k0_pay71 (k0_pay69 k0_pay13 valid (k0_pay64 kx) (64#32) q s0) (k0_pay70 k0_pay13 valid (k0_pay64 kx) (64#32) q s0)) (k0_pay72 valid (k0_pay66 k0_pay13 (k0_pay64 kx) (64#32) q) s1) (k0_pay73 valid (k0_pay66 k0_pay13 (k0_pay64 kx) (64#32) q) s2) s3
    = tile0 valid (band2 kx) q s0 s1 s2 s3 := rfl

/-- The tile stored for block 2 of queries and key head 1. -/
theorem stored_21 (valid : IVec S128x256 1) (kx : FVec Ideal S640x256 .bf16) (q : FVec Ideal S128x256 .bf16) (s0 s1 s2 s3 : Ideal .f32) :
    k0_pay91 (k0_pay79 k0_pay13 (k0_pay76 (k0_pay63 kx)) (k0_pay77 (k0_pay63 kx)) k0_pay78) (k0_pay81 valid (k0_pay75 k0_pay13 (k0_pay63 kx)) q s0) (k0_pay85 s1 (k0_pay83 valid (k0_pay75 k0_pay13 (k0_pay63 kx)) q s1) (k0_pay84 valid (k0_pay75 k0_pay13 (k0_pay63 kx)) q s1)) (k0_pay86 valid (k0_pay80 (k0_pay75 k0_pay13 (k0_pay63 kx)) q) s2) (k0_pay89 valid (k0_pay80 (k0_pay75 k0_pay13 (k0_pay63 kx)) q) s3) (k0_pay90 valid (k0_pay80 (k0_pay75 k0_pay13 (k0_pay63 kx)) q) s3)
    = tile1 valid (band2 kx) q s0 s1 s2 s3 := rfl

/-- The band of 256 keys from row 384. -/
def band3 (kx : FVec Ideal S640x256 .bf16) : FVec Ideal S256x256 .f32 :=
  extf .f32 (extractStridedSlice S256x256 ![384, 0] kx slices_S640x256_o384_0_S256x256) bitsLt_bf16_f32

/-- The tile stored for block 3 of queries and key head 0. -/
theorem stored_30 (valid : IVec S128x256 1) (kx : FVec Ideal S640x256 .bf16) (q : FVec Ideal S128x256 .bf16) (s0 s1 s2 s3 : Ideal .f32) :
    k0_pay99 valid (k0_pay93 kx k0_pay13) (k0_pay94 kx k0_pay13 q) (k0_pay96 valid (k0_pay95 kx k0_pay13 q) s0) (k0_pay97 valid (k0_pay94 kx k0_pay13 q) s1) (k0_pay98 valid (k0_pay94 kx k0_pay13 q)) s2 s3
    = tile0 valid (band3 kx) q s0 s1 s2 s3 := rfl

/-- The tile stored for block 3 of queries and key head 1. -/
theorem stored_31 (valid : IVec S128x256 1) (kx : FVec Ideal S640x256 .bf16) (q : FVec Ideal S128x256 .bf16) (s0 s1 s2 s3 : Ideal .f32) :
    k0_pay112 valid (k0_pay102 k0_pay13 (k0_pay92 kx)) (k0_pay108 (k0_pay106 k0_pay13 valid (k0_pay100 (k0_pay92 kx)) (k0_pay101 (k0_pay92 kx)) q s0) (k0_pay107 k0_pay13 valid (k0_pay100 (k0_pay92 kx)) (k0_pay101 (k0_pay92 kx)) q s0) (FloatOps.ofBits FTy.f32 1065353216#32 : Ideal .f32)) (k0_pay109 valid (k0_pay103 k0_pay13 (k0_pay100 (k0_pay92 kx)) (k0_pay101 (k0_pay92 kx)) q) s1) (k0_pay110 valid (k0_pay103 k0_pay13 (k0_pay100 (k0_pay92 kx)) (k0_pay101 (k0_pay92 kx)) q) s2) (k0_pay111 (k0_pay103 k0_pay13 (k0_pay100 (k0_pay92 kx)) (k0_pay101 (k0_pay92 kx)) q)) s3
    = tile1 valid (band3 kx) q s0 s1 s2 s3 := rfl

end Cert.MixerIdeal.Hand

end
-- ==== Proof.MixAtt.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixBranch
public import proofs.«01_k».proof.Proof.MixDen
public import proofs.«01_k».proof.Proof.MixStored

/-! The attention tiles of a grid point are the reference's attention. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- The attention of the reference at a position and a column of the heads. -/
def attAt (x2 : FVec Ideal S32768x1024 .bf16) (x3 : FVec Ideal S32768x256 .bf16) (x5 : FVec Ideal S8 .f32) (b : Fin 16) (s : Fin 2048) (c : Fin 512) : EReal :=
  ∑ k, band x3 b (⟨s.val / 128, by omega⟩ : Fin 16) k (⟨128 + (64 * (c.val / 64 / 4) + c.val % 64), by omega⟩ : Fin 256)
    * Ideal.div (rowExp (score x2 x3 b (⟨s.val / 128, by omega⟩ : Fin 16) (⟨c.val / 64, by omega⟩ : Fin 8) (⟨s.val % 128, by omega⟩ : Fin 128)) (x5 (ix1 (⟨c.val / 64, by omega⟩ : Fin 8))) k)
      (rowDen (score x2 x3 b (⟨s.val / 128, by omega⟩ : Fin 16) (⟨c.val / 64, by omega⟩ : Fin 8) (⟨s.val % 128, by omega⟩ : Fin 128)) (x5 (ix1 (⟨c.val / 64, by omega⟩ : Fin 8))))

/-- The reference's attention is that value. -/
theorem att_at (x2 : FVec Ideal S32768x1024 .bf16) (x3 : FVec Ideal S32768x256 .bf16) (x5 : FVec Ideal S8 .f32) (b : Fin 16) (s : Fin 2048) (c : Fin 512) :
    val_main_v245 (F := Ideal) x2 x3 x5 (ix3 b s c) = attAt x2 x3 x5 b s c := by
  have e : c = (⟨64 * (c.val / 64) + c.val % 64, by omega⟩ : Fin 512) := Fin.ext (by simp; omega)
  refine Eq.trans (congrArg (fun c => val_main_v245 (F := Ideal) x2 x3 x5 (ix3 b s c)) e) ?_
  exact att_ref x2 x3 x5 b s (⟨c.val / 64, by omega⟩ : Fin 8) (⟨c.val % 64, by omega⟩ : Fin 64)

section

variable (x2 : FVec Ideal S32768x1024 .bf16) (x3 : FVec Ideal S32768x256 .bf16) (x5 : FVec Ideal S8 .f32)
  (h2 : QueriesReal x2) (h3 : KeysReal x3) (h5 : ∀ i, IsReal (x5 i))
  (valid : IVec S128x256 1) (bnd : FVec Ideal S256x256 .f32) (q : FVec Ideal S128x256 .bf16) (s0 s1 s2 s3 : Ideal .f32) (b n : Fin 16)
  (hv : ∀ (a : Fin 128) (k : Fin 256), valid (ix2 a k) = IntOp.andi (near a k) (started n k))
  (hb : ∀ k col : Fin 256, bnd (ix2 k col) = band x3 b n k col)

include h2 h3 h5 hv hb

/-- The attention value at the head and lane of a tile's column, from the tile's sum. -/
theorem att_of (g : Fin 2) (hq : ∀ (a : Fin 128) (e : Fin 256), q (ix2 a e) = x2 (ix2 (⟨2048 * b.val + (128 * n.val + a.val), by omega⟩ : Fin 32768) (⟨512 + (256 * g.val + e.val), by omega⟩ : Fin 1024)))
    (hs : ∀ hh : Fin 4, (![s0, s1, s2, s3] : Fin 4 → EReal) hh = x5 (ix1 (⟨4 * g.val + hh.val, by omega⟩ : Fin 8)))
    (a : Fin 128) (hh : Fin 4) (d : Fin 64) (s : Fin 2048) (hsa : s.val = 128 * n.val + a.val) (c : Fin 512) (hc : c.val = 256 * g.val + (64 * hh.val + d.val)) :
    ∑ k, rowExp (sc valid q (fun k d => bnd (ix2 k (⟨64 * g.val + d.val, by omega⟩ : Fin 256))) hh a) ((![s0, s1, s2, s3] : Fin 4 → EReal) hh) k
          * Ideal.div 1 (rowDen (sc valid q (fun k d => bnd (ix2 k (⟨64 * g.val + d.val, by omega⟩ : Fin 256))) hh a) ((![s0, s1, s2, s3] : Fin 4 → EReal) hh))
          * bnd (ix2 k (⟨128 + (64 * g.val + d.val), by omega⟩ : Fin 256))
      = attAt x2 x3 x5 b s c := by
  have en : (⟨s.val / 128, by omega⟩ : Fin 16) = n := Fin.ext (by simp; omega)
  have ea : (⟨s.val % 128, by omega⟩ : Fin 128) = a := Fin.ext (by simp; omega)
  have eh : (⟨c.val / 64, by omega⟩ : Fin 8) = (⟨4 * g.val + hh.val, by omega⟩ : Fin 8) := Fin.ext (by simp; omega)
  have esc : sc valid q (fun k d => bnd (ix2 k (⟨64 * g.val + d.val, by omega⟩ : Fin 256))) hh a = score x2 x3 b n (⟨4 * g.val + hh.val, by omega⟩ : Fin 8) a := by
    funext k
    unfold sc score
    refine congrArg₂ (fun v z => Scalar.select v z (Ideal.ofBits .f32 0xF149F2CA#32)) (hv a k) (Finset.sum_congr rfl fun e _ => congrArg₂ (fun x y : EReal => x * y) ?_ ?_)
    · refine (hq _ _).trans (congrArg x2 (congrArg₂ ix2 rfl (Fin.ext (by simp; omega))))
    · refine (hb _ _).trans (congrArg (band x3 b n k) (Fin.ext (by simp; omega)))
  unfold attAt
  rw [en, ea, eh, esc, hs hh]
  refine Finset.sum_congr rfl fun k _ => ?_
  rw [hb, mul_comm, Ideal.mul_one_div (den_ne_zero _ _ (fun k => score_lt x2 x3 h2 h3 _ _ _ _ k) (h5 _))]
  exact congrArg (fun z => band x3 b n k z * _) (Fin.ext (by simp; omega))

/-- The tile stored for key head 0 is the reference's attention. -/
theorem tile0_ref (hq : ∀ (a : Fin 128) (e : Fin 256), q (ix2 a e) = x2 (ix2 (⟨2048 * b.val + (128 * n.val + a.val), by omega⟩ : Fin 32768) (⟨512 + e.val, by omega⟩ : Fin 1024)))
    (t0 : s0 = x5 (ix1 (0 : Fin 8))) (t1 : s1 = x5 (ix1 (1 : Fin 8))) (t2 : s2 = x5 (ix1 (2 : Fin 8))) (t3 : s3 = x5 (ix1 (3 : Fin 8)))
    (a : Fin 128) (e : Fin 256) (s : Fin 2048) (hsa : s.val = 128 * n.val + a.val) (c : Fin 512) (hc : c.val = e.val) :
    tile0 valid bnd q s0 s1 s2 s3 (ix2 a e) = attAt x2 x3 x5 b s c := by
  have ee : e = (⟨64 * (⟨e.val / 64, by omega⟩ : Fin 4).val + (⟨e.val % 64, by omega⟩ : Fin 64).val, by simp; omega⟩ : Fin 256) := Fin.ext (by simp; omega)
  refine Eq.trans (congrArg (fun e => tile0 valid bnd q s0 s1 s2 s3 (ix2 a e)) ee) ((tile0_at valid bnd q s0 s1 s2 s3 _ a _).trans ?_)
  refine Eq.trans ?_ (att_of x2 x3 x5 h2 h3 h5 valid bnd q s0 s1 s2 s3 b n hv hb 0 (fun a e => (hq a e).trans (congrArg x2 (congrArg₂ ix2 rfl (Fin.ext (by simp)))))
    (fun hh => by subst t0 t1 t2 t3; fin_cases hh <;> rfl) a (⟨e.val / 64, by omega⟩ : Fin 4) (⟨e.val % 64, by omega⟩ : Fin 64) s hsa c (by simp; omega))
  simp

/-- The tile stored for key head 1 is the reference's attention. -/
theorem tile1_ref (hq : ∀ (a : Fin 128) (e : Fin 256), q (ix2 a e) = x2 (ix2 (⟨2048 * b.val + (128 * n.val + a.val), by omega⟩ : Fin 32768) (⟨768 + e.val, by omega⟩ : Fin 1024)))
    (t0 : s0 = x5 (ix1 (4 : Fin 8))) (t1 : s1 = x5 (ix1 (5 : Fin 8))) (t2 : s2 = x5 (ix1 (6 : Fin 8))) (t3 : s3 = x5 (ix1 (7 : Fin 8)))
    (a : Fin 128) (e : Fin 256) (s : Fin 2048) (hsa : s.val = 128 * n.val + a.val) (c : Fin 512) (hc : c.val = 256 + e.val) :
    tile1 valid bnd q s0 s1 s2 s3 (ix2 a e) = attAt x2 x3 x5 b s c := by
  have ee : e = (⟨64 * (⟨e.val / 64, by omega⟩ : Fin 4).val + (⟨e.val % 64, by omega⟩ : Fin 64).val, by simp; omega⟩ : Fin 256) := Fin.ext (by simp; omega)
  refine Eq.trans (congrArg (fun e => tile1 valid bnd q s0 s1 s2 s3 (ix2 a e)) ee) ((tile1_at valid bnd q s0 s1 s2 s3 _ a _).trans ?_)
  refine Eq.trans ?_ (att_of x2 x3 x5 h2 h3 h5 valid bnd q s0 s1 s2 s3 b n hv hb 1 (fun a e => (hq a e).trans (congrArg x2 (congrArg₂ ix2 rfl (Fin.ext (by simp; omega)))))
    (fun hh => by subst t0 t1 t2 t3; fin_cases hh <;> rfl) a (⟨e.val / 64, by omega⟩ : Fin 4) (⟨e.val % 64, by omega⟩ : Fin 64) s hsa c (by simp; omega))
  refine Finset.sum_congr rfl fun k _ => congrArg (fun z => _ * bnd (ix2 k z)) (Fin.ext (by simp; omega))

end

/-- Whether a key is in the window, as the kernel computes it. -/
theorem near_pay (a : Fin 128) (k : Fin 256) :
    k0_pay14 (iota Kind.tc S128x256 32 [0] iota_S128x256_d0_w32) (iota Kind.tc S128x256 32 [1] iota_S128x256_d1_w32) 128#32 (ix2 a k) = near a k := by
  pointwise [k0_pay14, near]

/-- In a block that is not the first every key of the band has started. -/
theorem started_all : ∀ (n : Fin 16) (k : Fin 256), n.val ≠ 0 → started n k = 1#1 := by decide +kernel

/-- In the first block of a tile a key has started if it is of the block itself or the tile is not the first. -/
theorem started_first : ∀ (i : Fin 4) (k : Fin 256),
    IntOp.ori (IntOp.cmpi CmpIPredicate.sge (BitVec.ofNat 32 k.val) 128#32) (Scalar.cmpi CmpIPredicate.sgt (BitVec.ofNat 32 i.val) 0#32)
      = started (⟨4 * i.val, by omega⟩ : Fin 16) k := by decide +kernel

theorem valid_later (n : Fin 16) (hn : n.val ≠ 0) (a : Fin 128) (k : Fin 256) :
    k0_pay14 (iota Kind.tc S128x256 32 [0] iota_S128x256_d0_w32) (iota Kind.tc S128x256 32 [1] iota_S128x256_d1_w32) 128#32 (ix2 a k)
      = IntOp.andi (near a k) (started n k) := by
  rw [near_pay, started_all n k hn]
  have : ∀ x : BitVec 1, x = IntOp.andi x 1#1 := by decide
  exact this _

theorem valid_first (i : Fin 4) (a : Fin 128) (k : Fin 256) :
    k0_pay16 (Scalar.cmpi CmpIPredicate.sgt (BitVec.ofNat 32 i.val) 0#32) (iota Kind.tc S128x256 32 [0] iota_S128x256_d0_w32) (iota Kind.tc S128x256 32 [1] iota_S128x256_d1_w32) 128#32 (ix2 a k)
      = IntOp.andi (near a k) (started (⟨4 * i.val, by omega⟩ : Fin 16) k) := by
  rw [← started_first i k]
  pointwise [k0_pay16]
  rw [near_pay]

/-- A tile's rows are the array's rows of a sequence. -/
def CurAt (x3 : FVec Ideal S32768x256 .bf16) (b : Fin 16) (i : Fin 4) (cur : FVec Ideal S512x256 .bf16) : Prop :=
  ∀ (a : Fin 512) (c : Fin 256), cur (ix2 a c) = x3 (ix2 (⟨2048 * b.val + (512 * i.val + a.val), by omega⟩ : Fin 32768) c)

/-- Past the first tile of a sequence, the rows before a tile are the array's 128 rows before it. -/
def HaloAt (x3 : FVec Ideal S32768x256 .bf16) (b : Fin 16) (i : Fin 4) (halo : FVec Ideal S128x256 .bf16) : Prop :=
  i.val ≠ 0 → ∀ (r : Fin 128) (c : Fin 256), halo (ix2 r c) = x3 (ix2 (⟨2048 * b.val + (512 * i.val + r.val - 128), by omega⟩ : Fin 32768) c)

section

variable (x3 : FVec Ideal S32768x256 .bf16) (b : Fin 16) (i : Fin 4) (cur : FVec Ideal S512x256 .bf16) (halo : FVec Ideal S128x256 .bf16)
  (hc : CurAt x3 b i cur) (hh : HaloAt x3 b i halo)

include hc hh

/-- The tile's rows with the 128 before them, read at a row. -/
theorem kext_at (n : Fin 16) (k : Fin 256) (r : Fin 640) (hr : 512 * i.val + r.val = 128 * n.val + k.val) (c : Fin 256) :
    k0_pay12 (F := Ideal) (Scalar.cmpi CmpIPredicate.sgt (BitVec.ofNat 32 i.val) 0#32) halo cur (ix2 r c) = band x3 b n k c := by
  pointwise [k0_pay12, band]
  split
  · refine (sel_first i _).trans ?_
    split
    · rw [dif_neg (by omega)]
    · rw [dif_pos (by omega), hh (by assumption) _ _]
      exact congrArg x3 (congrArg₂ ix2 (Fin.ext (by simp; omega)) rfl)
  · rw [dif_pos (by omega), hc _ _]
    exact congrArg x3 (congrArg₂ ix2 (Fin.ext (by simp; omega)) rfl)

/-- The band of block 0 of a tile is the reference's band. -/
theorem band0_at (k c : Fin 256) :
    k0_pay15 (k0_pay12 (F := Ideal) (Scalar.cmpi CmpIPredicate.sgt (BitVec.ofNat 32 i.val) 0#32) halo cur) (ix2 k c) = band x3 b (⟨4 * i.val, by omega⟩ : Fin 16) k c := by
  refine Eq.trans ?_ (kext_at x3 b i cur halo hc hh (⟨4 * i.val, by omega⟩ : Fin 16) k (⟨0 + k.val, by omega⟩ : Fin 640) (by simp; omega) c)
  pointwise [k0_pay15]

/-- The band of block 1 of a tile is the reference's band. -/
theorem band1_at (k c : Fin 256) :
    band1 (k0_pay12 (F := Ideal) (Scalar.cmpi CmpIPredicate.sgt (BitVec.ofNat 32 i.val) 0#32) halo cur) (ix2 k c) = band x3 b (⟨4 * i.val + 1, by omega⟩ : Fin 16) k c := by
  refine Eq.trans ?_ (kext_at x3 b i cur halo hc hh (⟨4 * i.val + 1, by omega⟩ : Fin 16) k (⟨128 + k.val, by omega⟩ : Fin 640) (by simp; omega) c)
  pointwise [band1]

/-- The band of block 2 of a tile is the reference's band. -/
theorem band2_at (k c : Fin 256) :
    band2 (k0_pay12 (F := Ideal) (Scalar.cmpi CmpIPredicate.sgt (BitVec.ofNat 32 i.val) 0#32) halo cur) (ix2 k c) = band x3 b (⟨4 * i.val + 2, by omega⟩ : Fin 16) k c := by
  refine Eq.trans ?_ (kext_at x3 b i cur halo hc hh (⟨4 * i.val + 2, by omega⟩ : Fin 16) k (⟨256 + k.val, by omega⟩ : Fin 640) (by simp; omega) c)
  pointwise [band2]

/-- The band of block 3 of a tile is the reference's band. -/
theorem band3_at (k c : Fin 256) :
    band3 (k0_pay12 (F := Ideal) (Scalar.cmpi CmpIPredicate.sgt (BitVec.ofNat 32 i.val) 0#32) halo cur) (ix2 k c) = band x3 b (⟨4 * i.val + 3, by omega⟩ : Fin 16) k c := by
  refine Eq.trans ?_ (kext_at x3 b i cur halo hc hh (⟨4 * i.val + 3, by omega⟩ : Fin 16) k (⟨384 + k.val, by omega⟩ : Fin 640) (by simp; omega) c)
  pointwise [band3]

end

end Cert.MixerIdeal.Hand

end
-- ==== Proof.MixMerge.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixAtt

/-! The merge of the branches, of the reference and of a grid point. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- The four groups' pooled values, at a group. -/
theorem groups_at (x2 : FVec Ideal S32768x1024 .bf16) (b : Fin 16) (s : Fin 2048) (g : Fin 4) (k : Fin 128) :
    val_main_v166 (F := Ideal) x2 (ix4 b s g k) = mean (pooled x2 g k) b s (![2, 4, 8, 16] g) := by
  fin_cases g
  · exact Eq.trans (by pointwise [val_main_v162, val_main_v163, val_main_v164, val_main_v165, val_main_v166]) (pool_0 x2 b s k)
  · exact Eq.trans (by pointwise [val_main_v162, val_main_v163, val_main_v164, val_main_v165, val_main_v166]) (pool_1 x2 b s k)
  · exact Eq.trans (by pointwise [val_main_v162, val_main_v163, val_main_v164, val_main_v165, val_main_v166]) (pool_2 x2 b s k)
  · exact Eq.trans (by pointwise [val_main_v162, val_main_v163, val_main_v164, val_main_v165, val_main_v166]) (pool_3 x2 b s k)

/-- The reference's pooling branch. -/
theorem pool_ref (x2 : FVec Ideal S32768x1024 .bf16) (x7 : FVec Ideal S4x128x128 .f32) (x8 : FVec Ideal S512 .f32) (b : Fin 16) (s : Fin 2048) (g : Fin 4) (d : Fin 128) :
    val_main_v172 (F := Ideal) x2 x7 x8 (ix3 b s (⟨128 * g.val + d.val, by omega⟩ : Fin 512))
      = (∑ k : Fin 128, x7 (ix3 g k d) * mean (pooled x2 g k) b s (![2, 4, 8, 16] g)) * x8 (ix1 (⟨128 * g.val + d.val, by omega⟩ : Fin 512)) := by
  have e : ∀ k, val_main_v166 (F := Ideal) x2 (ix4 b s g k) = mean (pooled x2 g k) b s (![2, 4, 8, 16] g) := groups_at x2 b s g
  simp only [← e]
  pointwise [val_main_v167, val_main_v168, val_main_v169, val_main_v170, val_main_v171, val_main_v172]

/-- A gate: the sigmoid. -/
def gate (x : EReal) : EReal := Ideal.div (Ideal.ofBits .f32 0x3F800000#32) (Ideal.ofBits .f32 0x3F800000#32 + Ideal.exp (-x))

/-- Three arrays joined along a new axis: the first. -/
theorem join_0 (z0 z1 z2 : FVec Ideal Cert.MixerReferenceIdeal.S16x2048x1x512 .f32) (b : Fin 16) (s : Fin 2048) (c : Fin 512) :
    (concatenate Cert.MixerReferenceIdeal.S16x2048x3x512 2 [⟨Cert.MixerReferenceIdeal.S16x2048x1x512, z0⟩, ⟨Cert.MixerReferenceIdeal.S16x2048x1x512, z1⟩, ⟨Cert.MixerReferenceIdeal.S16x2048x1x512, z2⟩]
        Cert.MixerReferenceIdeal.Gen.concatenates_S16x2048x1x512_S16x2048x1x512_S16x2048x1x512_S16x2048x3x512_d2 : FVec Ideal Cert.MixerReferenceIdeal.S16x2048x3x512 .f32) (ix4 b s (0 : Fin 3) c)
      = z0 (ix4 b s (0 : Fin 1) c) := by
  pointwise

/-- Three arrays joined along a new axis: the second. -/
theorem join_1 (z0 z1 z2 : FVec Ideal Cert.MixerReferenceIdeal.S16x2048x1x512 .f32) (b : Fin 16) (s : Fin 2048) (c : Fin 512) :
    (concatenate Cert.MixerReferenceIdeal.S16x2048x3x512 2 [⟨Cert.MixerReferenceIdeal.S16x2048x1x512, z0⟩, ⟨Cert.MixerReferenceIdeal.S16x2048x1x512, z1⟩, ⟨Cert.MixerReferenceIdeal.S16x2048x1x512, z2⟩]
        Cert.MixerReferenceIdeal.Gen.concatenates_S16x2048x1x512_S16x2048x1x512_S16x2048x1x512_S16x2048x3x512_d2 : FVec Ideal Cert.MixerReferenceIdeal.S16x2048x3x512 .f32) (ix4 b s (1 : Fin 3) c)
      = z1 (ix4 b s (0 : Fin 1) c) := by
  pointwise

/-- Three arrays joined along a new axis: the third. -/
theorem join_2 (z0 z1 z2 : FVec Ideal Cert.MixerReferenceIdeal.S16x2048x1x512 .f32) (b : Fin 16) (s : Fin 2048) (c : Fin 512) :
    (concatenate Cert.MixerReferenceIdeal.S16x2048x3x512 2 [⟨Cert.MixerReferenceIdeal.S16x2048x1x512, z0⟩, ⟨Cert.MixerReferenceIdeal.S16x2048x1x512, z1⟩, ⟨Cert.MixerReferenceIdeal.S16x2048x1x512, z2⟩]
        Cert.MixerReferenceIdeal.Gen.concatenates_S16x2048x1x512_S16x2048x1x512_S16x2048x1x512_S16x2048x3x512_d2 : FVec Ideal Cert.MixerReferenceIdeal.S16x2048x3x512 .f32) (ix4 b s (2 : Fin 3) c)
      = z2 (ix4 b s (0 : Fin 1) c) := by
  pointwise

/-- An array under a new axis, read at an index. -/
theorem under_at (y : FVec Ideal Cert.MixerReferenceIdeal.S16x2048x512 .f32) (b : Fin 16) (s : Fin 2048) (c : Fin 512) :
    broadcastInDim Cert.MixerReferenceIdeal.S16x2048x1x512 ![0, 1, 3] Cert.MixerReferenceIdeal.Gen.bcast_S16x2048x512_S16x2048x1x512_0_1_3 y (ix4 b s (0 : Fin 1) c) = y (ix3 b s c) := by
  pointwise

/-- Branch 0 of the reference's stack. -/
theorem stack_0 (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (c : Fin 512) :
    val_main_v249 (F := Ideal) x1 x2 x3 x5 x6 x7 x8 (ix4 b s (0 : Fin 3) c) = val_main_v33 (F := Ideal) x1 x6 (ix3 b s c) := by
  have e1 : val_main_v249 (F := Ideal) x1 x2 x3 x5 x6 x7 x8 (ix4 b s (0 : Fin 3) c) = val_main_v246 (F := Ideal) x1 x6 (ix4 b s (0 : Fin 1) c) := by
    unfold val_main_v249
    exact join_0 _ _ _ b s c
  have e2 : val_main_v246 (F := Ideal) x1 x6 (ix4 b s (0 : Fin 1) c) = val_main_v33 (F := Ideal) x1 x6 (ix3 b s c) := by
    unfold val_main_v246
    exact under_at _ b s c
  exact e1.trans e2

/-- Branch 1 of the reference's stack. -/
theorem stack_1 (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (c : Fin 512) :
    val_main_v249 (F := Ideal) x1 x2 x3 x5 x6 x7 x8 (ix4 b s (1 : Fin 3) c) = val_main_v172 (F := Ideal) x2 x7 x8 (ix3 b s c) := by
  have e1 : val_main_v249 (F := Ideal) x1 x2 x3 x5 x6 x7 x8 (ix4 b s (1 : Fin 3) c) = val_main_v247 (F := Ideal) x2 x7 x8 (ix4 b s (0 : Fin 1) c) := by
    unfold val_main_v249
    exact join_1 _ _ _ b s c
  have e2 : val_main_v247 (F := Ideal) x2 x7 x8 (ix4 b s (0 : Fin 1) c) = val_main_v172 (F := Ideal) x2 x7 x8 (ix3 b s c) := by
    unfold val_main_v247
    exact under_at _ b s c
  exact e1.trans e2

/-- Branch 2 of the reference's stack. -/
theorem stack_2 (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (c : Fin 512) :
    val_main_v249 (F := Ideal) x1 x2 x3 x5 x6 x7 x8 (ix4 b s (2 : Fin 3) c) = val_main_v245 (F := Ideal) x2 x3 x5 (ix3 b s c) := by
  have e1 : val_main_v249 (F := Ideal) x1 x2 x3 x5 x6 x7 x8 (ix4 b s (2 : Fin 3) c) = val_main_v248 (F := Ideal) x2 x3 x5 (ix4 b s (0 : Fin 1) c) := by
    unfold val_main_v249
    exact join_2 _ _ _ b s c
  have e2 : val_main_v248 (F := Ideal) x2 x3 x5 (ix4 b s (0 : Fin 1) c) = val_main_v245 (F := Ideal) x2 x3 x5 (ix3 b s c) := by
    unfold val_main_v248
    exact under_at _ b s c
  exact e1.trans e2

/-- The reference's result from its branches. -/
theorem merge_ref (x0 : FVec Ideal S32768x1024 .f32) (x1 : FVec Ideal S32768x1536 .bf16) (x2 : FVec Ideal S32768x1024 .bf16) (x3 : FVec Ideal S32768x256 .bf16) (x4 : FVec Ideal S32768x3072 .bf16) (x5 : FVec Ideal S8 .f32) (x6 : FVec Ideal S3x512 .f32) (x7 : FVec Ideal S4x128x128 .f32) (x8 : FVec Ideal S512 .f32) (x9 : FVec Ideal S3x512x1024 .f32) (x10 : FVec Ideal S1024x1024 .f32) (b : Fin 16) (s : Fin 2048) (col : Fin 1024) (r : Fin 32768) (hr : r.val = 2048 * b.val + s.val)
    (β : Fin 3 → Fin 512 → EReal) (hβ : ∀ q c, val_main_v249 (F := Ideal) x1 x2 x3 x5 x6 x7 x8 (ix4 b s q c) = β q c) :
    val_main_v263 (F := Ideal) x0 x1 x2 x3 x4 x5 x6 x7 x8 x9 x10 (ix2 r col)
      = x0 (ix2 r col) + ∑ e : Fin 1024, (∑ q : Fin 3, gate (x4 (ix2 r (⟨1024 * q.val + e.val, by omega⟩ : Fin 3072))) * ∑ c : Fin 512, x9 (ix3 q c e) * β q c) * x10 (ix2 e col) := by
  have hb : (⟨r.val / 2048, by omega⟩ : Fin 16) = b := Fin.ext (by simp; omega)
  have hs : (⟨r.val % 2048, by omega⟩ : Fin 2048) = s := Fin.ext (by simp; omega)
  have h260 : ∀ e : Fin 1024, val_main_v260 (F := Ideal) x1 x2 x3 x4 x5 x6 x7 x8 x9 (ix3 b s e)
      = ∑ q : Fin 3, gate (x4 (ix2 r (⟨1024 * q.val + e.val, by omega⟩ : Fin 3072))) * ∑ c : Fin 512, x9 (ix3 q c e) * β q c := by
    intro e
    simp only [← hβ]
    pointwise [val_main_v6, val_main_v7, val_main_v250, val_main_v251, val_main_v252, val_main_v253, val_main_v254, val_main_cst_16, val_main_v255, val_main_v256, val_main_cst_17, val_main_v257, val_main_v258, val_main_v259, val_main_cst_18, val_main_v260, gate]
    refine Finset.sum_congr rfl fun q _ => congrArg (fun z : EReal => Ideal.div 1 (1 + Ideal.exp (-z)) * _) ?_
    exact congrArg x4 (congrArg₂ ix2 (Fin.ext (by simp; omega)) (Fin.ext (by simp; omega)))
  simp only [← h260]
  pointwise [val_main_v261, val_main_v262, val_main_v263]
  rw [hb, hs]

/-- A grid point's result from its branches. -/
theorem merge_pay (y0 y1 : FVec Ideal S512x512 .bf16) (y2 : FVec Ideal S512x512 .bf16) (g0 g1 g2 : FVec Ideal S512x1024 .bf16) (w0 w1 w2 : FVec Ideal S1x512x1024 .bf16)
    (x : FVec Ideal S512x1024 .f32) (wo : FVec Ideal S1024x1024 .bf16) (a : Fin 512) (col : Fin 1024) :
    k0_pay115 (F := Ideal) y1 y2 (k0_pay113 g0) (k0_pay114 y0 w0) g1 w1 g2 w2 x wo (ix2 a col)
      = x (ix2 a col) + ∑ e : Fin 1024, (gate (g0 (ix2 a e)) * (∑ c : Fin 512, y0 (ix2 a c) * w0 (ix3 0 c e)) + gate (g1 (ix2 a e)) * (∑ c : Fin 512, y1 (ix2 a c) * w1 (ix3 0 c e))
          + gate (g2 (ix2 a e)) * (∑ c : Fin 512, y2 (ix2 a c) * w2 (ix3 0 c e))) * wo (ix2 e col) := by
  pointwise [k0_pay115, k0_pay114, k0_pay113, gate]
  simp only [zero_sub]

end Cert.MixerIdeal.Hand

end
-- ==== Proof.MixerValue.lean ====
module

public import proofs.«01_k».proof.Proof.Gen.MixerIdeal.Value
public import proofs.«01_k».proof.Proof.Gen.MixerReferenceIdeal.Read
public import Idealize.ShloMosaic.Lib.Pipeline.ValueKit
public import Idealize.ShloMosaic.Lib.Pipeline.ReadBack
public import Idealize.ShloMosaic.Lib.Pointwise
public import proofs.«01_k».proof.Proof.MixMerge

/-! The mixer call: its result array is the reference. -/

@[expose] public section

set_option maxRecDepth 16384

noncomputable section

open Idealize.ShloMosaic Idealize.ShloMosaic.TcCoe Idealize.SL.Sem
open Idealize.ShloMosaic.Pipeline (Dat)

namespace Cert.MixerIdeal.Hand

open Cert.MixerIdeal Cert.MixerIdeal.Gen Cert.MixerReferenceIdeal.Read

set_option maxHeartbeats 2000000

/-- A grid point's result from its branches, with its blocks read in the arrays. -/
theorem merge_eq (y0 y1 y2 : FVec Ideal S512x512 .bf16) (g0 g1 g2 : FVec Ideal S512x1024 .bf16) (w0 w1 w2 : FVec Ideal S1x512x1024 .bf16)
    (x : FVec Ideal S512x1024 .f32) (wo : FVec Ideal S1024x1024 .bf16) (a : Fin 512) (col : Fin 1024) (r : Fin 32768)
    (x0 : FVec Ideal S32768x1024 .f32) (x4 : FVec Ideal S32768x3072 .bf16) (x9 : FVec Ideal S3x512x1024 .f32) (x10 : FVec Ideal S1024x1024 .f32) (β : Fin 3 → Fin 512 → EReal)
    (hx : x (ix2 a col) = x0 (ix2 r col)) (hwo : ∀ e, wo (ix2 e col) = x10 (ix2 e col))
    (hg0 : ∀ e : Fin 1024, g0 (ix2 a e) = x4 (ix2 r (⟨e.val, by omega⟩ : Fin 3072)))
    (hg1 : ∀ e : Fin 1024, g1 (ix2 a e) = x4 (ix2 r (⟨1024 + e.val, by omega⟩ : Fin 3072)))
    (hg2 : ∀ e : Fin 1024, g2 (ix2 a e) = x4 (ix2 r (⟨2048 + e.val, by omega⟩ : Fin 3072)))
    (hw0 : ∀ (c : Fin 512) (e : Fin 1024), w0 (ix3 (0 : Fin 1) c e) = x9 (ix3 (0 : Fin 3) c e))
    (hw1 : ∀ (c : Fin 512) (e : Fin 1024), w1 (ix3 (0 : Fin 1) c e) = x9 (ix3 (1 : Fin 3) c e))
    (hw2 : ∀ (c : Fin 512) (e : Fin 1024), w2 (ix3 (0 : Fin 1) c e) = x9 (ix3 (2 : Fin 3) c e))
    (hy0 : ∀ c, y0 (ix2 a c) = β 0 c) (hy1 : ∀ c, y1 (ix2 a c) = β 1 c) (hy2 : ∀ c, y2 (ix2 a c) = β 2 c) :
    k0_pay115 (F := Ideal) y1 y2 (k0_pay113 g0) (k0_pay114 y0 w0) g1 w1 g2 w2 x wo (ix2 a col)
      = x0 (ix2 r col) + ∑ e : Fin 1024, (∑ q : Fin 3, gate (x4 (ix2 r (⟨1024 * q.val + e.val, by omega⟩ : Fin 3072))) * ∑ c : Fin 512, x9 (ix3 q c e) * β q c) * x10 (ix2 e col) := by
  rw [merge_pay, hx]
  refine congrArg (fun z : EReal => x0 (ix2 r col) + z) (Finset.sum_congr rfl fun e _ => ?_)
  rw [Fin.sum_univ_three, hwo, hg0, hg1, hg2]
  simp only [hy0, hy1, hy2, hw0, hw1, hw2]
  refine congrArg (fun z : EReal => z * x10 (ix2 e col)) (congrArg₂ (fun x y : EReal => x + y) (congrArg₂ (fun x y : EReal => x + y) ?_ ?_) ?_)
  all_goals refine congrArg₂ (fun x y : EReal => x * y) (congrArg (fun z => gate (x4 (ix2 r z))) (Fin.ext (by simp))) (Finset.sum_congr rfl fun c _ => mul_comm _ _)

variable (m : (ℓ : Loc nD τ sig) → Buf (Elt Ideal) ℓ)

/-- The windows' block indices at point `t`: sequence `t / 4`, tile `t % 4`; a window of the rows before starts at the block before the tile's. -/
theorem idx : ∀ t : Fin cfg0.N, win0_0.index t = ![0] ∧ win0_1.index t = ![t.val, 0] ∧ win0_2.index t = ![t.val * 32 - 1, 0]
    ∧ win0_3.index t = ![t.val, 0] ∧ win0_4.index t = ![t.val * 32 - 1, 0] ∧ win0_5.index t = ![t.val, 0] ∧ win0_6.index t = ![t.val * 4 - 1, 0]
    ∧ win0_7.index t = ![t.val, 0] ∧ win0_8.index t = ![t.val, 0] ∧ win0_9.index t = ![0, 0] ∧ win0_10.index t = ![0, 0, 0] ∧ win0_11.index t = ![0, 0]
    ∧ win0_12.index t = ![0, 0, 0] ∧ win0_13.index t = ![0, 0] ∧ win0_14.index t = ![t.val, 0] ∧ (grid0.coords t 1).val = t.val % 4 :=
  (by decide +kernel : ∀ t : Fin grid0.N, _)

/-- The branches at a position, by the arrays. -/
def branches (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (q : Fin 3) (c : Fin 512) : EReal :=
  (![fun c => convAt x1 x6 b s c,
    fun c : Fin 512 => (∑ k : Fin 128, x7 (ix3 (⟨c.val / 128, by omega⟩ : Fin 4) k (⟨c.val % 128, by omega⟩ : Fin 128))
      * mean (pooled x2 (⟨c.val / 128, by omega⟩ : Fin 4) k) b s (![2, 4, 8, 16] (⟨c.val / 128, by omega⟩ : Fin 4))) * x8 (ix1 c),
    fun c => attAt x2 x3 x5 b s c] : Fin 3 → Fin 512 → EReal) q c

/-- The reference's stacked branches are those. -/
theorem branches_at (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (q : Fin 3) (c : Fin 512) :
    val_main_v249 (F := Ideal) x1 x2 x3 x5 x6 x7 x8 (ix4 b s q c) = branches x1 x2 x3 x5 x6 x7 x8 b s q c := by
  fin_cases q
  · exact (stack_0 x1 x2 x3 x5 x6 x7 x8 b s c).trans (conv_ref x1 x6 b s c)
  · have e : c = (⟨128 * (c.val / 128) + c.val % 128, by omega⟩ : Fin 512) := Fin.ext (by simp; omega)
    refine (stack_1 x1 x2 x3 x5 x6 x7 x8 b s c).trans ?_
    refine (congrArg (fun c => val_main_v172 (F := Ideal) x2 x7 x8 (ix3 b s c)) e).trans ?_
    refine (pool_ref x2 x7 x8 b s (⟨c.val / 128, by omega⟩ : Fin 4) (⟨c.val % 128, by omega⟩ : Fin 128)).trans ?_
    exact congrArg (fun z => _ * x8 (ix1 z)) e.symm
  · exact (stack_2 x1 x2 x3 x5 x6 x7 x8 b s c).trans (att_at x2 x3 x5 b s c)

/-- A position of a 512 × 512 array by its coordinates. -/
theorem toLoad_at (a q : Fin 512) : (Rect.unit ![0, 0] ![512, 512] inb_S512x512_S512x512_0_0).toLoadRect.idx (ix2 a q) = ix2 a q := by
  funext d
  refine Fin.ext ?_
  fin_cases d
  · show 0 + 1 * a.val = a.val
    omega
  · show 0 + 1 * q.val = q.val
    omega

/-- A position of a 128 × 256 array by its coordinates. -/
theorem eq_ix2 (x : S128x256.Idx) : x = ix2 (x 0) (x 1) := by
  blk_ext []

/-- The pooling branch at a group and a lane. -/
theorem branches_one (x1 : FVec Ideal S32768x1536 .bf16) (x2 : FVec Ideal S32768x1024 .bf16) (x3 : FVec Ideal S32768x256 .bf16) (x5 : FVec Ideal S8 .f32) (x6 : FVec Ideal S3x512 .f32) (x7 : FVec Ideal S4x128x128 .f32) (x8 : FVec Ideal S512 .f32) (b : Fin 16) (s : Fin 2048) (g : Fin 4) (d : Fin 128) :
    branches x1 x2 x3 x5 x6 x7 x8 b s 1 (⟨128 * g.val + d.val, by omega⟩ : Fin 512)
      = (∑ k : Fin 128, x7 (ix3 g k d) * mean (pooled x2 g k) b s (![2, 4, 8, 16] g)) * x8 (ix1 (⟨128 * g.val + d.val, by omega⟩ : Fin 512)) := by
  have e1 : (⟨(128 * g.val + d.val) / 128, by omega⟩ : Fin 4) = g := Fin.ext (by simp <;> omega)
  have e2 : (⟨(128 * g.val + d.val) % 128, by omega⟩ : Fin 128) = d := Fin.ext (by simp <;> omega)
  show (∑ k : Fin 128, x7 (ix3 (⟨(128 * g.val + d.val) / 128, by omega⟩ : Fin 4) k (⟨(128 * g.val + d.val) % 128, by omega⟩ : Fin 128))
      * mean (pooled x2 (⟨(128 * g.val + d.val) / 128, by omega⟩ : Fin 4) k) b s (![2, 4, 8, 16] (⟨(128 * g.val + d.val) / 128, by omega⟩ : Fin 4))) * _ = _
  rw [e1, e2]

/-- What a grid point leaves in its result block, where queries, keys, values and sinks are real. -/
theorem point (c : Dev nD) (k2 : QueriesReal (m ((c : Thread nD τ).loc main_arg2))) (k3 : KeysReal (m ((c : Thread nD τ).loc main_arg3))) (k5 : ∀ i, IsReal ((show FVec Ideal S8 .f32 from m ((c : Thread nD τ).loc main_arg5)) i))
    (t : Fin cfg0.N) (a : Fin 512) (col : Fin 1024) :
    (outsAt0 m c t : FVec Ideal S512x1024 .f32) (ix2 a col) = val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨512 * t.val + a.val, by have := lt_of_lt_of_eq t.isLt N_0; omega⟩ : Fin 32768) col) := by
  have kN : t.val < 64 := lt_of_lt_of_eq t.isLt N_0
  have e : (show FVec Ideal S32768x1024 .f32 from m ((c : Thread nD τ).loc main_arg0)) (ix2 (⟨512 * t.val + a.val, by have := lt_of_lt_of_eq t.isLt N_0; omega⟩ : Fin 32768) col) + _ = _ := (merge_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (⟨t.val / 4, by omega⟩ : Fin 16) (⟨512 * (t.val % 4) + a.val, by omega⟩ : Fin 2048) col (⟨512 * t.val + a.val, by have := lt_of_lt_of_eq t.isLt N_0; omega⟩ : Fin 32768) (by simp <;> omega) _
    (branches_at (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) _ _)).symm
  refine Eq.trans ?_ e
  show out0_A_14 _ _ _ _ _ _ _ _ _ _ _ _ _ _ _ _ _ _ _ _ _ _ _ _ _ _ _ _ _ _ _ _ _ _ _ _ _ _ _ _ _ _ _ _ _ _ _ _ _ = _
  frame_out
  have ki : (grid0.coords t 1).val = (⟨t.val % 4, by omega⟩ : Fin 4).val := (idx t).2.2.2.2.2.2.2.2.2.2.2.2.2.2.2
  rw [ki]
  clear e
  refine merge_eq _ _ _ _ _ _ _ _ _ _ _ a col _ _ _ _ _ _ ?_ ?_ ?_ ?_ ?_ ?_ ?_ ?_ ?_ ?_ ?_
  · blk_point [iblk, V, idx t]
  · intro e
    blk_point [iblk, V, idx t]
  · intro e
    blk_point [iblk, V, idx t]
  · intro e
    blk_point [iblk, V, idx t]
  · intro e
    blk_point [iblk, V, idx t]
  · intro q e
    blk_point [iblk, V, idx t]
  · intro q e
    blk_point [iblk, V, idx t]
  · intro q e
    blk_point [iblk, V, idx t]
  · intro q
    refine (conv_pay (gated (m ((c : Thread nD τ).loc main_arg1)) q) (⟨t.val / 4, by omega⟩ : Fin 16) (⟨t.val % 4, by omega⟩ : Fin 4) _ ki _ _ _ _ _ _ q ?_ ?_ a (⟨512 * (t.val % 4) + a.val, by omega⟩ : Fin 2048) rfl).trans ?_
    · intro a
      unfold gated
      refine congrArg₂ (fun x y : EReal => x * y) ?_ ?_ <;> blk_point [iblk, V, idx t]
    · intro kz u
      have kz' : t.val % 4 ≠ 0 := kz
      unfold gated
      refine congrArg₂ (fun x y : EReal => x * y) ?_ ?_ <;> blk_point [iblk, V, idx t]
    · show _ = convAt _ _ _ _ _
      unfold convAt
      refine congrArg₂ (fun x y : EReal => x * y) ?_ (congrArg₂ (fun x y : EReal => x + y) (congrArg₂ (fun x y : EReal => x + y) ?_ ?_) ?_)
      · blk_point [iblk, V, idx t]
      · refine congrArg (fun x : EReal => x * _) ?_
        blk_point [iblk, V, idx t]
      · refine congrArg (fun x : EReal => x * _) ?_
        blk_point [iblk, V, idx t]
      · refine congrArg (fun x : EReal => x * _) ?_
        blk_point [iblk, V, idx t]
  · intro q
    obtain ⟨g, d, rfl⟩ : ∃ (g : Fin 4) (d : Fin 128), q = (⟨128 * g.val + d.val, by omega⟩ : Fin 512) :=
      ⟨(⟨q.val / 128, by omega⟩ : Fin 4), (⟨q.val % 128, by omega⟩ : Fin 128), Fin.ext (by simp; omega)⟩
    refine (pool_pay (fun q r => (show FVec Ideal S32768x1024 .bf16 from m ((c : Thread nD τ).loc main_arg2)) (ix2 r (⟨q.val, by omega⟩ : Fin 1024))) (⟨t.val / 4, by omega⟩ : Fin 16) (⟨t.val % 4, by omega⟩ : Fin 4) _ _ ?_ ?_ _ _ _ _ _
      a (⟨512 * (t.val % 4) + a.val, by omega⟩ : Fin 2048) rfl g d).trans ((?_ : _ = _).trans (branches_one _ _ _ _ _ _ _ _ _ g d).symm)
    · intro a q
      blk_point [iblk, V, idx t]
    · intro kz u q
      have kz' : t.val % 4 ≠ 0 := kz
      blk_point [iblk, V, idx t]
    · unfold quarter
      refine congrArg₂ (fun x y : EReal => x * y) (Finset.sum_congr rfl fun k _ => (mul_comm _ _).trans (congrArg₂ (fun x y : EReal => x * y) ?_ ?_)) ?_
      · fin_cases g <;> blk_point [iblk, V, idx t]
      · rfl
      · blk_point [iblk, V, idx t]
  · intro q
    show _ = attAt _ _ _ _ _ _
    have kc : CurAt (m ((c : Thread nD τ).loc main_arg3)) (⟨t.val / 4, by omega⟩ : Fin 16) (⟨t.val % 4, by omega⟩ : Fin 4) (iblk m c 5 t) := by
      intro a e
      blk_point [iblk, V, idx t]
    have kh : HaloAt (m ((c : Thread nD τ).loc main_arg3)) (⟨t.val / 4, by omega⟩ : Fin 16) (⟨t.val % 4, by omega⟩ : Fin 4) (iblk m c 6 t) := by
      intro kz a e
      have kz' : t.val % 4 ≠ 0 := kz
      blk_point [iblk, V, idx t]
    rw [View.readCov_eq_canon']
    show View.canon _ _ = _
    refine (congrArg (View.canon _) (?_ : _ = ix2 a q)).trans ?_
    · exact toLoad_at a q
    canon_tiles x h
    · have g0 : a.val = 384 + (x 0).val := h0
      have g1 : q.val = 256 + (x 1).val := h1
      obtain ⟨u, v, rfl⟩ : ∃ (u : Fin 128) (v : Fin 256), x = ix2 u v := ⟨x 0, x 1, eq_ix2 x⟩
      have g0' : a.val = 384 + u.val := g0
      have g1' : q.val = 256 + v.val := g1
      refine (congrFun (stored_31 _ _ _ _ _ _ _) (ix2 u v)).trans ?_
      refine tile1_ref _ _ _ k2 k3 k5 _ _ _ _ _ _ _ (⟨t.val / 4, by omega⟩ : Fin 16) (⟨4 * (t.val % 4) + 3, by omega⟩ : Fin 16) (valid_later (⟨4 * (t.val % 4) + 3, by omega⟩ : Fin 16) (by simp)) (band3_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 384 + (x 0).val := h0
      have g1 : q.val = 0 + (x 1).val := h1.trans (Nat.zero_add _).symm
      obtain ⟨u, v, rfl⟩ : ∃ (u : Fin 128) (v : Fin 256), x = ix2 u v := ⟨x 0, x 1, eq_ix2 x⟩
      have g0' : a.val = 384 + u.val := g0
      have g1' : q.val = 0 + v.val := g1
      refine (congrFun (stored_30 _ _ _ _ _ _ _) (ix2 u v)).trans ?_
      refine tile0_ref _ _ _ k2 k3 k5 _ _ _ _ _ _ _ (⟨t.val / 4, by omega⟩ : Fin 16) (⟨4 * (t.val % 4) + 3, by omega⟩ : Fin 16) (valid_later (⟨4 * (t.val % 4) + 3, by omega⟩ : Fin 16) (by simp)) (band3_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 256 + (x 0).val := h0
      have g1 : q.val = 256 + (x 1).val := h1
      obtain ⟨u, v, rfl⟩ : ∃ (u : Fin 128) (v : Fin 256), x = ix2 u v := ⟨x 0, x 1, eq_ix2 x⟩
      have g0' : a.val = 256 + u.val := g0
      have g1' : q.val = 256 + v.val := g1
      refine (congrFun (stored_21 _ _ _ _ _ _ _) (ix2 u v)).trans ?_
      refine tile1_ref _ _ _ k2 k3 k5 _ _ _ _ _ _ _ (⟨t.val / 4, by omega⟩ : Fin 16) (⟨4 * (t.val % 4) + 2, by omega⟩ : Fin 16) (valid_later (⟨4 * (t.val % 4) + 2, by omega⟩ : Fin 16) (by simp)) (band2_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 256 + (x 0).val := h0
      have g1 : q.val = 0 + (x 1).val := h1.trans (Nat.zero_add _).symm
      obtain ⟨u, v, rfl⟩ : ∃ (u : Fin 128) (v : Fin 256), x = ix2 u v := ⟨x 0, x 1, eq_ix2 x⟩
      have g0' : a.val = 256 + u.val := g0
      have g1' : q.val = 0 + v.val := g1
      refine (congrFun (stored_20 _ _ _ _ _ _ _) (ix2 u v)).trans ?_
      refine tile0_ref _ _ _ k2 k3 k5 _ _ _ _ _ _ _ (⟨t.val / 4, by omega⟩ : Fin 16) (⟨4 * (t.val % 4) + 2, by omega⟩ : Fin 16) (valid_later (⟨4 * (t.val % 4) + 2, by omega⟩ : Fin 16) (by simp)) (band2_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 128 + (x 0).val := h0
      have g1 : q.val = 256 + (x 1).val := h1
      obtain ⟨u, v, rfl⟩ : ∃ (u : Fin 128) (v : Fin 256), x = ix2 u v := ⟨x 0, x 1, eq_ix2 x⟩
      have g0' : a.val = 128 + u.val := g0
      have g1' : q.val = 256 + v.val := g1
      refine (congrFun (stored_11 _ _ _ _ _ _ _) (ix2 u v)).trans ?_
      refine tile1_ref _ _ _ k2 k3 k5 _ _ _ _ _ _ _ (⟨t.val / 4, by omega⟩ : Fin 16) (⟨4 * (t.val % 4) + 1, by omega⟩ : Fin 16) (valid_later (⟨4 * (t.val % 4) + 1, by omega⟩ : Fin 16) (by simp)) (band1_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 128 + (x 0).val := h0
      have g1 : q.val = 0 + (x 1).val := h1.trans (Nat.zero_add _).symm
      obtain ⟨u, v, rfl⟩ : ∃ (u : Fin 128) (v : Fin 256), x = ix2 u v := ⟨x 0, x 1, eq_ix2 x⟩
      have g0' : a.val = 128 + u.val := g0
      have g1' : q.val = 0 + v.val := g1
      refine (congrFun (stored_10 _ _ _ _ _ _ _) (ix2 u v)).trans ?_
      refine tile0_ref _ _ _ k2 k3 k5 _ _ _ _ _ _ _ (⟨t.val / 4, by omega⟩ : Fin 16) (⟨4 * (t.val % 4) + 1, by omega⟩ : Fin 16) (valid_later (⟨4 * (t.val % 4) + 1, by omega⟩ : Fin 16) (by simp)) (band1_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 0 + (x 0).val := h0.trans (Nat.zero_add _).symm
      have g1 : q.val = 256 + (x 1).val := h1
      obtain ⟨u, v, rfl⟩ : ∃ (u : Fin 128) (v : Fin 256), x = ix2 u v := ⟨x 0, x 1, eq_ix2 x⟩
      have g0' : a.val = 0 + u.val := g0
      have g1' : q.val = 256 + v.val := g1
      refine (congrFun (stored_01 _ _ _ _ _ _ _) (ix2 u v)).trans ?_
      refine tile1_ref _ _ _ k2 k3 k5 _ _ _ _ _ _ _ (⟨t.val / 4, by omega⟩ : Fin 16) (⟨4 * (t.val % 4), by omega⟩ : Fin 16) (valid_first (⟨t.val % 4, by omega⟩ : Fin 4)) (band0_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]
    · have g0 : a.val = 0 + (x 0).val := h0.trans (Nat.zero_add _).symm
      have g1 : q.val = 0 + (x 1).val := h1.trans (Nat.zero_add _).symm
      obtain ⟨u, v, rfl⟩ : ∃ (u : Fin 128) (v : Fin 256), x = ix2 u v := ⟨x 0, x 1, eq_ix2 x⟩
      have g0' : a.val = 0 + u.val := g0
      have g1' : q.val = 0 + v.val := g1
      refine (congrFun (stored_00 _ _ _ _ _ _ _) (ix2 u v)).trans ?_
      refine tile0_ref _ _ _ k2 k3 k5 _ _ _ _ _ _ _ (⟨t.val / 4, by omega⟩ : Fin 16) (⟨4 * (t.val % 4), by omega⟩ : Fin 16) (valid_first (⟨t.val % 4, by omega⟩ : Fin 4)) (band0_at _ (⟨t.val / 4, by omega⟩ : Fin 16) (⟨t.val % 4, by omega⟩ : Fin 4) _ _ kc kh)
        (fun u v => ?_) ?_ ?_ ?_ ?_ u v (⟨512 * (t.val % 4) + a.val, by omega⟩ : Fin 2048) (by simp; omega) q (by omega)
      all_goals blk_point [iblk, V, idx t]

/-- The result array after the call is the reference, where queries, keys, values and sinks are real. -/
theorem final (c : Dev nD) (k2 : QueriesReal (m ((c : Thread nD τ).loc main_arg2))) (k3 : KeysReal (m ((c : Thread nD τ).loc main_arg3))) (k5 : ∀ i, IsReal ((show FVec Ideal S8 .f32 from m ((c : Thread nD τ).loc main_arg5)) i)) :
    (dats m 0 c).arrAt 14 cfg0.N = val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  have kN : t.val < 64 := lt_of_lt_of_eq t.isLt N_0
  blk_simp
  rw [after0_14]
  obtain ⟨a, q, rfl⟩ : ∃ (a : Fin 512) (q : Fin 1024), y = ix2 a q := ⟨y 0, y 1, by blk_ext []⟩
  have hy : ((cfg0.win 14).blk t).view.emb (ix2 a q) = ix2 (⟨512 * t.val + a.val, by have := lt_of_lt_of_eq t.isLt N_0; omega⟩ : Fin 32768) q := by
    blk_ext [idx t]
  rw [hy]
  exact point m c k2 k3 k5 t a q

end Cert.MixerIdeal.Hand

end
-- ==== Proof.MoeFold.lean ====
module

public import proofs.«01_k».proof.Proof.Gen.MoeIdeal.Value
public import Idealize.ShloMosaic.Lib.Pipeline.ValueKit
public import Idealize.ShloMosaic.Lib.Pipeline.ReadBack
public import Idealize.ShloMosaic.Lib.Pointwise

/-! The feed-forward call with routed experts: what its two scratch buffers hold after each grid point. The normalized rows are computed at the first point
    of a block's run and carried; the accumulator is the sum of the points' parts. -/

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen

variable (m : (ℓ : Loc nD τ sig) → Buf (Elt Ideal) ℓ)

/-- The windows' block indices at point `t`: row block `t / 16`, expert `t / 2 % 8`, tile `t % 2`. -/
theorem idx : ∀ t : Fin cfg0.N, win0_0.index t = ![t.val / 16, 0] ∧ win0_1.index t = ![0, 0] ∧ win0_2.index t = ![t.val / 16, 0]
    ∧ win0_3.index t = ![t.val / 2 % 8, 0, t.val % 2] ∧ win0_4.index t = ![t.val / 2 % 8, 0, t.val % 2 + 2]
    ∧ win0_5.index t = ![t.val / 2 % 8, t.val % 2, 0] ∧ win0_6.index t = ![t.val / 16, 0] ∧ (grid0.coords t 1).val = t.val / 2 % 8 :=
  (by decide +kernel : ∀ t : Fin grid0.N, _)

/-- At the first point of a run the hidden scratch receives the normalized rows. -/
theorem hidA (c : Dev nD) (t : Fin cfg0.N) (h0 : t.val % 16 = 0) :
    (outsAt0 m c t.val t.isLt).2.1 = k0_pay3 (iblk m c 0 t) (iblk m c 1 t) := by
  rw [outsAt0_A m c t h0 (by omega)]
  frame_out

/-- At the other points it is left as it was. -/
theorem hidB (c : Dev nD) (t : Fin cfg0.N) (h0 : ¬t.val % 16 = 0) :
    (outsAt0 m c t.val t.isLt).2.1 = (outsAt0 m c (t.val - 1) (Nat.lt_of_le_of_lt (Nat.sub_le _ _) t.isLt)).2.1 := by
  by_cases h1 : t.val % 16 = 15
  · rw [outsAt0_C m c t h0 h1]
    rfl
  · rw [outsAt0_B m c t h0 h1]
    rfl

/-- Within a run the block of rows does not move. -/
theorem rows_same (c : Dev nD) (t : Fin cfg0.N) (h0 : ¬t.val % 16 = 0) (h : t.val - 1 < cfg0.N) :
    iblk m c 0 ⟨t.val - 1, h⟩ = iblk m c 0 t ∧ iblk m c 1 ⟨t.val - 1, h⟩ = iblk m c 1 t := by
  have e := idx ⟨t.val - 1, h⟩
  have f := idx t
  constructor
  · funext y
    blk_ext [iblk, V, idx ⟨t.val - 1, h⟩, idx t]
  · funext y
    blk_ext [iblk, V, idx ⟨t.val - 1, h⟩, idx t]

/-- The hidden scratch after any point: the normalized rows of the point's own block. -/
theorem hid (c : Dev nD) : ∀ (n : ℕ) (hn : n < cfg0.N),
    (outsAt0 m c n hn).2.1 = k0_pay3 (iblk m c 0 ⟨n, hn⟩) (iblk m c 1 ⟨n, hn⟩)
  | 0, hn => hidA m c ⟨0, hn⟩ (Nat.zero_mod _)
  | n + 1, hn => by
    by_cases h0 : (n + 1) % 16 = 0
    · exact hidA m c ⟨n + 1, hn⟩ h0
    · have e := hidB m c ⟨n + 1, hn⟩ h0
      have i := hid c n (Nat.lt_of_succ_lt hn)
      obtain ⟨r0, r1⟩ := rows_same m c ⟨n + 1, hn⟩ h0 (Nat.lt_of_succ_lt hn)
      refine (e.trans i).trans ?_
      exact congrArg₂ k0_pay3 r0 r1

/-- What one point adds to the accumulator at block index `i`: the row's weight times the tile's product. -/
def part (c : Dev nD) (t : Fin cfg0.N) : FVec Ideal S1024x1024 .f32 := fun i =>
  k0_pay6 (F := Ideal) (grid0.coords t) (iblk m c 2 t) (ix2 (i 0) 0)
    * ∑ f : Fin 896, k0_pay5 (F := Ideal) (k0_pay3 (iblk m c 0 t) (iblk m c 1 t)) (iblk m c 3 t) (iblk m c 4 t) (ix2 (i 0) f)
        * (show FVec Ideal S1x896x1024 .bf16 from iblk m c 5 t) (ix3 0 f (i 1))

/-- The accumulating payload at an index. -/
theorem pay1_at (h : FVec Ideal S1024x896 .bf16) (w : FVec Ideal S1024x1 .f32) (acc : FVec Ideal S1024x1024 .f32)
    (d : FVec Ideal S1x896x1024 .bf16) (i : S1024x1024.Idx) :
    k0_pay1 h w acc d i = acc i + w (ix2 (i 0) 0) * ∑ f : Fin 896, h (ix2 (i 0) f) * d (ix3 0 f (i 1)) := by
  pointwise [k0_pay1]

/-- The accumulator's first fill is zero. -/
theorem pay4_at (i : S1024x1024.Idx) : k0_pay4 (F := Ideal) i = 0 := by pointwise [k0_pay4]

/-- The accumulator after the first point of a run. -/
theorem accA (c : Dev nD) (t : Fin cfg0.N) (h0 : t.val % 16 = 0) (i : S1024x1024.Idx) :
    (outsAt0 m c t.val t.isLt).2.2 i = 0 + part m c t i := by
  rw [outsAt0_A m c t h0 (by omega)]
  frame_out
  rw [pay1_at, pay4_at]
  rfl

/-- The accumulator after a later point of a run. -/
theorem accB (c : Dev nD) (t : Fin cfg0.N) (h0 : ¬t.val % 16 = 0) (i : S1024x1024.Idx) :
    (outsAt0 m c t.val t.isLt).2.2 i
      = (outsAt0 m c (t.val - 1) (Nat.lt_of_le_of_lt (Nat.sub_le _ _) t.isLt)).2.2 i + part m c t i := by
  have hh : (outsAt0 m c (t.val - 1) (Nat.lt_of_le_of_lt (Nat.sub_le _ _) t.isLt)).2.1 = k0_pay3 (iblk m c 0 t) (iblk m c 1 t) :=
    (hidB m c t h0).symm.trans (hid m c t.val t.isLt)
  by_cases h1 : t.val % 16 = 15
  · rw [outsAt0_C m c t h0 h1]
    frame_out
    simp only [read_unread_whole]
    rw [hh, pay1_at]
    rfl
  · rw [outsAt0_B m c t h0 h1]
    frame_out
    simp only [read_unread_whole]
    rw [hh, pay1_at]
    rfl

/-- The output block at the last point of a run: the rows plus the accumulator. -/
theorem outC (c : Dev nD) (t : Fin cfg0.N) (h1 : t.val % 16 = 15) (i : S1024x1024.Idx) :
    (outsAt0 m c t.val t.isLt).1 i = (show FVec Ideal S1024x1024 .f32 from iblk m c 0 t) i + (outsAt0 m c t.val t.isLt).2.2 i := by
  rw [outsAt0_C m c t (by omega) h1]
  frame_out
  pointwise [k0_pay2]

/-- What the last point of a run writes back: the rows plus the sum of the run's parts. -/
theorem out_sum (c : Dev nD) (t : Fin cfg0.N) (h1 : t.val % 16 = 15) (i : S1024x1024.Idx) :
    (outsAt0 m c t.val t.isLt).1 i = (show FVec Ideal S1024x1024 .f32 from iblk m c 0 t) i
      + ∑ s : Fin 16, part m c ⟨16 * (t.val / 16) + s.val, Pipeline.run_point_lt_of_flush t h1 s⟩ i := by
  rw [outC m c t h1, Pipeline.eq_sum_fin_of_reset_step_apply_of_flush (fun n h => (outsAt0 m c n h).2.2) 16 (fun _ => 0)
    (part m c) (fun t h j => accA m c t h j) (fun t h j => accB m c t h j) t h1 i, zero_add]

end Cert.MoeIdeal.Hand

end
-- ==== Proof.MoeRef.lean ====
module

public import proofs.«01_k».proof.Proof.Gen.MoeIdeal.Frame
public import proofs.«01_k».proof.Proof.Gen.MoeReferenceIdeal.Read
public import Idealize.ShloMosaic.Lib.Pipeline.ValueKit
public import Idealize.ShloMosaic.Lib.Pointwise

/-! The feed-forward call with routed experts: the reference read at an index, as the row plus the weighted sum of the experts. -/

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen Cert.MoeReferenceIdeal.Read

/-- The gate and up projections of expert `e` at row `r`, column `f` of `w_gu[e]`. -/
def up (H : FVec Ideal S32768x1024 .f32) (W : FVec Ideal S8x1024x3584 .f32) (e : Fin 8) (r : Fin 32768) (f : Fin 3584) : EReal :=
  ∑ k : Fin 1024, H (ix2 r k) * W (ix3 e k f)

/-- `silu(gate) * up` of expert `e` at row `r`, hidden column `f`. -/
def act (H : FVec Ideal S32768x1024 .f32) (W : FVec Ideal S8x1024x3584 .f32) (e : Fin 8) (r : Fin 32768) (f : Fin 1792) : EReal :=
  up H W e r ⟨f.val, by omega⟩ * Ideal.div (Ideal.ofBits .f32 0x3F800000#32) (Ideal.ofBits .f32 0x3F800000#32 + Ideal.exp (-up H W e r ⟨f.val, by omega⟩))
    * up H W e r ⟨1792 + f.val, by omega⟩

/-- Expert `e`'s output at row `r`, column `j`. -/
def expert (H : FVec Ideal S32768x1024 .f32) (W : FVec Ideal S8x1024x3584 .f32) (D : FVec Ideal S8x1792x1024 .f32) (e : Fin 8)
    (r : Fin 32768) (j : Fin 1024) : EReal :=
  ∑ f : Fin 1792, act H W e r f * D (ix3 e f j)

set_option maxHeartbeats 2000000 in
/-- The reference's result at row `r`, column `j`: the row plus the sum over the experts of the weight times the expert's output. -/
theorem ref_at (X : FVec Ideal S32768x1024 .f32) (g : FVec Ideal S1024 .f32) (C : FVec Ideal S32768x128 .f32)
    (W : FVec Ideal S8x1024x3584 .f32) (D : FVec Ideal S8x1792x1024 .f32) (r : Fin 32768) (j : Fin 1024) :
    val_main_v126 (F := Ideal) X g C W D (ix2 r j) = X (ix2 r j)
      + ∑ e : Fin 8, C (ix2 r ⟨e.val, by omega⟩) * expert (val_main_v12 (F := Ideal) X g) W D e r j := by
  rw [Fin.sum_univ_eight]
  unfold expert act up
  pointwise [val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_call0_v5, val_main_v21, val_main_v22, val_main_v23, val_main_v24, val_main_v25, val_main_v26, val_main_v27, val_main_v28, val_main_v29, val_main_v30, val_main_v31, val_main_v32, val_main_v33, val_main_v34, val_main_call1_v0, val_main_call1_v1, val_main_call1_cst, val_main_call1_v2, val_main_call1_v3, val_main_call1_cst_0, val_main_call1_v4, val_main_call1_v5, val_main_v35, val_main_v36, val_main_v37, val_main_v38, val_main_v39, val_main_v40, val_main_v41, val_main_v42, val_main_v43, val_main_v44, val_main_v45, val_main_v46, val_main_v47, val_main_v48, val_main_call2_v0, val_main_call2_v1, val_main_call2_cst, val_main_call2_v2, val_main_call2_v3, val_main_call2_cst_0, val_main_call2_v4, val_main_call2_v5, val_main_v49, val_main_v50, val_main_v51, val_main_v52, val_main_v53, val_main_v54, val_main_v55, val_main_v56, val_main_v57, val_main_v58, val_main_v59, val_main_v60, val_main_v61, val_main_v62, val_main_call3_v0, val_main_call3_v1, val_main_call3_cst, val_main_call3_v2, val_main_call3_v3, val_main_call3_cst_0, val_main_call3_v4, val_main_call3_v5, val_main_v63, val_main_v64, val_main_v65, val_main_v66, val_main_v67, val_main_v68, val_main_v69, val_main_v70, val_main_v71, val_main_v72, val_main_v73, val_main_v74, val_main_v75, val_main_v76, val_main_call4_v0, val_main_call4_v1, val_main_call4_cst, val_main_call4_v2, val_main_call4_v3, val_main_call4_cst_0, val_main_call4_v4, val_main_call4_v5, val_main_v77, val_main_v78, val_main_v79, val_main_v80, val_main_v81, val_main_v82, val_main_v83, val_main_v84, val_main_v85, val_main_v86, val_main_v87, val_main_v88, val_main_v89, val_main_v90, val_main_call5_v0, val_main_call5_v1, val_main_call5_cst, val_main_call5_v2, val_main_call5_v3, val_main_call5_cst_0, val_main_call5_v4, val_main_call5_v5, val_main_v91, val_main_v92, val_main_v93, val_main_v94, val_main_v95, val_main_v96, val_main_v97, val_main_v98, val_main_v99, val_main_v100, val_main_v101, val_main_v102, val_main_v103, val_main_v104, val_main_call6_v0, val_main_call6_v1, val_main_call6_cst, val_main_call6_v2, val_main_call6_v3, val_main_call6_cst_0, val_main_call6_v4, val_main_call6_v5, val_main_v105, val_main_v106, val_main_v107, val_main_v108, val_main_v109, val_main_v110, val_main_v111, val_main_v112, val_main_v113, val_main_v114, val_main_v115, val_main_v116, val_main_v117, val_main_v118, val_main_call7_v0, val_main_call7_v1, val_main_call7_cst, val_main_call7_v2, val_main_call7_v3, val_main_call7_cst_0, val_main_call7_v4, val_main_call7_v5, val_main_v119, val_main_v120, val_main_v121, val_main_v122, val_main_v123, val_main_v124, val_main_v125, val_main_v126]

end Cert.MoeIdeal.Hand

end
-- ==== Proof.MoeValue.lean ====
module

public import proofs.«01_k».proof.Proof.MoeFold
public import proofs.«01_k».proof.Proof.MoeRef
public import Idealize.ShloMosaic.Lib.Pipeline.ValueKit
public import Idealize.ShloMosaic.Lib.Pointwise

/-! The feed-forward call with routed experts: its result array is the reference. -/

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen Cert.MoeReferenceIdeal.Read

variable (m : (ℓ : Loc nD τ sig) → Buf (Elt Ideal) ℓ)

/-- The normalized rows the kernel computes are the reference's. -/
theorem hid_at (c : Dev nD) (t : Fin cfg0.N) (a k : Fin 1024) (r : Fin 32768) (hr : r.val = t.val / 16 * 1024 + a.val) :
    k0_pay3 (F := Ideal) (iblk m c 0 t) (iblk m c 1 t) (ix2 a k)
      = val_main_v12 (F := Ideal) (m ((c : Thread nD τ).loc main_arg0)) (m ((c : Thread nD τ).loc main_arg1)) (ix2 r k) := by
  pointwise [k0_pay3, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

/-- The hidden tile's payload at an index. -/
theorem pay5_at (h : FVec Ideal S1024x1024 .bf16) (w3 w4 : FVec Ideal S1x1024x896 .bf16) (a : Fin 1024) (f : Fin 896) :
    k0_pay5 h w3 w4 (ix2 a f) = (∑ k : Fin 1024, h (ix2 a k) * w3 (ix3 0 k f))
      * Ideal.div (Ideal.ofBits .f32 0x3F800000#32) (Ideal.ofBits .f32 0x3F800000#32 + Ideal.exp (-∑ k : Fin 1024, h (ix2 a k) * w3 (ix3 0 k f)))
      * (∑ k : Fin 1024, h (ix2 a k) * w4 (ix3 0 k f)) := by
  pointwise [k0_pay5]
  simp only [zero_sub]

/-- The weight of the point's expert: the sum over the lanes keeps the lane whose number is the expert's. -/
theorem pay6_at (t : Fin cfg0.N) (w : FVec Ideal S1024x128 .f32) (a : Fin 1024) (e : Fin 128) (he : e.val = t.val / 2 % 8) :
    k0_pay6 (F := Ideal) (grid0.coords t) w (ix2 a 0) = w (ix2 a e) := by
  have hc := (idx t).2.2.2.2.2.2.2
  pointwise [k0_pay6]
  rw [Finset.sum_eq_single e]
  · rw [hc, ← he]
    simp [IntOp.cmpi, Scalar.select]
  · intro x _ hx
    have hne : BitVec.ofNat 32 x.val ≠ BitVec.ofNat 32 (grid0.coords t 1).val := by
      rw [hc, ← he]
      intro h
      have := congrArg BitVec.toNat h
      simp only [BitVec.toNat_ofNat] at this
      exact hx (Fin.ext (by omega))
    have hb : (BitVec.ofNat 32 x.val == BitVec.ofNat 32 (grid0.coords t 1).val) = false := beq_eq_false_iff_ne.2 hne
    simp only [IntOp.cmpi, Scalar.select, hb]
    simp
  · intro h
    exact absurd (Finset.mem_univ e) h

/-- The hidden tile of a point is the reference's hidden columns of the point's expert. -/
theorem act_at (c : Dev nD) (t : Fin cfg0.N) (a : Fin 1024) (f : Fin 896) (r : Fin 32768) (hr : r.val = t.val / 16 * 1024 + a.val)
    (e : Fin 8) (he : e.val = t.val / 2 % 8) (F : Fin 1792) (hF : F.val = t.val % 2 * 896 + f.val) :
    k0_pay5 (F := Ideal) (k0_pay3 (iblk m c 0 t) (iblk m c 1 t)) (iblk m c 3 t) (iblk m c 4 t) (ix2 a f)
      = act (val_main_v12 (F := Ideal) (m ((c : Thread nD τ).loc main_arg0)) (m ((c : Thread nD τ).loc main_arg1)))
          (m ((c : Thread nD τ).loc main_arg3)) e r F := by
  have hg : ∑ k : Fin 1024, k0_pay3 (F := Ideal) (iblk m c 0 t) (iblk m c 1 t) (ix2 a k) * (show FVec Ideal S1x1024x896 .bf16 from iblk m c 3 t) (ix3 0 k f)
      = up (val_main_v12 (F := Ideal) (m ((c : Thread nD τ).loc main_arg0)) (m ((c : Thread nD τ).loc main_arg1)))
          (m ((c : Thread nD τ).loc main_arg3)) e r ⟨F.val, by omega⟩ := by
    refine Finset.sum_congr rfl fun k _ => ?_
    rw [hid_at m c t a k r hr]
    blk_point [iblk, V, idx t]
  have hu : ∑ k : Fin 1024, k0_pay3 (F := Ideal) (iblk m c 0 t) (iblk m c 1 t) (ix2 a k) * (show FVec Ideal S1x1024x896 .bf16 from iblk m c 4 t) (ix3 0 k f)
      = up (val_main_v12 (F := Ideal) (m ((c : Thread nD τ).loc main_arg0)) (m ((c : Thread nD τ).loc main_arg1)))
          (m ((c : Thread nD τ).loc main_arg3)) e r ⟨1792 + F.val, by omega⟩ := by
    refine Finset.sum_congr rfl fun k _ => ?_
    rw [hid_at m c t a k r hr]
    blk_point [iblk, V, idx t]
  refine (pay5_at _ _ _ a f).trans ?_
  unfold act
  exact congrArg₂ (fun x y : EReal => x * Ideal.div (Ideal.ofBits .f32 0x3F800000#32) (Ideal.ofBits .f32 0x3F800000#32 + Ideal.exp (-x)) * y) hg hu

/-- A point's part: the row's weight for the point's expert times the product over the point's tile of hidden columns. -/
theorem part_at (c : Dev nD) (t : Fin cfg0.N) (i : S1024x1024.Idx) (r : Fin 32768) (hr : r.val = t.val / 16 * 1024 + (i 0).val)
    (e : Fin 8) (he : e.val = t.val / 2 % 8) :
    part m c t i = (show FVec Ideal S32768x128 .f32 from m ((c : Thread nD τ).loc main_arg2)) (ix2 r ⟨e.val, by omega⟩)
      * ∑ f : Fin 896, act (val_main_v12 (F := Ideal) (m ((c : Thread nD τ).loc main_arg0)) (m ((c : Thread nD τ).loc main_arg1)))
          (m ((c : Thread nD τ).loc main_arg3)) e r ⟨t.val % 2 * 896 + f.val, by omega⟩
        * (show FVec Ideal S8x1792x1024 .f32 from m ((c : Thread nD τ).loc main_arg4)) (ix3 e ⟨t.val % 2 * 896 + f.val, by omega⟩ (i 1)) := by
  unfold part
  refine congrArg₂ (fun x y : EReal => x * y) ?_ (Finset.sum_congr rfl fun f _ => congrArg₂ (fun x y : EReal => x * y) ?_ ?_)
  · rw [pay6_at t _ (i 0) ⟨e.val, by omega⟩ he]
    blk_point [iblk, V, idx t]
  · exact act_at m c t (i 0) f r hr e he _ rfl
  · blk_point [iblk, V, idx t]

/-- A finite weight that is not negative distributes over a sum of two. -/
theorem weight_add (w a b : EReal) (h0 : 0 ≤ w) (h1 : w ≠ ⊤) : w * a + w * b = w * (a + b) :=
  (EReal.left_distrib_of_nonneg_of_ne_top h0 h1 a b).symm

/-- The sum of a run's parts is the weighted sum of the experts, where the row's weights are finite and not negative. -/
theorem parts_sum (c : Dev nD) (t : Fin cfg0.N) (h1 : t.val % 16 = 15) (i : S1024x1024.Idx) (r : Fin 32768)
    (hr : r.val = t.val / 16 * 1024 + (i 0).val)
    (hw : ∀ e : Fin 128, 0 ≤ (show FVec Ideal S32768x128 .f32 from m ((c : Thread nD τ).loc main_arg2)) (ix2 r e)
      ∧ (show FVec Ideal S32768x128 .f32 from m ((c : Thread nD τ).loc main_arg2)) (ix2 r e) ≠ ⊤) :
    ∑ s : Fin 16, part m c ⟨16 * (t.val / 16) + s.val, Pipeline.run_point_lt_of_flush t h1 s⟩ i
      = ∑ e : Fin 8, (show FVec Ideal S32768x128 .f32 from m ((c : Thread nD τ).loc main_arg2)) (ix2 r ⟨e.val, by omega⟩)
          * expert (val_main_v12 (F := Ideal) (m ((c : Thread nD τ).loc main_arg0)) (m ((c : Thread nD τ).loc main_arg1)))
              (m ((c : Thread nD τ).loc main_arg3)) (m ((c : Thread nD τ).loc main_arg4)) e r (i 1) := by
  have hp : ∀ s : Fin 16, part m c ⟨16 * (t.val / 16) + s.val, Pipeline.run_point_lt_of_flush t h1 s⟩ i
      = (show FVec Ideal S32768x128 .f32 from m ((c : Thread nD τ).loc main_arg2)) (ix2 r ⟨s.val / 2, by omega⟩)
        * ∑ f : Fin 896, act (val_main_v12 (F := Ideal) (m ((c : Thread nD τ).loc main_arg0)) (m ((c : Thread nD τ).loc main_arg1)))
            (m ((c : Thread nD τ).loc main_arg3)) ⟨s.val / 2, by omega⟩ r ⟨s.val % 2 * 896 + f.val, by omega⟩
          * (show FVec Ideal S8x1792x1024 .f32 from m ((c : Thread nD τ).loc main_arg4)) (ix3 ⟨s.val / 2, by omega⟩ ⟨s.val % 2 * 896 + f.val, by omega⟩ (i 1)) := by
    intro s
    have e2 : (16 * (t.val / 16) + s.val) % 2 = s.val % 2 := by omega
    rw [part_at m c ⟨16 * (t.val / 16) + s.val, Pipeline.run_point_lt_of_flush t h1 s⟩ i r (by show _ = (16 * (t.val / 16) + s.val) / 16 * 1024 + _; omega)
      ⟨s.val / 2, by omega⟩ (by show s.val / 2 = (16 * (t.val / 16) + s.val) / 2 % 8; omega)]
    simp only [e2]
  rw [Finset.sum_congr rfl fun s _ => hp s]
  refine (Fin.sum_divmod_congr (S := 2) (A := 8) (N := 16) (f := fun e s => (show FVec Ideal S32768x128 .f32 from m ((c : Thread nD τ).loc main_arg2)) (ix2 r ⟨e.val, by omega⟩)
        * ∑ f : Fin 896, act (val_main_v12 (F := Ideal) (m ((c : Thread nD τ).loc main_arg0)) (m ((c : Thread nD τ).loc main_arg1)))
            (m ((c : Thread nD τ).loc main_arg3)) e r ⟨s.val * 896 + f.val, by omega⟩
          * (show FVec Ideal S8x1792x1024 .f32 from m ((c : Thread nD τ).loc main_arg4)) (ix3 e ⟨s.val * 896 + f.val, by omega⟩ (i 1))) ?_).trans ?_
  · intro s h2 h3
    rfl
  · refine Finset.sum_congr rfl fun e _ => ?_
    rw [Fin.sum_univ_two, weight_add _ _ _ (hw _).1 (hw _).2]
    refine congrArg₂ (fun x y : EReal => x * y) rfl ?_
    unfold expert
    rw [← Fin.sum_univ_two (fun s : Fin 2 => ∑ f : Fin 896, act (val_main_v12 (F := Ideal) (m ((c : Thread nD τ).loc main_arg0)) (m ((c : Thread nD τ).loc main_arg1)))
            (m ((c : Thread nD τ).loc main_arg3)) e r ⟨s.val * 896 + f.val, by omega⟩
          * (show FVec Ideal S8x1792x1024 .f32 from m ((c : Thread nD τ).loc main_arg4)) (ix3 e ⟨s.val * 896 + f.val, by omega⟩ (i 1)))]
    refine Fin.sum_mul_add_congr fun s k hl => ?_
    rfl

/-- The result array after the run is the reference's, where the routing weights are finite and not negative. -/
theorem final (c : Dev nD)
    (hw : ∀ (r : Fin 32768) (e : Fin 128), 0 ≤ (show FVec Ideal S32768x128 .f32 from m ((c : Thread nD τ).loc main_arg2)) (ix2 r e)
      ∧ (show FVec Ideal S32768x128 .f32 from m ((c : Thread nD τ).loc main_arg2)) (ix2 r e) ≠ ⊤) :
    (dats m 0 c).arrAt 6 cfg0.N
      = val_main_v126 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  have h1 : t.val % 16 = 15 := (flush0_6 t).mp hf
  have hN : t.val < 512 := lt_of_lt_of_eq t.isLt N_0
  blk_simp
  rw [after0_6, out_sum m c t h1 y]
  have hy : ((cfg0.win 6).blk t).view.emb y = ix2 (n0 := 32768) (n1 := 1024) ⟨t.val / 16 * 1024 + (y 0).val, by have : (y 0).val < 1024 := (y 0).isLt; omega⟩ (y 1) := by
    blk_ext [idx t]
  rw [hy]
  refine Eq.trans ?_ (ref_at _ _ _ _ _ _ _).symm
  refine congrArg₂ (fun x y : EReal => x + y) ?_ (parts_sum m c t h1 y _ rfl (hw _))
  blk_point [iblk, V, idx t]

end Cert.MoeIdeal.Hand

end
-- ==== Proof.FfnFold.lean ====
module

public import proofs.«01_k».proof.Proof.Gen.FfnIdeal.Value
public import Idealize.ShloMosaic.Lib.Pipeline.ValueKit
public import Idealize.ShloMosaic.Lib.Pipeline.ReadBack
public import Idealize.ShloMosaic.Lib.Pointwise

/-! The feed-forward call of the dense layers: what its two scratch buffers hold after each grid point. The normalized rows are computed at the first point
    of a block's run and carried; the accumulator is the sum of the points' parts. -/

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- The windows' block indices at point `t`: row block `t / 7`, tile `t % 7`. -/
theorem idx : ∀ t : Fin cfg0.N, win0_0.index t = ![t.val / 7, 0] ∧ win0_1.index t = ![0, 0] ∧ win0_2.index t = ![t.val / 7, 0]
    ∧ win0_3.index t = ![0, 0, t.val % 7] ∧ win0_4.index t = ![0, 0, t.val % 7 + 7]
    ∧ win0_5.index t = ![0, t.val % 7, 0] ∧ win0_6.index t = ![t.val / 7, 0] ∧ (grid0.coords t 1).val = 0 :=
  (by decide +kernel : ∀ t : Fin grid0.N, _)

/-- At the first point of a run the hidden scratch receives the normalized rows. -/
theorem hidA (c : Dev nD) (t : Fin cfg0.N) (h0 : t.val % 7 = 0) :
    (outsAt0 m c t.val t.isLt).2.1 = k0_pay3 (iblk m c 0 t) (iblk m c 1 t) := by
  rw [outsAt0_A m c t h0 (by omega)]
  frame_out

/-- At the other points it is left as it was. -/
theorem hidB (c : Dev nD) (t : Fin cfg0.N) (h0 : ¬t.val % 7 = 0) :
    (outsAt0 m c t.val t.isLt).2.1 = (outsAt0 m c (t.val - 1) (Nat.lt_of_le_of_lt (Nat.sub_le _ _) t.isLt)).2.1 := by
  by_cases h1 : t.val % 7 = 6
  · rw [outsAt0_C m c t h0 h1]
    rfl
  · rw [outsAt0_B m c t h0 h1]
    rfl

/-- Within a run the block of rows does not move. -/
theorem rows_same (c : Dev nD) (t : Fin cfg0.N) (h0 : ¬t.val % 7 = 0) (h : t.val - 1 < cfg0.N) :
    iblk m c 0 ⟨t.val - 1, h⟩ = iblk m c 0 t ∧ iblk m c 1 ⟨t.val - 1, h⟩ = iblk m c 1 t := by
  have e := idx ⟨t.val - 1, h⟩
  have f := idx t
  constructor
  · funext y
    blk_ext [iblk, V, idx ⟨t.val - 1, h⟩, idx t]
  · funext y
    blk_ext [iblk, V, idx ⟨t.val - 1, h⟩, idx t]

/-- The hidden scratch after any point: the normalized rows of the point's own block. -/
theorem hid (c : Dev nD) : ∀ (n : ℕ) (hn : n < cfg0.N),
    (outsAt0 m c n hn).2.1 = k0_pay3 (iblk m c 0 ⟨n, hn⟩) (iblk m c 1 ⟨n, hn⟩)
  | 0, hn => hidA m c ⟨0, hn⟩ (Nat.zero_mod _)
  | n + 1, hn => by
    by_cases h0 : (n + 1) % 7 = 0
    · exact hidA m c ⟨n + 1, hn⟩ h0
    · have e := hidB m c ⟨n + 1, hn⟩ h0
      have i := hid c n (Nat.lt_of_succ_lt hn)
      obtain ⟨r0, r1⟩ := rows_same m c ⟨n + 1, hn⟩ h0 (Nat.lt_of_succ_lt hn)
      refine (e.trans i).trans ?_
      exact congrArg₂ k0_pay3 r0 r1

/-- What one point adds to the accumulator at block index `i`: the row's weight times the tile's product. -/
def part (c : Dev nD) (t : Fin cfg0.N) : FVec Ideal S1024x1024 .f32 := fun i =>
  k0_pay6 (F := Ideal) (grid0.coords t) (iblk m c 2 t) (ix2 (i 0) 0)
    * ∑ f : Fin 512, k0_pay5 (F := Ideal) (k0_pay3 (iblk m c 0 t) (iblk m c 1 t)) (iblk m c 3 t) (iblk m c 4 t) (ix2 (i 0) f)
        * (show FVec Ideal S1x512x1024 .bf16 from iblk m c 5 t) (ix3 0 f (i 1))

/-- The accumulating payload at an index. -/
theorem pay1_at (h : FVec Ideal S1024x512 .bf16) (w : FVec Ideal S1024x1 .f32) (acc : FVec Ideal S1024x1024 .f32)
    (d : FVec Ideal S1x512x1024 .bf16) (i : S1024x1024.Idx) :
    k0_pay1 h w acc d i = acc i + w (ix2 (i 0) 0) * ∑ f : Fin 512, h (ix2 (i 0) f) * d (ix3 0 f (i 1)) := by
  pointwise [k0_pay1]

/-- The accumulator's first fill is zero. -/
theorem pay4_at (i : S1024x1024.Idx) : k0_pay4 (F := Ideal) i = 0 := by pointwise [k0_pay4]

/-- The accumulator after the first point of a run. -/
theorem accA (c : Dev nD) (t : Fin cfg0.N) (h0 : t.val % 7 = 0) (i : S1024x1024.Idx) :
    (outsAt0 m c t.val t.isLt).2.2 i = 0 + part m c t i := by
  rw [outsAt0_A m c t h0 (by omega)]
  frame_out
  rw [pay1_at, pay4_at]
  rfl

/-- The accumulator after a later point of a run. -/
theorem accB (c : Dev nD) (t : Fin cfg0.N) (h0 : ¬t.val % 7 = 0) (i : S1024x1024.Idx) :
    (outsAt0 m c t.val t.isLt).2.2 i
      = (outsAt0 m c (t.val - 1) (Nat.lt_of_le_of_lt (Nat.sub_le _ _) t.isLt)).2.2 i + part m c t i := by
  have hh : (outsAt0 m c (t.val - 1) (Nat.lt_of_le_of_lt (Nat.sub_le _ _) t.isLt)).2.1 = k0_pay3 (iblk m c 0 t) (iblk m c 1 t) :=
    (hidB m c t h0).symm.trans (hid m c t.val t.isLt)
  by_cases h1 : t.val % 7 = 6
  · rw [outsAt0_C m c t h0 h1]
    frame_out
    simp only [read_unread_whole]
    rw [hh, pay1_at]
    rfl
  · rw [outsAt0_B m c t h0 h1]
    frame_out
    simp only [read_unread_whole]
    rw [hh, pay1_at]
    rfl

/-- The output block at the last point of a run: the rows plus the accumulator. -/
theorem outC (c : Dev nD) (t : Fin cfg0.N) (h1 : t.val % 7 = 6) (i : S1024x1024.Idx) :
    (outsAt0 m c t.val t.isLt).1 i = (show FVec Ideal S1024x1024 .f32 from iblk m c 0 t) i + (outsAt0 m c t.val t.isLt).2.2 i := by
  rw [outsAt0_C m c t (by omega) h1]
  frame_out
  pointwise [k0_pay2]

/-- What the last point of a run writes back: the rows plus the sum of the run's parts. -/
theorem out_sum (c : Dev nD) (t : Fin cfg0.N) (h1 : t.val % 7 = 6) (i : S1024x1024.Idx) :
    (outsAt0 m c t.val t.isLt).1 i = (show FVec Ideal S1024x1024 .f32 from iblk m c 0 t) i
      + ∑ s : Fin 7, part m c ⟨7 * (t.val / 7) + s.val, Pipeline.run_point_lt_of_flush t h1 s⟩ i := by
  rw [outC m c t h1, Pipeline.eq_sum_fin_of_reset_step_apply_of_flush (fun n h => (outsAt0 m c n h).2.2) 7 (fun _ => 0)
    (part m c) (fun t h j => accA m c t h j) (fun t h j => accB m c t h j) t h1 i, zero_add]

end Cert.FfnIdeal.Hand

end
-- ==== Proof.FfnRef.lean ====
module

public import proofs.«01_k».proof.Proof.Gen.FfnIdeal.Frame
public import proofs.«01_k».proof.Proof.Gen.FfnReferenceIdeal.Read
public import Idealize.ShloMosaic.Lib.Pipeline.ValueKit
public import Idealize.ShloMosaic.Lib.Pointwise

/-! The feed-forward call of one dense layer: the reference read at an index, as the row plus the product of the hidden row with the down weights. -/

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.FfnReferenceIdeal.Read

/-- The gate and up projections at row `r`, column `f` of `w_gu`. -/
def up (H : FVec Ideal S32768x1024 .f32) (W : FVec Ideal S1024x7168 .f32) (r : Fin 32768) (f : Fin 7168) : EReal :=
  ∑ k : Fin 1024, H (ix2 r k) * W (ix2 k f)

/-- `silu(gate) * up` at row `r`, hidden column `f`. -/
def act (H : FVec Ideal S32768x1024 .f32) (W : FVec Ideal S1024x7168 .f32) (r : Fin 32768) (f : Fin 3584) : EReal :=
  up H W r ⟨f.val, by omega⟩ * Ideal.div (Ideal.ofBits .f32 0x3F800000#32) (Ideal.ofBits .f32 0x3F800000#32 + Ideal.exp (-up H W r ⟨f.val, by omega⟩))
    * up H W r ⟨3584 + f.val, by omega⟩

set_option maxHeartbeats 2000000 in
/-- The reference's result at row `r`, column `j`: the row plus the hidden row times column `j` of the down weights. -/
theorem ref_at (X : FVec Ideal S32768x1024 .f32) (g : FVec Ideal S1024 .f32)
    (W : FVec Ideal S1024x7168 .f32) (D : FVec Ideal S3584x1024 .f32) (r : Fin 32768) (j : Fin 1024) :
    val_main_v19 (F := Ideal) X g W D (ix2 r j) = X (ix2 r j)
      + ∑ f : Fin 3584, act (val_main_v12 (F := Ideal) X g) W r f * D (ix2 f j) := by
  unfold act up
  pointwise [val_main_v13, val_main_v14, val_main_call0_v0, val_main_call0_v1, val_main_call0_cst, val_main_call0_v2, val_main_call0_v3, val_main_call0_cst_0, val_main_call0_v4, val_main_call0_v5, val_main_v15, val_main_v16, val_main_v17, val_main_v18, val_main_v19]

end Cert.FfnIdeal.Hand

end
-- ==== Proof.FfnValue.lean ====
module

public import proofs.«01_k».proof.Proof.FfnFold
public import proofs.«01_k».proof.Proof.FfnRef
public import Idealize.ShloMosaic.Lib.Pipeline.ValueKit
public import Idealize.ShloMosaic.Lib.Pointwise

/-! The feed-forward call of one dense layer: its result array is the reference. -/

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.FfnReferenceIdeal.Read

variable (m : (ℓ : Loc nD τ sig) → Buf (Elt Ideal) ℓ)

/-- The normalized rows the kernel computes are the reference's. -/
theorem hid_at (c : Dev nD) (t : Fin cfg0.N) (a k : Fin 1024) (r : Fin 32768) (hr : r.val = t.val / 7 * 1024 + a.val) :
    k0_pay3 (F := Ideal) (iblk m c 0 t) (iblk m c 1 t) (ix2 a k)
      = val_main_v12 (F := Ideal) (m ((c : Thread nD τ).loc main_arg0)) (m ((c : Thread nD τ).loc main_arg1)) (ix2 r k) := by
  pointwise [k0_pay3, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

/-- The hidden tile's payload at an index. -/
theorem pay5_at (h : FVec Ideal S1024x1024 .bf16) (w3 w4 : FVec Ideal S1x1024x512 .bf16) (a : Fin 1024) (f : Fin 512) :
    k0_pay5 h w3 w4 (ix2 a f) = (∑ k : Fin 1024, h (ix2 a k) * w3 (ix3 0 k f))
      * Ideal.div (Ideal.ofBits .f32 0x3F800000#32) (Ideal.ofBits .f32 0x3F800000#32 + Ideal.exp (-∑ k : Fin 1024, h (ix2 a k) * w3 (ix3 0 k f)))
      * (∑ k : Fin 1024, h (ix2 a k) * w4 (ix3 0 k f)) := by
  pointwise [k0_pay5]
  simp only [zero_sub]

/-- The weight of a point: the only expert has number 0, so lane 0 is kept. -/
theorem pay6_at (t : Fin cfg0.N) (w : FVec Ideal S1024x128 .f32) (a : Fin 1024) :
    k0_pay6 (F := Ideal) (grid0.coords t) w (ix2 a 0) = w (ix2 a 0) := by
  have hc : (grid0.coords t 1).val = 0 := (idx t).2.2.2.2.2.2.2
  pointwise [k0_pay6]
  rw [Finset.sum_eq_single 0]
  · simp [IntOp.cmpi, Scalar.select]
  · intro x _ hx
    have hne : BitVec.ofNat 32 x.val ≠ 0#32 := by
      intro h
      have := congrArg BitVec.toNat h
      simp only [BitVec.toNat_ofNat] at this
      exact hx (Fin.ext (by simp only [Fin.val_zero]; omega))
    have hb : (BitVec.ofNat 32 x.val == 0#32) = false := beq_eq_false_iff_ne.2 hne
    simp only [IntOp.cmpi, Scalar.select, hb]
    simp
  · intro h
    exact absurd (Finset.mem_univ _) h

/-- The hidden tile of a point is the reference's hidden columns of the point's tile. -/
theorem act_at (c : Dev nD) (t : Fin cfg0.N) (a : Fin 1024) (f : Fin 512) (r : Fin 32768) (hr : r.val = t.val / 7 * 1024 + a.val)
    (F : Fin 3584) (hF : F.val = t.val % 7 * 512 + f.val) :
    k0_pay5 (F := Ideal) (k0_pay3 (iblk m c 0 t) (iblk m c 1 t)) (iblk m c 3 t) (iblk m c 4 t) (ix2 a f)
      = act (val_main_v12 (F := Ideal) (m ((c : Thread nD τ).loc main_arg0)) (m ((c : Thread nD τ).loc main_arg1)))
          (m ((c : Thread nD τ).loc main_arg2)) r F := by
  have hg : ∑ k : Fin 1024, k0_pay3 (F := Ideal) (iblk m c 0 t) (iblk m c 1 t) (ix2 a k) * (show FVec Ideal S1x1024x512 .bf16 from iblk m c 3 t) (ix3 0 k f)
      = up (val_main_v12 (F := Ideal) (m ((c : Thread nD τ).loc main_arg0)) (m ((c : Thread nD τ).loc main_arg1)))
          (m ((c : Thread nD τ).loc main_arg2)) r ⟨F.val, by omega⟩ := by
    refine Finset.sum_congr rfl fun k _ => ?_
    rw [hid_at m c t a k r hr]
    blk_point [iblk, V, idx t]
  have hu : ∑ k : Fin 1024, k0_pay3 (F := Ideal) (iblk m c 0 t) (iblk m c 1 t) (ix2 a k) * (show FVec Ideal S1x1024x512 .bf16 from iblk m c 4 t) (ix3 0 k f)
      = up (val_main_v12 (F := Ideal) (m ((c : Thread nD τ).loc main_arg0)) (m ((c : Thread nD τ).loc main_arg1)))
          (m ((c : Thread nD τ).loc main_arg2)) r ⟨3584 + F.val, by omega⟩ := by
    refine Finset.sum_congr rfl fun k _ => ?_
    rw [hid_at m c t a k r hr]
    blk_point [iblk, V, idx t]
  refine (pay5_at _ _ _ a f).trans ?_
  unfold act
  exact congrArg₂ (fun x y : EReal => x * Ideal.div (Ideal.ofBits .f32 0x3F800000#32) (Ideal.ofBits .f32 0x3F800000#32 + Ideal.exp (-x)) * y) hg hu

/-- A point's part: the product over the point's tile of hidden columns (the weight is 1). -/
theorem part_at (c : Dev nD) (t : Fin cfg0.N) (i : S1024x1024.Idx) (r : Fin 32768) (hr : r.val = t.val / 7 * 1024 + (i 0).val) :
    part m c t i = ∑ f : Fin 512, act (val_main_v12 (F := Ideal) (m ((c : Thread nD τ).loc main_arg0)) (m ((c : Thread nD τ).loc main_arg1)))
          (m ((c : Thread nD τ).loc main_arg2)) r ⟨t.val % 7 * 512 + f.val, by omega⟩
        * (show FVec Ideal S3584x1024 .f32 from m ((c : Thread nD τ).loc main_arg3)) (ix2 ⟨t.val % 7 * 512 + f.val, by omega⟩ (i 1)) := by
  have hw : k0_pay6 (F := Ideal) (grid0.coords t) (iblk m c 2 t) (ix2 (i 0) 0) = 1 := by
    rw [pay6_at t _ (i 0)]
    blk_point [iblk, V, idx t]
  unfold part
  rw [hw, one_mul]
  refine Finset.sum_congr rfl fun f _ => congrArg₂ (fun x y : EReal => x * y) ?_ ?_
  · exact act_at m c t (i 0) f r hr _ rfl
  · blk_point [iblk, V, idx t]

/-- The sum of a run's parts is the product over all hidden columns. -/
theorem parts_sum (c : Dev nD) (t : Fin cfg0.N) (h1 : t.val % 7 = 6) (i : S1024x1024.Idx) (r : Fin 32768)
    (hr : r.val = t.val / 7 * 1024 + (i 0).val) :
    ∑ s : Fin 7, part m c ⟨7 * (t.val / 7) + s.val, Pipeline.run_point_lt_of_flush t h1 s⟩ i
      = ∑ f : Fin 3584, act (val_main_v12 (F := Ideal) (m ((c : Thread nD τ).loc main_arg0)) (m ((c : Thread nD τ).loc main_arg1)))
              (m ((c : Thread nD τ).loc main_arg2)) r f * (show FVec Ideal S3584x1024 .f32 from m ((c : Thread nD τ).loc main_arg3)) (ix2 f (i 1)) := by
  have hp : ∀ s : Fin 7, part m c ⟨7 * (t.val / 7) + s.val, Pipeline.run_point_lt_of_flush t h1 s⟩ i
      = ∑ f : Fin 512, act (val_main_v12 (F := Ideal) (m ((c : Thread nD τ).loc main_arg0)) (m ((c : Thread nD τ).loc main_arg1)))
            (m ((c : Thread nD τ).loc main_arg2)) r ⟨s.val * 512 + f.val, by omega⟩
          * (show FVec Ideal S3584x1024 .f32 from m ((c : Thread nD τ).loc main_arg3)) (ix2 ⟨s.val * 512 + f.val, by omega⟩ (i 1)) := by
    intro s
    have e2 : (7 * (t.val / 7) + s.val) % 7 = s.val := by omega
    rw [part_at m c ⟨7 * (t.val / 7) + s.val, Pipeline.run_point_lt_of_flush t h1 s⟩ i r (by show _ = (7 * (t.val / 7) + s.val) / 7 * 1024 + _; omega)]
    simp only [e2]
  rw [Finset.sum_congr rfl fun s _ => hp s]
  refine Fin.sum_mul_add_congr fun s k hl => ?_
  rfl

/-- The result array after the run is the reference's. -/
theorem final (c : Dev nD) :
    (dats m 0 c).arrAt 6 cfg0.N
      = val_main_v19 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 6 _ (by decide +kernel) fun t hf y => ?_
  have h1 : t.val % 7 = 6 := (flush0_6 t).mp hf
  have hN : t.val < 224 := lt_of_lt_of_eq t.isLt N_0
  blk_simp
  rw [after0_6, out_sum m c t h1 y]
  have hy : ((cfg0.win 6).blk t).view.emb y = ix2 (n0 := 32768) (n1 := 1024) ⟨t.val / 7 * 1024 + (y 0).val, by have : (y 0).val < 1024 := (y 0).isLt; omega⟩ (y 1) := by
    blk_ext [idx t]
  rw [hy]
  refine Eq.trans ?_ (ref_at _ _ _ _ _ _).symm
  refine congrArg₂ (fun x y : EReal => x + y) ?_ (parts_sum m c t h1 y _ rfl)
  blk_point [iblk, V, idx t]

end Cert.FfnIdeal.Hand

end
-- ==== Proof.InProjRef.lean ====
module

public import proofs.«01_k».proof.Proof.Gen.InProjIdeal.Value
public import proofs.«01_k».proof.Proof.Gen.InProjReferenceIdeal.Read
public import Idealize.ShloMosaic.Lib.Pipeline.ValueKit
public import Idealize.ShloMosaic.Lib.Pointwise

/-! The input projection call: the reference's results, read at an index. -/

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen Cert.InProjReferenceIdeal.Read

set_option maxHeartbeats 2000000

/-- The projected row `r` at column `j`: the normalized row times the weights' column. -/
def proj (x0 : FVec Ideal S32768x1024 .f32) (x1 : FVec Ideal S1024 .f32) (x4 : FVec Ideal S1024x5888 .f32) (r : Fin 32768) (j : Fin 5888) : EReal :=
  ∑ k : Fin 1024, val_main_v12 (F := Ideal) x0 x1 (ix2 r k) * x4 (ix2 k j)

/-- A row in the rotate-half form: head `h`, lane `d` of 64, by the tables' rows. -/
def turned (p : Fin 64 → EReal) (cs sn : Fin 64 → EReal) (d : Fin 64) : EReal :=
  p d * cs d + p (⟨(d.val + 32) % 64, by omega⟩ : Fin 64) * sn d

/-- The reference's product at a row and a column. -/
theorem proj_at (x0 : FVec Ideal S32768x1024 .f32) (x1 : FVec Ideal S1024 .f32) (x4 : FVec Ideal S1024x5888 .f32) (r : Fin 32768) (j : Fin 5888) : val_main_v13 (F := Ideal) x0 x1 x4 (ix2 r j) = proj x0 x1 x4 r j := by
  unfold proj
  pointwise [val_main_v13]

/-- The reference's first result. -/
theorem conv_at (x0 : FVec Ideal S32768x1024 .f32) (x1 : FVec Ideal S1024 .f32) (x4 : FVec Ideal S1024x5888 .f32) (r : Fin 32768) (j : Fin 1536) :
    val_main_v54 (F := Ideal) x0 x1 x4 (ix2 r j) = proj x0 x1 x4 r (⟨j.val, by omega⟩ : Fin 5888) := by
  pointwise [val_main_v14, val_main_v54, proj_at]

/-- The reference's last result. -/
theorem gates_at (x0 : FVec Ideal S32768x1024 .f32) (x1 : FVec Ideal S1024 .f32) (x4 : FVec Ideal S1024x5888 .f32) (r : Fin 32768) (j : Fin 3072) :
    val_main_v59 (F := Ideal) x0 x1 x4 (ix2 r j) = proj x0 x1 x4 r (⟨2816 + j.val, by omega⟩ : Fin 5888) := by
  pointwise [val_main_v19, val_main_v59, proj_at]

/-- The rotation table read at a head and a lane: a row serves two heads. -/
theorem v27_at (x2 : FVec Ideal S32768x128 .f32) (r : Fin 32768) (h : Fin 8) (d : Fin 64) :
    val_main_v27 (F := Ideal) x2 (ix3 r h d) = x2 (ix2 r (⟨h.val % 2 * 64 + d.val, by omega⟩ : Fin 128)) := by
  pointwise [val_main_v24, val_main_v25, val_main_v26, val_main_v27]

/-- The rotation table read at a head and a lane: a row serves two heads. -/
theorem v32_at (x3 : FVec Ideal S32768x128 .f32) (r : Fin 32768) (h : Fin 8) (d : Fin 64) :
    val_main_v32 (F := Ideal) x3 (ix3 r h d) = x3 (ix2 r (⟨h.val % 2 * 64 + d.val, by omega⟩ : Fin 128)) := by
  pointwise [val_main_v29, val_main_v30, val_main_v31, val_main_v32]

/-- The rotation table read at a head and a lane: a row serves two heads. -/
theorem v45_at (x2 : FVec Ideal S32768x128 .f32) (r : Fin 32768) (h : Fin 2) (d : Fin 64) :
    val_main_v45 (F := Ideal) x2 (ix3 r h d) = x2 (ix2 r (⟨h.val * 64 + d.val, by omega⟩ : Fin 128)) := by
  pointwise [val_main_v42, val_main_v43, val_main_v44, val_main_v45]

/-- The rotation table read at a head and a lane: a row serves two heads. -/
theorem v50_at (x3 : FVec Ideal S32768x128 .f32) (r : Fin 32768) (h : Fin 2) (d : Fin 64) :
    val_main_v50 (F := Ideal) x3 (ix3 r h d) = x3 (ix2 r (⟨h.val * 64 + d.val, by omega⟩ : Fin 128)) := by
  pointwise [val_main_v47, val_main_v48, val_main_v49, val_main_v50]

/-- A head's lanes with the halves exchanged. -/
theorem swap_q (x0 : FVec Ideal S32768x1024 .f32) (x1 : FVec Ideal S1024 .f32) (x4 : FVec Ideal S1024x5888 .f32) (r : Fin 32768) (h : Fin 8) (d : Fin 64) :
    val_main_v23 (F := Ideal) x0 x1 x4 (ix3 r h d) = proj x0 x1 x4 r (⟨2048 + (h.val * 64 + (d.val + 32) % 64), by omega⟩ : Fin 5888) := by
  pointwise [val_main_v16, val_main_v20, val_main_v21, val_main_v22, val_main_v23, proj_at]
  split
  · exact congrArg (proj x0 x1 x4 r) (Fin.ext (by simp; omega))
  · exact congrArg (proj x0 x1 x4 r) (Fin.ext (by simp; omega))

/-- The reference's rotated and scaled query at a head and a lane. -/
theorem query_at (x0 : FVec Ideal S32768x1024 .f32) (x1 : FVec Ideal S1024 .f32) (x2 x3 : FVec Ideal S32768x128 .f32) (x4 : FVec Ideal S1024x5888 .f32) (r : Fin 32768) (h : Fin 8) (d : Fin 64) :
    val_main_v37 (F := Ideal) x0 x1 x2 x3 x4 (ix2 r (⟨h.val * 64 + d.val, by omega⟩ : Fin 512))
      = turned (fun d => proj x0 x1 x4 r (⟨2048 + (h.val * 64 + d.val), by omega⟩ : Fin 5888))
          (fun d => x2 (ix2 r (⟨h.val % 2 * 64 + d.val, by omega⟩ : Fin 128))) (fun d => x3 (ix2 r (⟨h.val % 2 * 64 + d.val, by omega⟩ : Fin 128))) d
        * Ideal.ofBits .f32 0x3E000000#32 := by
  pointwise [val_main_v16, val_main_v20, val_main_v28, val_main_v33, val_main_v34, val_main_v35, val_main_v36, val_main_v37, val_main_cst_2, v27_at, v32_at, swap_q, proj_at, turned]

/-- A head's lanes with the halves exchanged. -/
theorem swap_k (x0 : FVec Ideal S32768x1024 .f32) (x1 : FVec Ideal S1024 .f32) (x4 : FVec Ideal S1024x5888 .f32) (r : Fin 32768) (h : Fin 2) (d : Fin 64) :
    val_main_v41 (F := Ideal) x0 x1 x4 (ix3 r h d) = proj x0 x1 x4 r (⟨2560 + (h.val * 64 + (d.val + 32) % 64), by omega⟩ : Fin 5888) := by
  pointwise [val_main_v17, val_main_v38, val_main_v39, val_main_v40, val_main_v41, proj_at]
  split
  · exact congrArg (proj x0 x1 x4 r) (Fin.ext (by simp; omega))
  · exact congrArg (proj x0 x1 x4 r) (Fin.ext (by simp; omega))

/-- The reference's rotated key at a head and a lane. -/
theorem key_at (x0 : FVec Ideal S32768x1024 .f32) (x1 : FVec Ideal S1024 .f32) (x2 x3 : FVec Ideal S32768x128 .f32) (x4 : FVec Ideal S1024x5888 .f32) (r : Fin 32768) (h : Fin 2) (d : Fin 64) :
    val_main_v53 (F := Ideal) x0 x1 x2 x3 x4 (ix2 r (⟨h.val * 64 + d.val, by omega⟩ : Fin 128))
      = turned (fun d => proj x0 x1 x4 r (⟨2560 + (h.val * 64 + d.val), by omega⟩ : Fin 5888))
          (fun d => x2 (ix2 r (⟨h.val * 64 + d.val, by omega⟩ : Fin 128))) (fun d => x3 (ix2 r (⟨h.val * 64 + d.val, by omega⟩ : Fin 128))) d := by
  pointwise [val_main_v17, val_main_v38, val_main_v46, val_main_v51, val_main_v52, val_main_v53, v45_at, v50_at, swap_k, proj_at, turned]

/-- The second result's first half holds the pooled branch's inputs. -/
theorem pooled_at (x0 : FVec Ideal S32768x1024 .f32) (x1 : FVec Ideal S1024 .f32) (x2 x3 : FVec Ideal S32768x128 .f32) (x4 : FVec Ideal S1024x5888 .f32) (r : Fin 32768) (j : Fin 512) :
    val_main_v56 (F := Ideal) x0 x1 x2 x3 x4 (ix2 r (⟨j.val, by omega⟩ : Fin 1024)) = proj x0 x1 x4 r (⟨1536 + j.val, by omega⟩ : Fin 5888) := by
  pointwise [val_main_v56, val_main_v55, val_main_v15, proj_at]

/-- The second result's other half holds the queries. -/
theorem queries_at (x0 : FVec Ideal S32768x1024 .f32) (x1 : FVec Ideal S1024 .f32) (x2 x3 : FVec Ideal S32768x128 .f32) (x4 : FVec Ideal S1024x5888 .f32) (r : Fin 32768) (j : Fin 512) :
    val_main_v56 (F := Ideal) x0 x1 x2 x3 x4 (ix2 r (⟨512 + j.val, by omega⟩ : Fin 1024)) = val_main_v37 (F := Ideal) x0 x1 x2 x3 x4 (ix2 r j) := by
  pointwise [val_main_v56, val_main_v55]

/-- The third result's first half holds the keys. -/
theorem keys_at (x0 : FVec Ideal S32768x1024 .f32) (x1 : FVec Ideal S1024 .f32) (x2 x3 : FVec Ideal S32768x128 .f32) (x4 : FVec Ideal S1024x5888 .f32) (r : Fin 32768) (j : Fin 128) :
    val_main_v58 (F := Ideal) x0 x1 x2 x3 x4 (ix2 r (⟨j.val, by omega⟩ : Fin 256)) = val_main_v53 (F := Ideal) x0 x1 x2 x3 x4 (ix2 r j) := by
  pointwise [val_main_v58, val_main_v57]

/-- The third result's other half holds the values. -/
theorem values_at (x0 : FVec Ideal S32768x1024 .f32) (x1 : FVec Ideal S1024 .f32) (x2 x3 : FVec Ideal S32768x128 .f32) (x4 : FVec Ideal S1024x5888 .f32) (r : Fin 32768) (j : Fin 128) :
    val_main_v58 (F := Ideal) x0 x1 x2 x3 x4 (ix2 r (⟨128 + j.val, by omega⟩ : Fin 256)) = proj x0 x1 x4 r (⟨2688 + j.val, by omega⟩ : Fin 5888) := by
  pointwise [val_main_v58, val_main_v57, val_main_v18, proj_at]

end Cert.InProjIdeal.Hand

end
-- ==== Proof.InProjPay.lean ====
module

public import proofs.«01_k».proof.Proof.Gen.InProjIdeal.Value
public import proofs.«01_k».proof.Proof.Gen.InProjReferenceIdeal.Read
public import Idealize.ShloMosaic.Lib.Pipeline.ValueKit
public import Idealize.ShloMosaic.Lib.Pointwise
public import proofs.«01_k».proof.Proof.InProjRef

/-! The input projection call: the values its body stores, read at an index. -/

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen Cert.InProjReferenceIdeal.Read

set_option maxHeartbeats 2000000

/-- The normalized rows of a block are the reference's. -/
theorem norm_pay (x0 : FVec Ideal S32768x1024 .f32) (x1 : FVec Ideal S1024 .f32) (v0 : FVec Ideal S512x1024 .f32) (v1 : FVec Ideal S1x1024 .f32) (a : Fin 512) (r : Fin 32768)
    (h0 : ∀ k : Fin 1024, v0 (ix2 a k) = x0 (ix2 r k)) (h1 : ∀ k : Fin 1024, v1 (ix2 (0 : Fin 1) k) = x1 (ix1 k)) (k : Fin 1024) :
    k0_pay4 (F := Ideal) v0 v1 (ix2 a k) = val_main_v12 (F := Ideal) x0 x1 (ix2 r k) := by
  pointwise [k0_pay4, val_main_v0, val_main_v1, val_main_v2, val_main_v3, val_main_v4, val_main_v5, val_main_v6, val_main_v7, val_main_v8, val_main_v9, val_main_v10, val_main_v11, val_main_v12, val_main_cst, val_main_cst_0, val_main_cst_1, h0, h1]

/-- A block's product at a row and a column. -/
def prod (n : Nat) (v15 : FVec Ideal S512x1024 .bf16) (w : FVec Ideal ⟨2, ![1024, n]⟩ .bf16) (a : Fin 512) (j : Fin n) : EReal :=
  ∑ k : Fin 1024, v15 (ix2 a k) * w (ix2 k j)

/-- A block's product is the projected row. -/
theorem prod_at (n : Nat) (x0 : FVec Ideal S32768x1024 .f32) (x1 : FVec Ideal S1024 .f32) (x4 : FVec Ideal S1024x5888 .f32) (v15 : FVec Ideal S512x1024 .bf16) (w : FVec Ideal ⟨2, ![1024, n]⟩ .bf16) (a : Fin 512) (j : Fin n) (r : Fin 32768) (o : Fin 5888)
    (h15 : ∀ k : Fin 1024, v15 (ix2 a k) = val_main_v12 (F := Ideal) x0 x1 (ix2 r k)) (hw : ∀ k : Fin 1024, w (ix2 k j) = x4 (ix2 k o)) :
    prod n v15 w a j = proj x0 x1 x4 r o :=
  Finset.sum_congr rfl fun k _ => congrArg₂ (fun x y : EReal => x * y) (h15 k) (hw k)

/-- A stored piece is the block's product. -/
theorem pay5_at (v0 : FVec Ideal S512x1024 .f32) (v1 : FVec Ideal S1x1024 .f32) (w : FVec Ideal S1024x512 .bf16) (a : Fin 512) (j : Fin 512) :
    k0_pay5 (F := Ideal) v0 v1 w (ix2 a j) = prod 512 (k0_pay4 v0 v1) w a j := by
  unfold prod
  pointwise [k0_pay5]

/-- A stored piece is the block's product. -/
theorem pay6_at (v0 : FVec Ideal S512x1024 .f32) (v1 : FVec Ideal S1x1024 .f32) (w : FVec Ideal S1024x512 .bf16) (a : Fin 512) (j : Fin 512) :
    k0_pay6 (F := Ideal) v0 v1 w (ix2 a j) = prod 512 (k0_pay4 v0 v1) w a j := by
  unfold prod
  pointwise [k0_pay6]

/-- A stored piece is the block's product. -/
theorem pay7_at (v0 : FVec Ideal S512x1024 .f32) (v1 : FVec Ideal S1x1024 .f32) (w : FVec Ideal S1024x512 .bf16) (a : Fin 512) (j : Fin 512) :
    k0_pay7 (F := Ideal) v0 v1 w (ix2 a j) = prod 512 (k0_pay4 v0 v1) w a j := by
  unfold prod
  pointwise [k0_pay7]

/-- A stored piece is the block's product. -/
theorem pay8_at (v15 : FVec Ideal S512x1024 .bf16) (w : FVec Ideal S1024x512 .bf16) (a : Fin 512) (j : Fin 512) :
    k0_pay8 (F := Ideal) v15 w (ix2 a j) = prod 512 v15 w a j := by
  unfold prod
  pointwise [k0_pay8]

/-- A stored piece is the block's product. -/
theorem pay1_at (v15 : FVec Ideal S512x1024 .bf16) (w : FVec Ideal S1024x1024 .bf16) (a : Fin 512) (j : Fin 1024) :
    k0_pay1 (F := Ideal) v15 (k0_pay13 w) (ix2 a j) = prod 1024 v15 w a j := by
  unfold prod
  pointwise [k0_pay1, k0_pay13]

/-- A stored piece is the block's product. -/
theorem pay2_at (v15 : FVec Ideal S512x1024 .bf16) (w : FVec Ideal S1024x1024 .bf16) (a : Fin 512) (j : Fin 1024) :
    k0_pay2 (F := Ideal) v15 w (ix2 a j) = prod 1024 v15 w a j := by
  unfold prod
  pointwise [k0_pay2]

/-- A stored piece is the block's product. -/
theorem pay3_at (v15 : FVec Ideal S512x1024 .bf16) (w : FVec Ideal S1024x1024 .bf16) (a : Fin 512) (j : Fin 1024) :
    k0_pay3 (F := Ideal) v15 w (ix2 a j) = prod 1024 v15 w a j := by
  unfold prod
  pointwise [k0_pay3]

/-- The block's product for keys and values. -/
theorem pay10_at (v15 : FVec Ideal S512x1024 .bf16) (w : FVec Ideal S1024x256 .bf16) (a : Fin 512) (j : Fin 256) :
    k0_pay10 (F := Ideal) v15 w (ix2 a j) = prod 256 v15 w a j := by
  unfold prod
  pointwise [k0_pay10]

/-- The stored values are the block's product. -/
theorem pay12_at (v15 : FVec Ideal S512x1024 .bf16) (w : FVec Ideal S1024x256 .bf16) (a : Fin 512) (j : Fin 128) :
    k0_pay12 (F := Ideal) v15 w (ix2 a j) = prod 256 v15 w a (⟨128 + j.val, by omega⟩ : Fin 256) := by
  pointwise [k0_pay12, pay10_at]

/-- The test that a lane lies in the first half of its head, as the body computes it. -/
def mask (b : BitVec 32) : BitVec 1 :=
  IntOp.cmpi CmpIPredicate.slt
    (Scalar.select
      (IntOp.andi
        (IntOp.xori
          (IntOp.cmpi CmpIPredicate.slt (IntOp.remsi ArithUnit.vector b (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector b (Scalar.select (Scalar.cmpi CmpIPredicate.eq 64#32 0#32) 1#32 64#32)) 0#32))
      (IntOp.addi (IntOp.remsi ArithUnit.vector b (Scalar.select (Scalar.cmpi CmpIPredicate.eq 64#32 0#32) 1#32 64#32))
        (Scalar.select (Scalar.cmpi CmpIPredicate.eq 64#32 0#32) 1#32 64#32))
      (IntOp.remsi ArithUnit.vector b (Scalar.select (Scalar.cmpi CmpIPredicate.eq 64#32 0#32) 1#32 64#32)))
    32#32

/-- The test holds just in the first half of each head. -/
theorem mask_at : ∀ j : Fin 512, mask (BitVec.ofNat 32 j.val) = BitVec.ofBool (decide (j.val % 64 < 32)) := by
  decide +kernel

/-- Choosing by the test takes one value in the first half of a head and the other in its second. -/
theorem pick (j : Fin 512) (x y : EReal) : Scalar.select (mask (BitVec.ofNat 32 j.val)) x y = if j.val % 64 < 32 then x else y := by
  rw [mask_at j]
  by_cases q : j.val % 64 < 32
  · rw [if_pos q, decide_eq_true q]; rfl
  · rw [if_neg q, decide_eq_false q]; rfl

/-- The stored keys are rotated. -/
theorem pay11_at (v15 : FVec Ideal S512x1024 .bf16) (v36 v37 : FVec Ideal S512x128 .f32) (w : FVec Ideal S1024x256 .bf16) (a : Fin 512) (h : Fin 2) (d : Fin 64) :
    k0_pay11 (F := Ideal) v15 v36 v37 w (ix2 a (⟨h.val * 64 + d.val, by omega⟩ : Fin 128))
      = turned (fun d => prod 256 v15 w a (⟨h.val * 64 + d.val, by omega⟩ : Fin 256))
          (fun d => v36 (ix2 a (⟨h.val * 64 + d.val, by omega⟩ : Fin 128))) (fun d => v37 (ix2 a (⟨h.val * 64 + d.val, by omega⟩ : Fin 128))) d := by
  unfold turned
  pointwise [k0_pay11, pay10_at]
  refine congrArg (fun x : EReal => _ + x * _) ((pick ⟨h.val * 64 + d.val, by omega⟩ _ _).trans ?_)
  split
  · exact congrArg (prod 256 v15 w a) (Fin.ext (by simp_all <;> omega))
  · exact congrArg (prod 256 v15 w a) (Fin.ext (by simp_all <;> omega))

/-- The block's product for queries. -/
theorem qprod_at (v15 : FVec Ideal S512x1024 .bf16) (w : FVec Ideal S1024x512 .bf16) (a : Fin 512) (j : Fin 512) :
    matmul dot_S512x1024_S1024x512_S512x512_1_0_0_1_n_n none v15 w (constant S512x512 .f32 0x00000000#32) (ix2 a j) = prod 512 v15 w a j := by
  unfold prod
  pointwise []

/-- The stored queries are rotated and scaled. -/
theorem pay9_at (v15 : FVec Ideal S512x1024 .bf16) (v36 v37 : FVec Ideal S512x128 .f32) (w : FVec Ideal S1024x512 .bf16) (a : Fin 512) (h : Fin 8) (d : Fin 64) :
    k0_pay9 (F := Ideal) v15 v36 v37 w (ix2 a (⟨h.val * 64 + d.val, by omega⟩ : Fin 512))
      = turned (fun d => prod 512 v15 w a (⟨h.val * 64 + d.val, by omega⟩ : Fin 512))
          (fun d => v36 (ix2 a (⟨h.val % 2 * 64 + d.val, by omega⟩ : Fin 128))) (fun d => v37 (ix2 a (⟨h.val % 2 * 64 + d.val, by omega⟩ : Fin 128))) d
        * Ideal.ofBits .f32 0x3E000000#32 := by
  unfold turned
  pointwise [k0_pay9, prod]
  refine congrArg (fun x : EReal => x * _) (congrArg₂ (fun x y : EReal => x + y) (congrArg₂ (fun x y : EReal => x * y) rfl ?_) (congrArg₂ (fun x y : EReal => x * y) ?_ ?_))
  · split_ifs <;> exact congrArg v36 (congrArg (ix2 a) (Fin.ext (by simp <;> omega)))
  · refine (pick ⟨h.val * 64 + d.val, by omega⟩ _ _).trans ?_
    split
    · exact congrArg (prod 512 v15 w a) (Fin.ext (by simp_all <;> omega))
    · exact congrArg (prod 512 v15 w a) (Fin.ext (by simp_all <;> omega))
  · split_ifs <;> exact congrArg v37 (congrArg (ix2 a) (Fin.ext (by simp <;> omega)))

end Cert.InProjIdeal.Hand

end
-- ==== Proof.InProjValue.lean ====
module

public import proofs.«01_k».proof.Proof.Gen.InProjIdeal.Value
public import proofs.«01_k».proof.Proof.Gen.InProjReferenceIdeal.Read
public import Idealize.ShloMosaic.Lib.Pipeline.ValueKit
public import Idealize.ShloMosaic.Lib.Pointwise
public import proofs.«01_k».proof.Proof.InProjPay

/-! The input projection call: its four result arrays are the reference. -/

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen Cert.InProjReferenceIdeal.Read

set_option maxHeartbeats 2000000

variable (m : (ℓ : Loc nD τ sig) → Buf (Elt Ideal) ℓ)

/-- The windows' block indices: rows advance with the grid point, the norm's row and the weights stay. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The norm's row read at a lane, where its index is the lane's. -/
theorem gain_row (x1 : FVec Ideal S1024 .f32) (y : S1x1024.Idx) (k : Fin 1024) (e : y = ix2 (0 : Fin 1) k) :
    shapeCast S1x1024 x1 shapeCasts_S1024_S1x1024 y = x1 (ix1 k) := by
  rw [e]
  pointwise []

/-- Equal rows and tables turn to equal values. -/
theorem turned_congr {p p' cs cs' sn sn' : Fin 64 → EReal} (e : ∀ d, p d = p' d) (ec : ∀ d, cs d = cs' d) (es : ∀ d, sn d = sn' d) (d : Fin 64) :
    turned p cs sn d = turned p' cs' sn' d := by
  rw [funext e, funext ec, funext es]

/-- What a grid point leaves in its block of result 0 is the reference at that block. -/
theorem final5 (c : Dev nD) : (dats m 0 c).arrAt 5 cfg0.N = val_main_v54 (F := Ideal) (m ((c : Thread nD τ).loc main_arg0)) (m ((c : Thread nD τ).loc main_arg1)) (m ((c : Thread nD τ).loc main_arg4)) := by
  refine (dats m 0 c).arrAt_eq_of_covers 5 _ (by decide +kernel) fun t hf y => ?_
  have kN : t.val < 64 := lt_of_lt_of_eq t.isLt N_0
  blk_simp
  rw [after0_5]
  obtain ⟨a, q, rfl⟩ : ∃ (a : Fin 512) (q : Fin 1536), y = ix2 a q := ⟨y 0, y 1, by blk_ext []⟩
  have kr : ((cfg0.win 5).blk t).view.emb (ix2 a q) = ix2 (⟨512 * t.val + a.val, by have := lt_of_lt_of_eq t.isLt N_0; omega⟩ : Fin 32768) q := by
    blk_ext [idx t]
  rw [kr]
  clear kr
  frame_out
  canon_tiles x h
  · obtain ⟨u, v, rfl⟩ : ∃ (u : Fin 512) (v : Fin 512), x = ix2 u v := ⟨x 0, x 1, by blk_ext []⟩
    obtain rfl : a = u := Fin.ext h0
    obtain rfl : q = (⟨1024 + v.val, by clear h0 h1; omega⟩ : Fin 1536) := Fin.ext h1
    refine (pay7_at _ _ _ _ _).trans (Eq.trans (prod_at 512 _ _ _ _ _ _ _ _ _ (norm_pay _ _ _ _ _ _ (fun k => ?_) fun k => ?_) fun k => ?_) (conv_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 512), x = ix2 u v := ⟨x 0, x 1, by blk_ext []⟩
    obtain rfl : a = u := Fin.ext h0
    obtain rfl : q = (⟨512 + v.val, by clear h0 h1; omega⟩ : Fin 1536) := Fin.ext h1
    refine (pay6_at _ _ _ _ _).trans (Eq.trans (prod_at 512 _ _ _ _ _ _ _ _ _ (norm_pay _ _ _ _ _ _ (fun k => ?_) fun k => ?_) fun k => ?_) (conv_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 512), x = ix2 u v := ⟨x 0, x 1, by blk_ext []⟩
    obtain rfl : a = u := Fin.ext h0
    obtain rfl : q = (⟨v.val, by clear h0 h1; omega⟩ : Fin 1536) := Fin.ext h1
    refine (pay5_at _ _ _ _ _).trans (Eq.trans (prod_at 512 _ _ _ _ _ _ _ _ _ (norm_pay _ _ _ _ _ _ (fun k => ?_) fun k => ?_) fun k => ?_) (conv_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]

/-- What a grid point leaves in its block of result 1 is the reference at that block. -/
theorem final6 (c : Dev nD) : (dats m 0 c).arrAt 6 cfg0.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have kN : t.val < 64 := lt_of_lt_of_eq t.isLt N_0
  blk_simp
  rw [after0_6]
  obtain ⟨a, q, rfl⟩ : ∃ (a : Fin 512) (q : Fin 1024), y = ix2 a q := ⟨y 0, y 1, by blk_ext []⟩
  have kr : ((cfg0.win 6).blk t).view.emb (ix2 a q) = ix2 (⟨512 * t.val + a.val, by have := lt_of_lt_of_eq t.isLt N_0; omega⟩ : Fin 32768) q := by
    blk_ext [idx t]
  rw [kr]
  clear kr
  frame_out
  canon_tiles x h
  · obtain ⟨u, v, rfl⟩ : ∃ (u : Fin 512) (v : Fin 512), x = ix2 u v := ⟨x 0, x 1, by blk_ext []⟩
    obtain rfl : a = u := Fin.ext h0
    obtain rfl : q = (⟨512 + v.val, by clear h0 h1; omega⟩ : Fin 1024) := Fin.ext h1
    obtain ⟨h, d, rfl⟩ : ∃ (h : Fin 8) (d : Fin 64), v = (⟨h.val * 64 + d.val, by clear h0 h1 x0_lt x1_lt; omega⟩ : Fin 512) := by
      clear h0 h1
      exact ⟨(⟨v.val / 64, by omega⟩ : Fin 8), (⟨v.val % 64, by omega⟩ : Fin 64), Fin.ext (by simp; omega)⟩
    refine (pay9_at _ _ _ _ _ _ _).trans (Eq.trans ?_ ((queries_at _ _ _ _ _ (⟨512 * t.val + a.val, by have := lt_of_lt_of_eq t.isLt N_0; omega⟩ : Fin 32768) _).trans (query_at _ _ _ _ _ (⟨512 * t.val + a.val, by have := lt_of_lt_of_eq t.isLt N_0; omega⟩ : Fin 32768) h d)).symm)
    refine congrArg (fun x : EReal => x * _) ?_
    refine turned_congr (fun d => prod_at 512 _ _ _ _ _ _ _ _ _ (norm_pay _ _ _ _ _ _ (fun k => ?_) fun k => ?_) fun k => ?_) (fun d => ?_) (fun d => ?_) d
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 512), x = ix2 u v := ⟨x 0, x 1, by blk_ext []⟩
    obtain rfl : a = u := Fin.ext h0
    obtain rfl : q = (⟨v.val, by clear h0 h1; omega⟩ : Fin 1024) := Fin.ext h1
    refine (pay8_at _ _ _ _).trans (Eq.trans (prod_at 512 _ _ _ _ _ _ _ _ _ (norm_pay _ _ _ _ _ _ (fun k => ?_) fun k => ?_) fun k => ?_) (pooled_at _ _ _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]

/-- What a grid point leaves in its block of result 2 is the reference at that block. -/
theorem final7 (c : Dev nD) : (dats m 0 c).arrAt 7 cfg0.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have kN : t.val < 64 := lt_of_lt_of_eq t.isLt N_0
  blk_simp
  rw [after0_7]
  obtain ⟨a, q, rfl⟩ : ∃ (a : Fin 512) (q : Fin 256), y = ix2 a q := ⟨y 0, y 1, by blk_ext []⟩
  have kr : ((cfg0.win 7).blk t).view.emb (ix2 a q) = ix2 (⟨512 * t.val + a.val, by have := lt_of_lt_of_eq t.isLt N_0; omega⟩ : Fin 32768) q := by
    blk_ext [idx t]
  rw [kr]
  clear kr
  frame_out
  canon_tiles x h
  · obtain ⟨u, v, rfl⟩ : ∃ (u : Fin 512) (v : Fin 128), x = ix2 u v := ⟨x 0, x 1, by blk_ext []⟩
    obtain rfl : a = u := Fin.ext h0
    obtain rfl : q = (⟨128 + v.val, by clear h0 h1; omega⟩ : Fin 256) := Fin.ext h1
    refine (pay12_at _ _ _ _).trans (Eq.trans (prod_at 256 _ _ _ _ _ _ _ _ _ (norm_pay _ _ _ _ _ _ (fun k => ?_) fun k => ?_) fun k => ?_) (values_at _ _ _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 128), x = ix2 u v := ⟨x 0, x 1, by blk_ext []⟩
    obtain rfl : a = u := Fin.ext h0
    obtain rfl : q = (⟨v.val, by clear h0 h1; omega⟩ : Fin 256) := Fin.ext h1
    obtain ⟨h, d, rfl⟩ : ∃ (h : Fin 2) (d : Fin 64), v = (⟨h.val * 64 + d.val, by clear h0 h1 x0_lt x1_lt; omega⟩ : Fin 128) := by
      clear h0 h1
      exact ⟨(⟨v.val / 64, by omega⟩ : Fin 2), (⟨v.val % 64, by omega⟩ : Fin 64), Fin.ext (by simp; omega)⟩
    refine (pay11_at _ _ _ _ _ _ _).trans (Eq.trans ?_ ((keys_at _ _ _ _ _ (⟨512 * t.val + a.val, by have := lt_of_lt_of_eq t.isLt N_0; omega⟩ : Fin 32768) _).trans (key_at _ _ _ _ _ (⟨512 * t.val + a.val, by have := lt_of_lt_of_eq t.isLt N_0; omega⟩ : Fin 32768) h d)).symm)

    refine turned_congr (fun d => prod_at 256 _ _ _ _ _ _ _ _ _ (norm_pay _ _ _ _ _ _ (fun k => ?_) fun k => ?_) fun k => ?_) (fun d => ?_) (fun d => ?_) d
    · blk_point [iblk, V, idx t]
    · exact gain_row _ _ _ (by blk_point [iblk, V, idx t] <;> exact (Nat.zero_add _).trans (Nat.one_mul _))
    all_goals blk_point [iblk, V, idx t]

/-- What a grid point leaves in its block of result 3 is the reference at that block. -/
theorem final8 (c : Dev nD) : (dats m 0 c).arrAt 8 cfg0.N = val_main_v59 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  have kN : t.val < 64 := lt_of_lt_of_eq t.isLt N_0
  blk_simp
  rw [after0_8]
  obtain ⟨a, q, rfl⟩ : ∃ (a : Fin 512) (q : Fin 3072), y = ix2 a q := ⟨y 0, y 1, by blk_ext []⟩
  have kr : ((cfg0.win 8).blk t).view.emb (ix2 a q) = ix2 (⟨512 * t.val + a.val, by have := lt_of_lt_of_eq t.isLt N_0; omega⟩ : Fin 32768) q := by
    blk_ext [idx t]
  rw [kr]
  clear kr
  frame_out
  canon_tiles x h
  · obtain ⟨u, v, rfl⟩ : ∃ (u : Fin 512) (v : Fin 1024), x = ix2 u v := ⟨x 0, x 1, by blk_ext []⟩
    obtain rfl : a = u := Fin.ext h0
    obtain rfl : q = (⟨2048 + v.val, by clear h0 h1; omega⟩ : Fin 3072) := Fin.ext h1
    refine (pay3_at _ _ _ _).trans (Eq.trans (prod_at 1024 _ _ _ _ _ _ _ _ _ (norm_pay _ _ _ _ _ _ (fun k => ?_) fun k => ?_) fun k => ?_) (gates_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 1024), x = ix2 u v := ⟨x 0, x 1, by blk_ext []⟩
    obtain rfl : a = u := Fin.ext h0
    obtain rfl : q = (⟨1024 + v.val, by clear h0 h1; omega⟩ : Fin 3072) := Fin.ext h1
    refine (pay2_at _ _ _ _).trans (Eq.trans (prod_at 1024 _ _ _ _ _ _ _ _ _ (norm_pay _ _ _ _ _ _ (fun k => ?_) fun k => ?_) fun k => ?_) (gates_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]
  · obtain ⟨u, v, rfl⟩ : ∃ (u : Fin 512) (v : Fin 1024), x = ix2 u v := ⟨x 0, x 1, by blk_ext []⟩
    obtain rfl : a = u := Fin.ext h0
    obtain rfl : q = (⟨v.val, by clear h0 h1; omega⟩ : Fin 3072) := Fin.ext h1
    refine (pay1_at _ _ _ _).trans (Eq.trans (prod_at 1024 _ _ _ _ _ _ _ _ _ (norm_pay _ _ _ _ _ _ (fun k => ?_) fun k => ?_) fun k => ?_) (gates_at _ _ _ (⟨512 * t.val + a.val, by have := lt_of_lt_of_eq t.isLt N_0; omega⟩ : Fin 32768) _).symm)
    · blk_point [iblk, V, idx t]
    · exact gain_row _ _ _ (by blk_point [iblk, V, idx t] <;> exact (Nat.zero_add _).trans (Nat.one_mul _))
    all_goals blk_point [iblk, V, idx t]

end Cert.InProjIdeal.Hand

end
-- ==== Proof.PleValue.lean ====
module

public import proofs.«01_k».proof.Proof.Gen.PleIdeal.Value
public import proofs.«01_k».proof.Proof.Gen.PleReferenceIdeal.Read
public import Idealize.ShloMosaic.Lib.Pipeline.ValueKit
public import Idealize.ShloMosaic.Lib.Pointwise

/-! What the gated per-layer embedding call leaves in its result array: the reference's term of its arguments. -/

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen

variable (m : (ℓ : Loc nD τ sig) → Buf (Elt Ideal) ℓ)

/-- The reference's result as a function of the arguments. -/
abbrev REF (x : FVec Ideal S32768x1024 .f32) (p : FVec Ideal S32768x256 .f32) (g : FVec Ideal S1024 .f32)
    (wg : FVec Ideal S1024x1024 .f32) (wp : FVec Ideal S256x1024 .f32) : FVec Ideal S32768x1024 .f32 :=
  Cert.PleReferenceIdeal.Read.val_main_v22 (F := Ideal) x p g wg wp

/-- The windows' block indices: the rows advance with the grid point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

set_option maxHeartbeats 2000000 in
/-- What the body stores at block index `y` of point `t` is the reference at the array index `y` sits at. -/
theorem point (c : Dev nD) (t : Fin cfg0.N) (y) :
    k0_pay1 (iblk m c 0 t) (iblk m c 2 t) (iblk m c 3 t) (iblk m c 1 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  unfold REF
  rw [← Cert.PleReferenceIdeal.Read.val_main_v22_eq]
  pointwise [k0_pay1]
  simp only [zero_sub]
  blk_point [iblk, V, idx t]

/-- The result array after the run is the reference's term. -/
theorem final (c : Dev nD) : (dats m 0 c).arrAt 6 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.PleIdeal.Hand

end
-- ==== Proof.LastValue.lean ====
module

public import proofs.«01_k».proof.Proof.Gen.LastIdeal.Value
public import proofs.«01_k».proof.Proof.Gen.LastReferenceIdeal.Read
public import Idealize.ShloMosaic.Lib.Pipeline.ValueKit
public import Idealize.ShloMosaic.Lib.Pointwise

/-! What the last layer's gated per-layer embedding call with the final normalization leaves in its result array: the reference's term of its arguments. -/

@[expose] public section

set_option maxRecDepth 16384

noncomputable section

open Idealize.ShloMosaic Idealize.ShloMosaic.TcCoe Idealize.SL.Sem
open Idealize.ShloMosaic.Pipeline (Dat)

namespace Cert.LastIdeal.Hand

open Cert.LastIdeal Cert.LastIdeal.Gen Cert.LastReferenceIdeal.Read

variable (m : (ℓ : Loc nD τ sig) → Buf (Elt Ideal) ℓ)

/-- The reference's result as a function of the arguments. -/
abbrev REF (x : FVec Ideal S32768x1024 .f32) (p : FVec Ideal S32768x256 .f32) (g : FVec Ideal S1024 .f32)
    (wg : FVec Ideal S1024x1024 .f32) (wp : FVec Ideal S256x1024 .f32) (gf : FVec Ideal S1024 .f32) : FVec Ideal S32768x1024 .f32 :=
  Cert.LastReferenceIdeal.Read.val_main_v35 (F := Ideal) x p g wg wp gf

/-- The windows' block indices: the rows advance with the grid point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

set_option maxHeartbeats 2000000 in
/-- What the body stores at block index `y` of point `t` is the reference at the array index `y` sits at. -/
theorem point (c : Dev nD) (t : Fin cfg0.N) (y) :
    k0_pay1 (k0_pay2 (iblk m c 0 t) (iblk m c 2 t) (iblk m c 3 t) (iblk m c 1 t) (iblk m c 4 t)) (k0_pay3 (iblk m c 5 t))
      (k0_pay4 (iblk m c 0 t) (iblk m c 2 t) (iblk m c 3 t) (iblk m c 1 t) (iblk m c 4 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 6).blk t).view.emb y) := by
  unfold REF
  pointwise [k0_pay1, k0_pay2, k0_pay3, k0_pay4, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_cst_2, val_main_v16, val_main_v17, val_main_cst_3, val_main_v18, val_main_v19, val_main_v20, val_main_v21, val_main_v22, val_main_v23, val_main_cst_4, val_main_v24, val_main_v25, val_main_cst_5, val_main_v26, val_main_v27, val_main_cst_6, val_main_v28, val_main_v29, val_main_v30, val_main_v31, val_main_v32, val_main_v33, val_main_v34, val_main_v35]
  simp only [zero_sub]
  blk_point [iblk, V, idx t]

/-- The result array after the run is the reference's term. -/
theorem final (c : Dev nD) : (dats m 0 c).arrAt 6 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.LastIdeal.Hand

end
-- ==== Proof.RouterPick.lean ====
module

public import Idealize.ShloMosaic.Lib.IdealHost
public import Idealize.ShloMosaic.Lib.Pointwise
public import Idealize.ShloMosaic.Lib.SortNet.Extract

/-! The largest of a row, the first lane it stands at, and the row with that lane taken out: what the router's
    wide rows and the reference's rows of eight logits have in common. -/

@[expose] public section

noncomputable section

open Idealize.ShloMosaic

namespace Cert.RouterPick

/-- The largest entry of a row. -/
def top {n : Nat} (f : Fin n → EReal) : EReal := Finset.univ.fold max (Ideal.ofBits .f32 4286578688#32) f

/-- The word of the first lane that holds the largest entry; `d` stands for the other lanes. -/
def first {n : Nat} (d : BitVec 32) (f : Fin n → EReal) : BitVec 32 :=
  Finset.univ.fold IntOp.minsi 2147483647#32 fun j : Fin n => if f j = top f then BitVec.ofNat 32 j.val else d

/-- A row with the lane of word `w` set to `z`. -/
def without {n : Nat} (z : EReal) (f : Fin n → EReal) (w : BitVec 32) : Fin n → EReal :=
  fun j => if BitVec.ofNat 32 j.val = w then z else f j

/-- The weights of the two picked lanes at a lane. -/
def spread (j : Nat) (i1 i2 : BitVec 32) (p1 p2 : EReal) : EReal :=
  (if BitVec.ofNat 32 j = i1 then p1 else 0) + (if BitVec.ofNat 32 j = i2 then p2 else 0)

/-- The accumulator the maximum starts from is the least value. -/
theorem bottom : Ideal.ofBits .f32 4286578688#32 = (⊥ : EReal) := rfl

/-- Every entry is at most the largest. -/
theorem le_top {n : Nat} (f : Fin n → EReal) (j : Fin n) : f j ≤ top f :=
  (Finset.le_fold_max _).2 (Or.inr ⟨j, Finset.mem_univ _, le_rfl⟩)

/-- A bound of every entry bounds the largest. -/
theorem top_le {n : Nat} (f : Fin n → EReal) (z : EReal) (h : ∀ j, f j ≤ z) : top f ≤ z :=
  (Finset.fold_max_le _).2 ⟨by rw [bottom]; exact bot_le, fun j _ => h j⟩

/-- The largest entry of a row of eight stands at some lane, and at a first one. -/
theorem exists_first (f : Fin 8 → EReal) : ∃ i : Fin 8, f i = top f ∧ ∀ j : Fin 8, f j = top f → i ≤ j := by
  obtain ⟨i, _, hi⟩ := Finset.exists_max_image (Finset.univ : Finset (Fin 8)) f ⟨0, Finset.mem_univ _⟩
  have ht : f i = top f := le_antisymm (le_top f i) (top_le f _ fun j => hi j (Finset.mem_univ _))
  have hne : ((Finset.univ : Finset (Fin 8)).filter fun j => f j = top f).Nonempty := ⟨i, Finset.mem_filter.2 ⟨Finset.mem_univ _, ht⟩⟩
  exact ⟨_, (Finset.mem_filter.1 (Finset.min'_mem _ hne)).2, fun j hj => Finset.min'_le (Finset.univ.filter fun j => f j = top f) j (Finset.mem_filter.2 ⟨Finset.mem_univ _, hj⟩)⟩

/-- A small number's word reads as the number. -/
theorem word_toInt (k : Nat) (h : k ≤ 128) : (BitVec.ofNat 32 k).toInt = (k : Int) := by
  rw [BitVec.toInt_eq_toNat_of_lt (by rw [BitVec.toNat_ofNat]; omega), BitVec.toNat_ofNat]
  omega

/-- The first lane's word, from the lane: it holds the largest entry and no earlier lane does. -/
theorem first_eq {n : Nat} (k : Nat) (hk : n ≤ k) (hk' : k ≤ 128) (f : Fin n → EReal) (i : Fin n) (hi : f i = top f)
    (hm : ∀ j, f j = top f → i ≤ j) : first (BitVec.ofNat 32 k) f = BitVec.ofNat 32 i.val := by
  refine BitVec.eq_of_toInt_eq ?_
  have hil := i.isLt
  unfold first
  rw [← Finset.fold_hom (op' := min) (m := BitVec.toInt) (fun x y => SortNet.toInt_minsi x y), word_toInt i.val (by omega)]
  refine le_antisymm ((Finset.fold_min_le _).2 (Or.inr ⟨i, Finset.mem_univ _, ?_⟩)) ((Finset.le_fold_min _).2 ⟨?_, fun j _ => ?_⟩)
  · rw [if_pos hi, word_toInt i.val (by omega)]
  · have : (2147483647#32 : BitVec 32).toInt = 2147483647 := by decide
    omega
  · have hjl := j.isLt
    split_ifs with hj
    · rw [word_toInt j.val (by omega)]
      have : i.val ≤ j.val := hm j hj
      omega
    · rw [word_toInt k hk']
      omega

/-- A wide row that agrees with a row of eight wherever either reaches the largest entry has the same largest entry at the same
    first lane. -/
theorem twin (K : Fin 128 → EReal) (f : Fin 8 → EReal)
    (hf : ∀ j : Fin 8, K ⟨j.val, by omega⟩ = f j ∨ (K ⟨j.val, by omega⟩ < top f ∧ f j < top f))
    (hp : ∀ j : Fin 128, 8 ≤ j.val → K j < top f) :
    top K = top f ∧ ∃ i : Fin 8, f i = top f ∧ first 128#32 K = BitVec.ofNat 32 i.val ∧ first 8#32 f = BitVec.ofNat 32 i.val := by
  obtain ⟨i, hi, hm⟩ := exists_first f
  have hKi : K ⟨i.val, by omega⟩ = top f := by
    rcases hf i with h | ⟨_, h⟩
    · rw [h, hi]
    · exact absurd hi h.ne
  have hT : top K = top f := by
    refine le_antisymm (top_le K _ fun j => ?_) (hKi ▸ le_top K _)
    by_cases hj : j.val < 8
    · rcases hf ⟨j.val, hj⟩ with h | ⟨h, _⟩
      · exact h.trans_le (le_top f _)
      · exact h.le
    · exact (hp j (by omega)).le
  refine ⟨hT, i, hi, first_eq (n := 128) 128 le_rfl le_rfl K ⟨i.val, by omega⟩ (hKi.trans hT.symm) fun j hj => ?_,
    first_eq (n := 8) 8 le_rfl (by omega) f i hi hm⟩
  rw [hT] at hj
  by_cases hj8 : j.val < 8
  · rcases hf ⟨j.val, hj8⟩ with h | ⟨h, _⟩
    · exact hm ⟨j.val, hj8⟩ (h.symm.trans hj)
    · exact absurd hj h.ne
  · exact absurd hj (hp j (by omega)).ne

/-- The router's weights at a lane from a row of logits: two picks, the second with the first taken out. -/
def picked {n : Nat} (d : BitVec 32) (z : EReal) (f : Fin n → EReal) (p1 p2 : EReal → EReal → EReal) (j : Nat) : EReal :=
  spread j (first d f) (first d (without z f (first d f)))
    (p1 (top f) (top (without z f (first d f)))) (p2 (top f) (top (without z f (first d f))))

/-- The words of two small numbers are equal only where the numbers are. -/
theorem word_inj (a b : Nat) (ha : a ≤ 128) (hb : b ≤ 128) (h : BitVec.ofNat 32 a = BitVec.ofNat 32 b) : a = b := by
  have := congrArg BitVec.toInt h
  rw [word_toInt _ ha, word_toInt _ hb] at this
  omega

/-- With eight logits above the filler, the wide row picks the lanes and the values the row of eight picks; a lane past the
    eighth gets nothing. -/
theorem picked_wide (c : EReal) (f : Fin 8 → EReal) (hf : ∀ j, c < f j) (p1 p2 : EReal → EReal → EReal) (j : Nat) (hj : j < 128) :
    picked 128#32 c (fun j : Fin 128 => if h : j.val < 8 then f ⟨j.val, h⟩ else c) p1 p2 j
      = if j < 8 then picked 8#32 ⊥ f p1 p2 j else 0 := by
  have hc : ⊥ < f 0 := lt_of_le_of_lt bot_le (hf 0)
  obtain ⟨h1, i, hi, hw, hw'⟩ := twin (fun j : Fin 128 => if h : j.val < 8 then f ⟨j.val, h⟩ else c) f
    (fun j => Or.inl (dif_pos j.isLt)) (fun j hj => by rw [dif_neg (by omega)]; exact (hf 0).trans_le (le_top f 0))
  have hg : ∀ j : Fin 8, without ⊥ f (BitVec.ofNat 32 i.val) j = if j = i then ⊥ else f j := fun j => by
    unfold without
    by_cases h : j = i
    · rw [if_pos h, if_pos (by rw [h])]
    · rw [if_neg h, if_neg fun e => h (Fin.ext (word_inj _ _ (by omega) (by omega) e))]
  have hlow : c < top (without ⊥ f (BitVec.ofNat 32 i.val)) := by
    obtain ⟨k, hk⟩ : ∃ k : Fin 8, k ≠ i := exists_ne i
    refine (hf k).trans_le ((le_of_eq ?_).trans (le_top _ k))
    rw [hg, if_neg hk]
  obtain ⟨h2, i', hi', hv, hv'⟩ := twin (without c (fun j : Fin 128 => if h : j.val < 8 then f ⟨j.val, h⟩ else c) (BitVec.ofNat 32 i.val))
    (without ⊥ f (BitVec.ofNat 32 i.val))
    (fun j => by
      by_cases h : j = i
      · right
        rw [hg, if_pos h]
        unfold without
        rw [if_pos (by rw [h])]
        exact ⟨hlow, bot_le.trans_lt hlow⟩
      · left
        rw [hg, if_neg h]
        unfold without
        rw [if_neg fun e => h (Fin.ext (word_inj _ _ (by omega) (by omega) e))]
        exact dif_pos j.isLt)
    (fun j hj => by
      refine lt_of_eq_of_lt ?_ hlow
      unfold without
      rw [if_neg fun e => absurd (word_inj _ _ (by omega) (by omega) e) (by omega)]
      exact dif_neg (by omega))
  unfold picked
  rw [hw, hw', h1, h2, hv, hv']
  split_ifs with h8
  · rfl
  · unfold spread
    rw [if_neg fun e => absurd (word_inj _ _ (by omega) (by omega) e) (by omega),
      if_neg fun e => absurd (word_inj _ _ (by omega) (by omega) e) (by omega), add_zero]

end Cert.RouterPick

end
-- ==== Proof.RouterValue.lean ====
module

public import proofs.«01_k».proof.Proof.Gen.RouterIdeal.Value
public import proofs.«01_k».proof.Proof.Gen.RouterReferenceIdeal.Read
public import proofs.«01_k».proof.Proof.Gen.Pre_bounded
public import proofs.«01_k».proof.Proof.RouterPick
public import Idealize.ShloMosaic.Lib.Pipeline.ValueKit
public import Idealize.ShloMosaic.Lib.Pointwise
public import Idealize.ShloMosaic.Lib.ReduceAll

/-! The router call: its result array is the reference. -/

@[expose] public section

set_option maxRecDepth 16384

noncomputable section

open Idealize.ShloMosaic Idealize.ShloMosaic.TcCoe Idealize.SL.Sem
open Idealize.ShloMosaic.Pipeline (Dat)

namespace Cert.RouterIdeal.Hand

open Cert.RouterIdeal Cert.RouterIdeal.Gen Cert.RouterReferenceIdeal.Read Cert.RouterPick

set_option maxHeartbeats 2000000

/-- Choosing by a comparison of words is choosing by their equality. -/
theorem select_word (x y : BitVec 32) (a b : EReal) : Scalar.select (IntOp.cmpi .eq x y) a b = if x = y then a else b := by
  show (if BitVec.ofBool (x == y) = 1 then a else b) = _
  by_cases h : x = y
  · rw [if_pos h, h, beq_self_eq_true]
    rfl
  · rw [if_neg h, beq_false_of_ne h]
    rfl

/-- A lane's word is below eight where the lane is. -/
theorem select_lane (j : Nat) (hj : j < 128) (a b : EReal) :
    Scalar.select (IntOp.cmpi .slt (BitVec.ofNat 32 j) 8#32) a b = if j < 8 then a else b := by
  have e : (BitVec.ofNat 32 j).slt 8#32 = decide (j < 8) := by
    rw [BitVec.slt_eq_decide, word_toInt j (by omega)]
    exact decide_eq_decide.2 (by show (j : Int) < 8 ↔ j < 8; omega)
  show (if BitVec.ofBool ((BitVec.ofNat 32 j).slt 8#32) = 1 then a else b) = _
  rw [e]
  by_cases h : j < 8
  · rw [if_pos h, decide_eq_true h]
    rfl
  · rw [if_neg h, decide_eq_false h]
    rfl

/-- The kernel's share of the first pick. -/
def share1 (v1 v2 : EReal) : EReal := Ideal.div 1 (1 + Ideal.exp (v2 - v1))
/-- The kernel's share of the second pick. -/
def share2 (v1 v2 : EReal) : EReal := Ideal.exp (v2 - v1) * Ideal.div 1 (1 + Ideal.exp (v2 - v1))

section block

variable (v0 : FVec Ideal S1024x1024 .f32) (v1 : FVec Ideal S1x1024 .f32) (v19 : FVec Ideal S1024x128 .bf16) (a : Fin 1024)

/-- The block's row of masked logits. -/
def wide : Fin 128 → EReal := fun j => k0_pay2 (F := Ideal) v0 v1 v19 (ix2 a j)

/-- The first pick's value. -/
theorem top_pay : k0_pay3 (F := Ideal) v0 v1 v19 (ix2 a 0) = top (wide v0 v1 v19 a) := by
  pointwise [k0_pay3, top, wide]

/-- The first pick's lane. -/
theorem first_pay : k0_pay4 (F := Ideal) v0 v1 v19 (ix2 a 0) = first 128#32 (wide v0 v1 v19 a) := by
  pointwise [k0_pay4, top_pay, first, wide]

/-- The row with the first pick taken out. -/
theorem without_pay (j : Fin 128) : k0_pay5 (F := Ideal) v0 v1 v19 (ix2 a j)
    = without (Ideal.ofBits .f32 4048155338#32) (wide v0 v1 v19 a) (first 128#32 (wide v0 v1 v19 a)) j := by
  pointwise [k0_pay5, first_pay, without, wide, select_word]

/-- The second pick's value. -/
theorem second_pay : k0_pay6 (F := Ideal) v0 v1 v19 (ix2 a 0)
    = top (without (Ideal.ofBits .f32 4048155338#32) (wide v0 v1 v19 a) (first 128#32 (wide v0 v1 v19 a))) := by
  pointwise [k0_pay6, without_pay, top]

/-- Where the second pick's value stands. -/
theorem at_pay (j : Fin 128) (x y : BitVec 32) : Scalar.select (k0_pay7 (F := Ideal) v0 v1 v19 (ix2 a j)) x y
    = if without (Ideal.ofBits .f32 4048155338#32) (wide v0 v1 v19 a) (first 128#32 (wide v0 v1 v19 a)) j
        = top (without (Ideal.ofBits .f32 4048155338#32) (wide v0 v1 v19 a) (first 128#32 (wide v0 v1 v19 a))) then x else y := by
  pointwise [k0_pay7, without_pay, second_pay]

/-- What the call stores at a row and a lane: the two picks' shares, spread. -/
theorem stored_at (j : Fin 128) :
    k0_pay1 (F := Ideal) (iota .tc S1024x128 32 [1] iota_S1024x128_d1_w32) (k0_pay3 (F := Ideal) v0 v1 v19) (k0_pay4 (F := Ideal) v0 v1 v19) (k0_pay6 (F := Ideal) v0 v1 v19) (k0_pay7 (F := Ideal) v0 v1 v19) k0_pay8 (ix2 a j)
      = picked 128#32 (Ideal.ofBits .f32 4048155338#32) (wide v0 v1 v19 a) share1 share2 j.val := by
  unfold picked spread share1 share2
  pointwise [k0_pay1, k0_pay8, top_pay, first_pay, second_pay, at_pay, select_word, first]

end block

section reference

variable (x0 : FVec Ideal S32768x1024 .f32) (x1 : FVec Ideal S1024 .f32) (x2 : FVec Ideal S1024x8 .f32) (r : Fin 32768)

/-- The reference's row of logits. -/
def logits : Fin 8 → EReal := fun j => val_main_v13 (F := Ideal) x0 x1 x2 (ix2 r j)

/-- The reference's first pick's value. -/
theorem top_ref : val_main_v17 (F := Ideal) x0 x1 x2 (ix2 r 0) = top (logits x0 x1 x2 r) := by
  pointwise [val_main_v17, val_main_v16, val_main_cst_2, top, logits]

/-- The reference's first pick's lane. -/
theorem first_ref : val_main_v22 (F := Ideal) x0 x1 x2 (ix2 r 0) = first 8#32 (logits x0 x1 x2 r) := by
  pointwise [val_main_v22, val_main_v21, val_main_v20, val_main_v19, val_main_v18, top_ref, val_main_v15, val_main_v14, val_main_c, val_main_c_3, val_main_call0_v0, val_main_call0_v1, val_main_call0_v2, first, logits]
  rfl

/-- The reference's row with the first pick taken out. -/
theorem without_ref (j : Fin 8) : val_main_v26 (F := Ideal) x0 x1 x2 (ix2 r j) = without ⊥ (logits x0 x1 x2 r) (first 8#32 (logits x0 x1 x2 r)) j := by
  pointwise [val_main_v26, val_main_v25, val_main_v24, val_main_v23, val_main_v15, val_main_v14, first_ref, val_main_cst_4, val_main_call1_v0, val_main_call1_v1, without, logits, select_word]
  rfl

/-- The reference's second pick's value. -/
theorem second_ref : val_main_v28 (F := Ideal) x0 x1 x2 (ix2 r 0) = top (without ⊥ (logits x0 x1 x2 r) (first 8#32 (logits x0 x1 x2 r))) := by
  pointwise [val_main_v28, val_main_v27, val_main_cst_5, without_ref, top]

/-- The reference's second pick's lane. -/
theorem lane_ref : val_main_v33 (F := Ideal) x0 x1 x2 (ix2 r 0) = first 8#32 (without ⊥ (logits x0 x1 x2 r) (first 8#32 (logits x0 x1 x2 r))) := by
  pointwise [val_main_v33, val_main_v32, val_main_v31, val_main_v30, val_main_v29, second_ref, without_ref, val_main_v15, val_main_v14, val_main_c_6, val_main_c_7, val_main_call2_v0, val_main_call2_v1, val_main_call2_v2, first]
  rfl

/-- The reference's share of the first pick. -/
def ratio1 (v1 v2 : EReal) : EReal := Ideal.div (Ideal.exp (v1 - v1)) (Ideal.exp (v1 - v1) + Ideal.exp (v2 - v1))
/-- The reference's share of the second pick. -/
def ratio2 (v1 v2 : EReal) : EReal := Ideal.div (Ideal.exp (v2 - v1)) (Ideal.exp (v1 - v1) + Ideal.exp (v2 - v1))

/-- The reference's result at a row and a lane. -/
theorem result_at (j : Fin 128) : val_main_v51 (F := Ideal) x0 x1 x2 (ix2 r j) = if j.val < 8 then picked 8#32 ⊥ (logits x0 x1 x2 r) ratio1 ratio2 j.val else 0 := by
  have z0 : id (constant (F := Ideal) RouterReferenceIdeal.S_ .f32 0#32) ix0 = (0 : EReal) := Ideal.ofBits_zero_f32
  have z1 : FloatOps.sitofp (F := Ideal) .f32 0#32 = (0 : EReal) := by
    show (((0#32 : BitVec 32).toInt : ℝ) : EReal) = 0
    simp
  unfold picked spread ratio1 ratio2
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34,
    val_main_cst_8, val_main_cst_9, val_main_call3_v0, val_main_call3_v1, val_main_call3_v2, val_main_call4_v0, val_main_call4_v1, val_main_call4_v2, val_main_call5_v0, val_main_c_10, val_main_v15, val_main_v14, top_ref, first_ref, second_ref, lane_ref, select_word]
  rw [z0, z1]
  by_cases h : j.val < 8
  · rw [dif_pos h, if_pos h]
  · rw [dif_neg h, if_neg h]

end reference

/-- An exponential is not negative, so one more than it is not zero. -/
theorem one_add_exp_ne (x : EReal) : (1 : EReal) + Ideal.exp x ≠ 0 := by
  have h : (0 : EReal) ≤ Ideal.exp x := by
    induction x with
    | bot => exact le_rfl
    | top => exact le_top
    | coe r => exact EReal.coe_nonneg.2 (Real.exp_pos r).le
  exact (lt_of_lt_of_le zero_lt_one (le_add_of_nonneg_right h)).ne'

/-- Over a real first value the kernel's share of the first pick is the reference's. -/
theorem share1_eq (v : ℝ) (v2 : EReal) : share1 v v2 = ratio1 v v2 := by
  have e : Ideal.exp ((v : EReal) - (v : EReal)) = 1 := by
    rw [← EReal.coe_sub, sub_self]
    show ((Real.exp 0 : ℝ) : EReal) = 1
    rw [Real.exp_zero, EReal.coe_one]
  unfold share1 ratio1
  rw [e]

/-- Over a real first value the kernel's share of the second pick is the reference's. -/
theorem share2_eq (v : ℝ) (v2 : EReal) : share2 v v2 = ratio2 v v2 := by
  have e : Ideal.exp ((v : EReal) - (v : EReal)) = 1 := by
    rw [← EReal.coe_sub, sub_self]
    show ((Real.exp 0 : ℝ) : EReal) = 1
    rw [Real.exp_zero, EReal.coe_one]
  unfold share2 ratio2
  rw [e]
  unfold Ideal.div
  rw [if_neg (one_add_exp_ne _), if_neg (one_add_exp_ne _), one_mul]

/-- A block's masked logits are the reference's row with the filler past the eighth lane. -/
theorem wide_eq (x0 : FVec Ideal S32768x1024 .f32) (x1 : FVec Ideal S1024 .f32) (x2 : FVec Ideal S1024x8 .f32) (r : Fin 32768)
    (v0 : FVec Ideal S1024x1024 .f32) (v1 : FVec Ideal S1x1024 .f32) (v19 : FVec Ideal S1024x128 .bf16) (a : Fin 1024)
    (h0 : ∀ k : Fin 1024, v0 (ix2 a k) = x0 (ix2 r k)) (h1 : ∀ k : Fin 1024, v1 (ix2 (0 : Fin 1) k) = x1 (ix1 k))
    (hw : ∀ (k : Fin 1024) (j : Fin 8), v19 (ix2 k ⟨j.val, by omega⟩) = x2 (ix2 k j)) :
    wide v0 v1 v19 a = fun j : Fin 128 => if h : j.val < 8 then logits x0 x1 x2 r ⟨j.val, h⟩ else Ideal.ofBits .f32 4048155338#32 := by
  funext j
  unfold wide
  pointwise [k0_pay2, h0, h1]
  rw [select_lane _ j.isLt]
  by_cases h : j.val < 8
  · rw [if_pos h, dif_pos h]
    unfold logits
    pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
    exact Finset.sum_congr rfl fun k _ => congrArg (fun z : EReal => _ * z) (hw k ⟨j.val, h⟩)
  · rw [if_neg h, dif_neg h]

/-- The precondition, read: every router logit is above the filler and below infinity. -/
theorem bounded_logits (x0 : FVec Ideal S32768x1024 .f32) (x1 : FVec Ideal S1024 .f32) (x2 : FVec Ideal S1024x8 .f32)
    (h : Cert.Pre_bounded.fn (F := Ideal) x0 x1 x2 = (fun _ => 1#1)) (r : Fin 32768) (j : Fin 8) :
    Ideal.ofBits .f32 4048155338#32 < logits x0 x1 x2 r j ∧ logits x0 x1 x2 r j < ⊤ := by
  have : Subsingleton Cert.Pre_bounded.S_.Idx := ⟨fun a b => funext fun k => k.elim0⟩
  have hi := Host.reduce_andi_all _ _ _ _ _ (congrFun h (fun k => k.elim0)) (ix2 r j)
  obtain ⟨h0, h1⟩ := IntOp.andi_eq_one.mp hi
  have h0' : BitVec.ofBool (decide (Ideal.ofBits .f32 4048155338#32 < logits x0 x1 x2 r j)) = 1#1 := h0
  have h1' : BitVec.ofBool (decide (logits x0 x1 x2 r j < Ideal.ofBits .f32 0x7F800000#32)) = 1#1 := h1
  constructor
  · by_contra hn
    rw [decide_eq_false hn] at h0'
    exact absurd h0' (by decide)
  · by_contra hn
    rw [decide_eq_false (show ¬ logits x0 x1 x2 r j < Ideal.ofBits .f32 0x7F800000#32 from hn)] at h1'
    exact absurd h1' (by decide)

/-- Where the logits are bounded, what the call stores at a row and a lane is the reference's result there. -/
theorem stored_eq (x0 : FVec Ideal S32768x1024 .f32) (x1 : FVec Ideal S1024 .f32) (x2 : FVec Ideal S1024x8 .f32) (r : Fin 32768)
    (hb : ∀ j : Fin 8, Ideal.ofBits .f32 4048155338#32 < logits x0 x1 x2 r j ∧ logits x0 x1 x2 r j < ⊤)
    (v0 : FVec Ideal S1024x1024 .f32) (v1 : FVec Ideal S1x1024 .f32) (v19 : FVec Ideal S1024x128 .bf16) (a : Fin 1024)
    (h0 : ∀ k : Fin 1024, v0 (ix2 a k) = x0 (ix2 r k)) (h1 : ∀ k : Fin 1024, v1 (ix2 (0 : Fin 1) k) = x1 (ix1 k))
    (hw : ∀ (k : Fin 1024) (j : Fin 8), v19 (ix2 k ⟨j.val, by omega⟩) = x2 (ix2 k j)) (j : Fin 128) :
    picked 128#32 (Ideal.ofBits .f32 4048155338#32) (wide v0 v1 v19 a) share1 share2 j.val = val_main_v51 (F := Ideal) x0 x1 x2 (ix2 r j) := by
  rw [result_at, wide_eq x0 x1 x2 r v0 v1 v19 a h0 h1 hw, picked_wide _ (logits x0 x1 x2 r) (fun j => (hb j).1) share1 share2 _ j.isLt]
  obtain ⟨i, hi, _⟩ := exists_first (logits x0 x1 x2 r)
  obtain ⟨v, hv⟩ : ∃ v : ℝ, top (logits x0 x1 x2 r) = (v : EReal) :=
    ⟨(logits x0 x1 x2 r i).toReal, hi.symm.trans (EReal.coe_toReal (hb i).2.ne (bot_le.trans_lt (hb i).1).ne').symm⟩
  unfold picked
  rw [hv, share1_eq, share2_eq]

variable (m : (ℓ : Loc nD τ sig) → Buf (Elt Ideal) ℓ)

/-- The windows' block indices: rows and results advance with the grid point, the norm's row and the weights stay. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The norm's row read at a lane, where its index is the lane's. -/
theorem gain_row (x1 : FVec Ideal S1024 .f32) (y : S1x1024.Idx) (k : Fin 1024) (e : y = ix2 (0 : Fin 1) k) :
    shapeCast S1x1024 x1 shapeCasts_S1024_S1x1024 y = x1 (ix1 k) := by
  rw [e]
  pointwise []

/-- The weights the call reads: the argument's, with zero columns after the eighth. -/
theorem weight_arr (c : Dev nD) : V m c main_v2
    = (truncf .bf16 (pad S1024x128 ![0, 0] ![0, 120] ![0, 0] (m ((c : Thread nD τ).loc main_arg2)) (sitofp .f32 (constantI S_ 32 0#32)) pads_S1024x8_S1024x128_000_01200 h_S_) bitsLt_bf16_f32 : FVec Ideal S1024x128 .bf16) := by
  unfold_abbrev_sides
  simp only [List.flatten_cons, List.flatten_nil, List.append_nil, List.cons_append, List.nil_append]
  after_results
  rfl

/-- A padded array in its first eight columns is the array. -/
theorem pad_at (w : FVec Ideal S1024x8 .f32) (z : FVec Ideal S_ .f32) (k : Fin 1024) (j : Fin 8) :
    (truncf .bf16 (pad S1024x128 ![0, 0] ![0, 120] ![0, 0] w z pads_S1024x8_S1024x128_000_01200 h_S_) bitsLt_bf16_f32 : FVec Ideal S1024x128 .bf16) (ix2 k ⟨j.val, by omega⟩) = w (ix2 k j) := by
  pointwise []

/-- A block's weights at a feature and an expert. -/
theorem weight_blk (c : Dev nD) (t : Fin cfg0.N) (k : Fin 1024) (j : Fin 8) :
    iblk m c 2 t (ix2 k (⟨j.val, by omega⟩ : Fin 128)) = m ((c : Thread nD τ).loc main_arg2) (ix2 k j) := by
  have kN : t.val < 32 := lt_of_lt_of_eq t.isLt N_0
  have kr : (win0_2.blk t).view.emb (ix2 k (⟨j.val, by omega⟩ : Fin 128)) = ix2 k (⟨j.val, by omega⟩ : Fin 128) := by blk_ext [idx t]
  show V m c main_v2 ((win0_2.blk t).view.emb (ix2 k (⟨j.val, by omega⟩ : Fin 128))) = _
  rw [kr, weight_arr]
  exact pad_at _ _ k j

/-- The router call's result array is the reference's where the logits are bounded. -/
theorem final (c : Dev nD)
    (hb : Cert.Pre_bounded.fn (F := Ideal) (m ((c : Thread nD τ).loc main_arg0)) (m ((c : Thread nD τ).loc main_arg1)) (m ((c : Thread nD τ).loc main_arg2)) = (fun _ => 1#1)) :
    (dats m 0 c).arrAt 3 cfg0.N = val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have kN : t.val < 32 := lt_of_lt_of_eq t.isLt N_0
  blk_simp
  rw [after0_3]
  obtain ⟨a, q, rfl⟩ : ∃ (a : Fin 1024) (q : Fin 128), y = ix2 a q := ⟨y 0, y 1, by blk_ext []⟩
  have kr : ((cfg0.win 3).blk t).view.emb (ix2 a q) = ix2 (⟨1024 * t.val + a.val, by omega⟩ : Fin 32768) q := by
    blk_ext [idx t]
  rw [kr]
  clear kr
  frame_out
  refine (stored_at _ _ _ a q).trans (stored_eq _ _ _ _ (bounded_logits _ _ _ hb _) _ _ _ a (fun k => ?_) (fun k => ?_) (fun k j => ?_) q)
  · blk_point [iblk, V, idx t]
  · exact gain_row _ _ _ (by blk_point [iblk, V, idx t])
  · exact weight_blk m c t k j

end Cert.RouterIdeal.Hand

end
-- ==== Proof.TablesValue.lean ====
module

public import proofs.«01_k».proof.Proof.Gen.TablesIdeal.Frame
public import proofs.«01_k».proof.Proof.Gen.TablesReferenceIdeal.Read
public import Idealize.ShloMosaic.Lib.Pipeline.ValueKit
public import Idealize.ShloMosaic.Lib.Pointwise

/-! The rotation's tables: the two result arrays are the reference. -/

@[expose] public section

set_option maxRecDepth 16384

noncomputable section

open Idealize.ShloMosaic Idealize.ShloMosaic.TcCoe Idealize.SL.Sem
open Idealize.ShloMosaic.Pipeline (Dat)

namespace Cert.TablesIdeal.Hand

open Cert.TablesIdeal Cert.TablesIdeal.Gen Cert.TablesReferenceIdeal.Read

set_option maxHeartbeats 2000000

/-- The cosine of an angle, as the kernel stores it. -/
theorem cos_at (v0 : Vec Ideal S1024x1 .i32) (v3 : FVec Ideal S1x128 .f32) (a : Fin 1024) (j : Fin 128) :
    k0_pay2 (F := Ideal) v0 v3 (ix2 a j) = FloatOps.cos (F := Ideal) (φ := .f32) (FloatOps.mulf (FloatOps.sitofp .f32 (v0 (ix2 a 0))) (v3 (ix2 0 j))) := by
  pointwise [k0_pay2, k0_pay1]

/-- The signed sine of an angle, as the kernel stores it. -/
theorem sin_at (v0 : Vec Ideal S1024x1 .i32) (v3 v11 : FVec Ideal S1x128 .f32) (a : Fin 1024) (j : Fin 128) :
    k0_pay3 (F := Ideal) v0 v3 v11 (ix2 a j) = FloatOps.mulf (F := Ideal) (φ := .f32) (FloatOps.sin (FloatOps.mulf (FloatOps.sitofp .f32 (v0 (ix2 a 0))) (v3 (ix2 0 j)))) (v11 (ix2 0 j)) := by
  pointwise [k0_pay3, k0_pay1]

/-- The reference's angle at a row and a frequency. -/
def angle (x0 : Vec Ideal S16x2048 .i32) (r : Fin 32768) (j : Fin 32) : EReal :=
  FloatOps.mulf (F := Ideal) (φ := .f32) (FloatOps.sitofp .f32 (x0 (ix2 (⟨r.val / 2048, by omega⟩ : Fin 16) (⟨r.val % 2048, by omega⟩ : Fin 2048)))) (val_main_v6 (F := Ideal) (ix1 j))

/-- The reference's angles, read. -/
theorem angle_at (x0 : Vec Ideal S16x2048 .i32) (r : Fin 32768) (j : Fin 32) :
    val_main_v12 (F := Ideal) x0 (ix2 r j) = angle x0 r j := by
  unfold angle
  pointwise [val_main_v12, val_main_v10, val_main_v11, val_main_v9, val_main_v8, val_main_v7]

/-- The reference's cosine table at a row and a lane: the frequencies repeat four times across the lanes. -/
theorem cosines_at (x0 : Vec Ideal S16x2048 .i32) (r : Fin 32768) (j : Fin 128) :
    val_main_v15 (F := Ideal) x0 (ix2 r j) = Ideal.cos (angle x0 r ⟨j.val % 32, by omega⟩) := by
  have hj := j.isLt
  pointwise [val_main_v15, val_main_v13, angle_at]
  split_ifs <;> exact congrArg (fun k => Ideal.cos (angle x0 r k)) (Fin.ext (by first | omega | (simp; omega)))

/-- The reference's sine table at a row and a lane: negated on the first half of every 64 lanes. -/
theorem sines_at (x0 : Vec Ideal S16x2048 .i32) (r : Fin 32768) (j : Fin 128) :
    val_main_v18 (F := Ideal) x0 (ix2 r j) = if j.val % 64 < 32 then -Ideal.sin (angle x0 r ⟨j.val % 32, by omega⟩) else Ideal.sin (angle x0 r ⟨j.val % 32, by omega⟩) := by
  have hj := j.isLt
  pointwise [val_main_v18, val_main_v17, val_main_v16, val_main_v14, angle_at]
  split_ifs <;> first
    | (refine Eq.trans ?_ (if_pos (by omega)).symm; exact congrArg (fun k => -Ideal.sin (angle x0 r k)) (Fin.ext (by first | omega | (simp; omega))))
    | (refine Eq.trans ?_ (if_neg (by omega)).symm; exact congrArg (fun k => Ideal.sin (angle x0 r k)) (Fin.ext (by first | omega | (simp; omega))))

variable (m : (ℓ : Loc nD τ sig) → Buf (Elt Ideal) ℓ)

/-- The windows' block indices: positions and results advance with the grid point, the two rows stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The position column the call reads: the positions in row-major order. -/
theorem pos_arr (c : Dev nD) : V m c main_v19 = shapeCast S32768x1 (m ((c : Thread nD τ).loc main_arg0)) shapeCasts_S16x2048_S32768x1 := by
  unfold_abbrev_sides
  after_results
  rfl

/-- The frequency row the call reads: the reference's frequencies, four times over. -/
theorem freq_arr (c : Dev nD) : V m c main_v10 = shapeCast S1x128 (shapeCast S128 (broadcastInDim S4x32 ![0, 1] bcast_S1x32_S4x32_0_1 (shapeCast S1x32 (val_main_v6 (F := Ideal)) shapeCasts_S32_S1x32)) shapeCasts_S4x32_S128) shapeCasts_S128_S1x128 := by
  unfold_abbrev_sides
  after_results
  rfl

/-- The row of ones. -/
def ones : FVec Ideal S32 .f32 := broadcastInDim S32 ![] bcast_S_S32 (constant S_ .f32 0x3F800000#32)

/-- The sign row the call reads: minus one and one in turn, thirty-two lanes each. -/
theorem sign_arr (c : Dev nD) : V m c main_v18 = shapeCast S1x128 (shapeCast S128 (broadcastInDim S2x64 ![0, 1] bcast_S1x64_S2x64_0_1 (shapeCast S1x64 (concatenate S64 0 [⟨S32, Host.negf ones⟩, ⟨S32, ones⟩] concatenates_S32_S32_S64_d0) shapeCasts_S64_S1x64)) shapeCasts_S2x64_S128) shapeCasts_S128_S1x128 := by
  unfold_abbrev_sides
  after_results
  rfl

/-- A block's position at a row. -/
theorem pos_blk (c : Dev nD) (t : Fin cfg0.N) (a : Fin 1024) (r : Fin 32768) (e : r.val = 1024 * t.val + a.val) :
    iblk m c 0 t (ix2 a 0) = m ((c : Thread nD τ).loc main_arg0) (ix2 (⟨r.val / 2048, by omega⟩ : Fin 16) (⟨r.val % 2048, by omega⟩ : Fin 2048)) := by
  have kN : t.val < 32 := lt_of_lt_of_eq t.isLt N_0
  have kr : (win0_0.blk t).view.emb (ix2 a 0) = ix2 r (0 : Fin 1) := by blk_ext [idx t]
  show V m c main_v19 ((win0_0.blk t).view.emb (ix2 a 0)) = _
  rw [kr, pos_arr]
  pointwise []

/-- A block's frequency at a lane. -/
theorem freq_blk (c : Dev nD) (t : Fin cfg0.N) (j : Fin 128) : iblk m c 1 t (ix2 0 j) = val_main_v6 (F := Ideal) (ix1 ⟨j.val % 32, by omega⟩) := by
  have kN : t.val < 32 := lt_of_lt_of_eq t.isLt N_0
  have kr : (win0_1.blk t).view.emb (ix2 0 j) = ix2 (0 : Fin 1) j := by blk_ext [idx t]
  show V m c main_v10 ((win0_1.blk t).view.emb (ix2 0 j)) = _
  rw [kr, freq_arr]
  generalize val_main_v6 (F := Ideal) = f
  pointwise []

/-- A block's sign at a lane. -/
theorem sign_blk (c : Dev nD) (t : Fin cfg0.N) (j : Fin 128) : iblk m c 2 t (ix2 0 j) = if j.val % 64 < 32 then (-1 : EReal) else 1 := by
  have kN : t.val < 32 := lt_of_lt_of_eq t.isLt N_0
  have kr : (win0_2.blk t).view.emb (ix2 0 j) = ix2 (0 : Fin 1) j := by blk_ext [idx t]
  show V m c main_v18 ((win0_2.blk t).view.emb (ix2 0 j)) = _
  rw [kr, sign_arr]
  pointwise [ones]
  split_ifs <;> rfl

/-- The cosine array after the call is the reference's. -/
theorem final3 (c : Dev nD) : (dats m 0 c).arrAt 3 cfg0.N = val_main_v15 (F := Ideal) (m ((c : Thread nD τ).loc main_arg0)) := by
  refine (dats m 0 c).arrAt_eq_of_covers 3 _ (by decide +kernel) fun t hf y => ?_
  have kN : t.val < 32 := lt_of_lt_of_eq t.isLt N_0
  blk_simp
  rw [after0_3]
  obtain ⟨a, q, rfl⟩ : ∃ (a : Fin 1024) (q : Fin 128), y = ix2 a q := ⟨y 0, y 1, by blk_ext []⟩
  have kr : ((cfg0.win 3).blk t).view.emb (ix2 a q) = ix2 (⟨1024 * t.val + a.val, by omega⟩ : Fin 32768) q := by
    blk_ext [idx t]
  rw [kr]
  clear kr
  frame_out
  refine (cos_at _ _ a q).trans (Eq.trans ?_ (cosines_at _ _ _).symm)
  rw [pos_blk m c t a ⟨1024 * t.val + a.val, by omega⟩ rfl, freq_blk]
  rfl

/-- The sine array after the call is the reference's. -/
theorem final4 (c : Dev nD) : (dats m 0 c).arrAt 4 cfg0.N = val_main_v18 (F := Ideal) (m ((c : Thread nD τ).loc main_arg0)) := by
  refine (dats m 0 c).arrAt_eq_of_covers 4 _ (by decide +kernel) fun t hf y => ?_
  have kN : t.val < 32 := lt_of_lt_of_eq t.isLt N_0
  blk_simp
  rw [after0_4]
  obtain ⟨a, q, rfl⟩ : ∃ (a : Fin 1024) (q : Fin 128), y = ix2 a q := ⟨y 0, y 1, by blk_ext []⟩
  have kr : ((cfg0.win 4).blk t).view.emb (ix2 a q) = ix2 (⟨1024 * t.val + a.val, by omega⟩ : Fin 32768) q := by
    blk_ext [idx t]
  rw [kr]
  clear kr
  frame_out
  refine (sin_at _ _ _ a q).trans (Eq.trans ?_ (sines_at _ _ _).symm)
  rw [pos_blk m c t a ⟨1024 * t.val + a.val, by omega⟩ rfl, freq_blk, sign_blk]
  show Ideal.sin (angle _ _ _) * _ = _
  split_ifs
  · rw [mul_neg, mul_one]
  · rw [mul_one]

/-- The run of the call, its two result arrays named and its argument unchanged. -/
theorem run_arrays (ρ : Dev nD → PrngReg) : θ_run defs (onTc (τ := τ) (main (F := Ideal))) ⟨m, fun _ => 0, ρ⟩ fun r => ∀ c : Dev nD,
      r.2.mem ((c : Thread nD τ).loc main_v20_0) = (dats m 0 c).arrAt 3 cfg0.N
      ∧ r.2.mem ((c : Thread nD τ).loc main_v20_1) = (dats m 0 c).arrAt 4 cfg0.N
      ∧ r.2.mem ((c : Thread nD τ).loc main_arg0) = m ((c : Thread nD τ).loc main_arg0) :=
  (θ_run defs _ _).mono (fun r h c => ⟨(h c).1 3, (h c).1 4,
    ((h c).2 main_arg0 (Pipeline.mem_restRefs_of main_arg0 (by decide) (by decide))).trans (V_main_arg0 m c)⟩) (run_main m ρ)

end Cert.TablesIdeal.Hand

end
-- ==== Proof.MixPre.lean ====
module

public import proofs.«01_k».proof.Pre_finite
public import proofs.«01_k».proof.Proof.MixDen
public import Idealize.ShloMosaic.Lib.ReduceAll

/-! The mixer's precondition, read: queries, keys and sink logits are real. -/

@[expose] public section

set_option maxRecDepth 16384

noncomputable section

open Idealize.ShloMosaic Idealize.ShloMosaic.TcCoe Idealize.SL.Sem

namespace Cert.MixerIdeal.Hand

/-- The side conditions of the precondition's operations. -/
instance finite_facts : Cert.Pre_finite.Facts where
  slices_S32768x1024_S32768x512_0_512 := by decide
  bitsLt_bf16_f32 := by decide
  bcast_S_S32768x512 := by decide
  reducesTo_S32768x512_S_d0_1 := by decide
  h_S_ := by decide
  slices_S32768x256_S32768x128_0_0 := by decide
  bcast_S_S32768x128 := by decide
  reducesTo_S32768x128_S_d0_1 := by decide
  bcast_S_S8 := by decide
  reducesTo_S8_S_d0 := by decide

/-- What compares above the bottom and below the top is real. -/
theorem real_of_between (x : Ideal .f32) (h : IntOp.andi (FloatOps.cmpf (F := Ideal) .ogt x (FloatOps.ofBits .f32 0xFF800000#32))
    (FloatOps.cmpf (F := Ideal) .olt x (FloatOps.ofBits .f32 0x7F800000#32)) = 1#1) : IsReal x := by
  obtain ⟨h0, h1⟩ := IntOp.andi_eq_one.mp h
  have hb : (x : EReal) ≠ ⊥ := by
    rintro hn
    have : FloatOps.cmpf (F := Ideal) .ogt x (FloatOps.ofBits .f32 0xFF800000#32) = 0#1 := by
      show BitVec.ofBool (decide (Ideal.ofBits .f32 0xFF800000#32 < x)) = 0#1
      rw [hn, decide_eq_false not_lt_bot]
      rfl
    rw [this] at h0
    exact absurd h0 (by decide)
  have ht : (x : EReal) ≠ ⊤ := by
    rintro hn
    have : FloatOps.cmpf (F := Ideal) .olt x (FloatOps.ofBits .f32 0x7F800000#32) = 0#1 := by
      show BitVec.ofBool (decide (x < Ideal.ofBits .f32 0x7F800000#32)) = 0#1
      rw [hn, decide_eq_false not_top_lt]
      rfl
    rw [this] at h1
    exact absurd h1 (by decide)
  exact ⟨EReal.toReal x, (EReal.coe_toReal ht hb).symm⟩

/-- The precondition, read: every query, every key and every sink logit is real. -/
theorem finite_args (x0 : FVec Ideal S32768x1024 .f32) (x1 : FVec Ideal S32768x1536 .bf16) (x2 : FVec Ideal S32768x1024 .bf16) (x3 : FVec Ideal S32768x256 .bf16)
    (x4 : FVec Ideal S32768x3072 .bf16) (x5 : FVec Ideal S8 .f32) (x6 : FVec Ideal S3x512 .f32) (x7 : FVec Ideal S4x128x128 .f32) (x8 : FVec Ideal S512 .f32)
    (x9 : FVec Ideal S3x512x1024 .f32) (x10 : FVec Ideal S1024x1024 .f32)
    (h : Cert.Pre_finite.fn (F := Ideal) x0 x1 x2 x3 x4 x5 x6 x7 x8 x9 x10 = (fun _ => 1#1)) :
    QueriesReal x2 ∧ KeysReal x3 ∧ ∀ i, IsReal (x5 i) := by
  simp only [Cert.Pre_finite.fn, Cert.Pre_finite.fn_part1] at h
  have : Subsingleton Cert.Pre_finite.S_.Idx := ⟨fun a b => funext fun k => k.elim0⟩
  have h' := congrFun h (fun k => k.elim0)
  obtain ⟨h01, h2⟩ := IntOp.andi_eq_one.mp h'
  obtain ⟨h0, h1⟩ := IntOp.andi_eq_one.mp h01
  refine ⟨fun r e => ?_, fun r e => ?_, fun i => ?_⟩
  · have hi := Host.reduce_andi_all _ _ _ _ _ h0 (ix2 r e)
    have hr := real_of_between _ hi
    have he : extractStridedSlice Cert.Pre_finite.S32768x512 ![0, 512] x2 Cert.Pre_finite.Facts.slices_S32768x1024_S32768x512_0_512 (ix2 r e) = x2 (ix2 r (⟨512 + e.val, by omega⟩ : Fin 1024)) := by
      pointwise []
    rw [← he]
    exact hr
  · have hi := Host.reduce_andi_all _ _ _ _ _ h1 (ix2 r e)
    have hr := real_of_between _ hi
    have he : extractStridedSlice Cert.Pre_finite.S32768x128 ![0, 0] x3 Cert.Pre_finite.Facts.slices_S32768x256_S32768x128_0_0 (ix2 r e) = x3 (ix2 r (⟨e.val, by omega⟩ : Fin 256)) := by
      pointwise []
    rw [← he]
    exact hr
  · exact real_of_between _ (Host.reduce_andi_all _ _ _ _ _ h2 i)

end Cert.MixerIdeal.Hand

end
-- ==== Proof.lean ====
module

public import proofs.«01_k».proof.Defs
public import proofs.«01_k».proof.Proof.Gen.Mixer.Frame
public import proofs.«01_k».proof.Proof.Gen.MixerIdeal.Value
public import proofs.«01_k».proof.Proof.Gen.MixerReferenceIdeal.Read
public import proofs.«01_k».proof.Proof.Gen.Moe.Frame
public import proofs.«01_k».proof.Proof.Gen.MoeIdeal.Value
public import proofs.«01_k».proof.Proof.Gen.MoeReferenceIdeal.Read
public import proofs.«01_k».proof.Proof.Gen.Ffn.Frame
public import proofs.«01_k».proof.Proof.Gen.FfnIdeal.Value
public import proofs.«01_k».proof.Proof.Gen.FfnReferenceIdeal.Read
public import proofs.«01_k».proof.Proof.Gen.InProj.Frame
public import proofs.«01_k».proof.Proof.Gen.InProjIdeal.Value
public import proofs.«01_k».proof.Proof.Gen.InProjReferenceIdeal.Read
public import proofs.«01_k».proof.Proof.Gen.Ple.Frame
public import proofs.«01_k».proof.Proof.Gen.PleIdeal.Value
public import proofs.«01_k».proof.Proof.Gen.PleReferenceIdeal.Read
public import proofs.«01_k».proof.Proof.Gen.Last.Frame
public import proofs.«01_k».proof.Proof.Gen.LastIdeal.Value
public import proofs.«01_k».proof.Proof.Gen.LastReferenceIdeal.Read
public import proofs.«01_k».proof.Proof.Gen.Router.Frame
public import proofs.«01_k».proof.Proof.Gen.RouterIdeal.Value
public import proofs.«01_k».proof.Proof.Gen.RouterReferenceIdeal.Read
public import proofs.«01_k».proof.Proof.Gen.Tables.Frame
public import proofs.«01_k».proof.Proof.Gen.TablesIdeal.Frame
public import proofs.«01_k».proof.Proof.Gen.TablesReferenceIdeal.Read
public import proofs.«01_k».proof.Proof.MixerValue
public import proofs.«01_k».proof.Proof.MoeValue
public import proofs.«01_k».proof.Proof.FfnValue
public import proofs.«01_k».proof.Proof.InProjValue
public import proofs.«01_k».proof.Proof.PleValue
public import proofs.«01_k».proof.Proof.LastValue
public import proofs.«01_k».proof.Proof.RouterValue
public import proofs.«01_k».proof.Proof.TablesValue
public import proofs.«01_k».proof.Proof.MixPre
public import proofs.«01_k».proof.Proof.Gen.Pre_routed
public import proofs.«01_k».proof.Proof.Gen.Pre_bounded
public import Idealize.ShloMosaic.Adequacy
public import Idealize.ShloMosaic.Init
public import Idealize.ShloMosaic.Lib.Quiescent
public import Idealize.ShloMosaic.Lib.ReduceAll
public import Idealize.ShloMosaic.Lib.Tactic.ValueTie

/-! The assembly: every claim of the certificate from the programs' frames and from the value theorems of the calls. -/

@[expose] public section

set_option maxRecDepth 16384

noncomputable section

namespace Cert.Proof

open Idealize.ShloMosaic Idealize.SL.Sem Idealize.ShloMosaic.TcCoe

/-- The Mixer reference runs, leaves its arguments as they were and its semaphores at zero. -/
theorem quiescent_MixerReferenceIdeal : quiescent_MixerReferenceIdeal := fun m ρ _ =>
  (θ_run Cert.MixerReferenceIdeal.defs _ _).mono (fun r h => ⟨fun c => (h c).2, sem_eq_zero_of_no_sems (by decide) r.2⟩)
    (Cert.MixerReferenceIdeal.Value.run (F := Ideal) m ρ)

/-- The Moe reference runs, leaves its arguments as they were and its semaphores at zero. -/
theorem quiescent_MoeReferenceIdeal : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- The Ffn reference runs, leaves its arguments as they were and its semaphores at zero. -/
theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The InProj reference runs, leaves its arguments as they were and its semaphores at zero. -/
theorem quiescent_InProjReferenceIdeal : quiescent_InProjReferenceIdeal := fun m ρ _ =>
  (θ_run Cert.InProjReferenceIdeal.defs _ _).mono (fun r h => ⟨fun c => (h c).2.2.2.2, sem_eq_zero_of_no_sems (by decide) r.2⟩)
    (Cert.InProjReferenceIdeal.Value.run (F := Ideal) m ρ)

/-- The Ple reference runs, leaves its arguments as they were and its semaphores at zero. -/
theorem quiescent_PleReferenceIdeal : quiescent_PleReferenceIdeal := fun m ρ _ =>
  (θ_run Cert.PleReferenceIdeal.defs _ _).mono (fun r h => ⟨fun c => (h c).2, sem_eq_zero_of_no_sems (by decide) r.2⟩)
    (Cert.PleReferenceIdeal.Value.run (F := Ideal) m ρ)

/-- The Last reference runs, leaves its arguments as they were and its semaphores at zero. -/
theorem quiescent_LastReferenceIdeal : quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

/-- The Router reference runs, leaves its arguments as they were and its semaphores at zero. -/
theorem quiescent_RouterReferenceIdeal : quiescent_RouterReferenceIdeal := fun m ρ _ =>
  (θ_run Cert.RouterReferenceIdeal.defs _ _).mono (fun r h => ⟨fun c => (h c).2, sem_eq_zero_of_no_sems (by decide) r.2⟩)
    (Cert.RouterReferenceIdeal.Value.run (F := Ideal) m ρ)

/-- The Tables reference runs, leaves its arguments as they were and its semaphores at zero. -/
theorem quiescent_TablesReferenceIdeal : quiescent_TablesReferenceIdeal := fun m ρ _ =>
  (θ_run Cert.TablesReferenceIdeal.defs _ _).mono (fun r h => ⟨fun c => (h c).2.2, sem_eq_zero_of_no_sems (by decide) r.2⟩)
    (Cert.TablesReferenceIdeal.Value.run (F := Ideal) m ρ)

/-- The precondition, read: every routing weight is finite and not negative. -/
theorem routed_weights (x : FVec Ideal Cert.MoeIdeal.S32768x1024 .f32) (g : FVec Ideal Cert.MoeIdeal.S1024 .f32)
    (w : FVec Ideal Cert.MoeIdeal.S32768x128 .f32) (u : FVec Ideal Cert.MoeIdeal.S8x1024x3584 .f32) (d : FVec Ideal Cert.MoeIdeal.S8x1792x1024 .f32)
    (h : Cert.Pre_routed.fn (F := Ideal) x g w u d = (fun _ => 1#1)) (i : Cert.MoeIdeal.S32768x128.Idx) : 0 ≤ w i ∧ w i ≠ ⊤ := by
  simp only [Cert.Pre_routed.fn] at h
  have : Subsingleton Cert.Pre_routed.S_.Idx := ⟨fun a b => funext fun k => k.elim0⟩
  have hi := Host.reduce_andi_all _ _ _ _ _ (congrFun h (fun k => k.elim0)) i
  simp only [andi, cmpf, broadcastInDim, constant] at hi
  obtain ⟨h0, h1⟩ := IntOp.andi_eq_one.mp hi
  constructor
  · by_contra hn
    have : FloatOps.cmpf (F := Ideal) .oge (w i) (FloatOps.ofBits .f32 0#32) = 0#1 := by
      show BitVec.ofBool (decide (Ideal.ofBits .f32 0x00000000#32 ≤ w i)) = 0#1
      rw [Ideal.ofBits_zero_f32, decide_eq_false hn]
      rfl
    rw [this] at h0
    exact absurd h0 (by decide)
  · rintro hn
    have : FloatOps.cmpf (F := Ideal) .olt (w i) (FloatOps.ofBits .f32 0x7F800000#32) = 0#1 := by
      show BitVec.ofBool (decide (w i < Ideal.ofBits .f32 0x7F800000#32)) = 0#1
      rw [hn, decide_eq_false not_top_lt]
      rfl
    rw [this] at h1
    exact absurd h1 (by decide)

/-- The token mixer: where queries, keys and sink logits are finite, the kernel's result is the reference's, over the extended reals. -/
theorem algebraic_MixerIdeal_MixerReferenceIdeal_pre_finite : algebraic_MixerIdeal_MixerReferenceIdeal_pre_finite := by
  intro m ρ m' ρ' hpre hagree
  refine ⟨fun c => Cert.MixerReferenceIdeal.Read.val_main_v263 (F := Ideal) (m ((c : Thread Cert.MixerIdeal.nD Cert.MixerIdeal.τ).loc Cert.MixerIdeal.main_arg0)) (m ((c : Thread Cert.MixerIdeal.nD Cert.MixerIdeal.τ).loc Cert.MixerIdeal.main_arg1)) (m ((c : Thread Cert.MixerIdeal.nD Cert.MixerIdeal.τ).loc Cert.MixerIdeal.main_arg2)) (m ((c : Thread Cert.MixerIdeal.nD Cert.MixerIdeal.τ).loc Cert.MixerIdeal.main_arg3)) (m ((c : Thread Cert.MixerIdeal.nD Cert.MixerIdeal.τ).loc Cert.MixerIdeal.main_arg4)) (m ((c : Thread Cert.MixerIdeal.nD Cert.MixerIdeal.τ).loc Cert.MixerIdeal.main_arg5)) (m ((c : Thread Cert.MixerIdeal.nD Cert.MixerIdeal.τ).loc Cert.MixerIdeal.main_arg6)) (m ((c : Thread Cert.MixerIdeal.nD Cert.MixerIdeal.τ).loc Cert.MixerIdeal.main_arg7)) (m ((c : Thread Cert.MixerIdeal.nD Cert.MixerIdeal.τ).loc Cert.MixerIdeal.main_arg8)) (m ((c : Thread Cert.MixerIdeal.nD Cert.MixerIdeal.τ).loc Cert.MixerIdeal.main_arg9)) (m ((c : Thread Cert.MixerIdeal.nD Cert.MixerIdeal.τ).loc Cert.MixerIdeal.main_arg10)),
    (θ_run Cert.MixerIdeal.defs _ _).mono (fun r h c => ⟨(h c).1.trans (Cert.MixerIdeal.Hand.final m c (Cert.MixerIdeal.Hand.finite_args _ _ _ _ _ _ _ _ _ _ _ (hpre c)).1 (Cert.MixerIdeal.Hand.finite_args _ _ _ _ _ _ _ _ _ _ _ (hpre c)).2.1 (Cert.MixerIdeal.Hand.finite_args _ _ _ _ _ _ _ _ _ _ _ (hpre c)).2.2), (h c).2⟩) (Cert.MixerIdeal.Value.run_blocks (F := Ideal) m ρ), ?_⟩
  refine (θ_run Cert.MixerReferenceIdeal.defs _ _).mono (fun _ h c => ⟨?_, (h c).2⟩) (Cert.MixerReferenceIdeal.Value.run (F := Ideal) m' ρ')
  refine (h c).1.trans ?_
  refine Eq.trans (Cert.MixerReferenceIdeal.Read.val_main_v263_eq (F := Ideal) (StableHlo.launchContents m' c)) ?_
  obtain ⟨h0, h1, h2, h3, h4, h5, h6, h7, h8, h9, h10⟩ := hagree c
  simp only [h0, h1, h2, h3, h4, h5, h6, h7, h8, h9, h10]

/-- The feed-forward call with routed experts: where the routing weights are finite and not negative, the kernel's result is the reference's, over the extended reals. -/
theorem algebraic_MoeIdeal_MoeReferenceIdeal_pre_routed : algebraic_MoeIdeal_MoeReferenceIdeal_pre_routed := by
  intro m ρ m' ρ' hpre hagree
  refine ⟨fun c => Cert.MoeReferenceIdeal.Read.val_main_v126 (F := Ideal) (m ((c : Thread Cert.MoeIdeal.nD Cert.MoeIdeal.τ).loc Cert.MoeIdeal.main_arg0)) (m ((c : Thread Cert.MoeIdeal.nD Cert.MoeIdeal.τ).loc Cert.MoeIdeal.main_arg1)) (m ((c : Thread Cert.MoeIdeal.nD Cert.MoeIdeal.τ).loc Cert.MoeIdeal.main_arg2)) (m ((c : Thread Cert.MoeIdeal.nD Cert.MoeIdeal.τ).loc Cert.MoeIdeal.main_arg3)) (m ((c : Thread Cert.MoeIdeal.nD Cert.MoeIdeal.τ).loc Cert.MoeIdeal.main_arg4)),
    (θ_run Cert.MoeIdeal.defs _ _).mono (fun r h c => ⟨(h c).1.trans (Cert.MoeIdeal.Hand.final m c (fun r e => routed_weights _ _ _ _ _ (hpre c) (ix2 r e))), (h c).2⟩) (Cert.MoeIdeal.Value.run_blocks (F := Ideal) m ρ), ?_⟩
  refine (θ_run Cert.MoeReferenceIdeal.defs _ _).mono (fun _ h c => ⟨?_, (h c).2⟩) (Cert.MoeReferenceIdeal.Value.run (F := Ideal) m' ρ')
  refine (h c).1.trans ?_
  refine Eq.trans (Cert.MoeReferenceIdeal.Read.val_main_v126_eq (F := Ideal) (StableHlo.launchContents m' c)) ?_
  obtain ⟨h0, h1, h2, h3, h4⟩ := hagree c
  simp only [h0, h1, h2, h3, h4]

/-- The dense feed-forward call: the kernel's result is the reference's, over the extended reals. -/
theorem algebraic_FfnIdeal_FfnReferenceIdeal : algebraic_FfnIdeal_FfnReferenceIdeal := by
  intro m ρ m' ρ' _ hagree
  refine ⟨fun c => Cert.FfnReferenceIdeal.Read.val_main_v19 (F := Ideal) (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)),
    (θ_run Cert.FfnIdeal.defs _ _).mono (fun r h c => ⟨(h c).1.trans (Cert.FfnIdeal.Hand.final m c), (h c).2⟩) (Cert.FfnIdeal.Value.run_blocks (F := Ideal) m ρ), ?_⟩
  refine (θ_run Cert.FfnReferenceIdeal.defs _ _).mono (fun _ h c => ⟨?_, (h c).2⟩) (Cert.FfnReferenceIdeal.Value.run (F := Ideal) m' ρ')
  refine (h c).1.trans ?_
  refine Eq.trans (Cert.FfnReferenceIdeal.Read.val_main_v19_eq (F := Ideal) _ _ _ _) ?_
  obtain ⟨h0, h1, h2, h3⟩ := hagree c
  simp only [h0, h1, h2, h3]

/-- The input projection call: each of the kernel's four results is the reference's, over the extended reals. -/
theorem algebraic_InProjIdeal_InProjReferenceIdeal : algebraic_InProjIdeal_InProjReferenceIdeal := by
  intro m ρ m' ρ' _ hagree
  refine ⟨fun c => Cert.InProjReferenceIdeal.Read.val_main_v54 (F := Ideal) (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg4)),
    fun c => Cert.InProjReferenceIdeal.Read.val_main_v56 (F := Ideal) (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg2)) (m ((c : Thread Cert.InProjIdeal.nD Cert.InProjIdeal.τ).loc Cert.InProjIdeal.main_arg3)) (m ((c : Thread Cert.InProjIdeal.nD Cert.InProjIdeal.τ).loc Cert.InProjIdeal.main_arg4)),
    fun c => Cert.InProjReferenceIdeal.Read.val_main_v58 (F := Ideal) (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg2)) (m ((c : Thread Cert.InProjIdeal.nD Cert.InProjIdeal.τ).loc Cert.InProjIdeal.main_arg3)) (m ((c : Thread Cert.InProjIdeal.nD Cert.InProjIdeal.τ).loc Cert.InProjIdeal.main_arg4)),
    fun c => Cert.InProjReferenceIdeal.Read.val_main_v59 (F := Ideal) (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg4)),
    (θ_run Cert.InProjIdeal.defs _ _).mono (fun r h c => ⟨(h c).1.trans (Cert.InProjIdeal.Hand.final5 m c), (h c).2.1.trans (Cert.InProjIdeal.Hand.final6 m c),
      (h c).2.2.1.trans (Cert.InProjIdeal.Hand.final7 m c), (h c).2.2.2.1.trans (Cert.InProjIdeal.Hand.final8 m c), (h c).2.2.2.2⟩)
      (Cert.InProjIdeal.Value.run_blocks (F := Ideal) m ρ), ?_⟩
  refine (θ_run Cert.InProjReferenceIdeal.defs _ _).mono (fun _ h c => ⟨?_, ?_, ?_, ?_, (h c).2.2.2.2⟩) (Cert.InProjReferenceIdeal.Value.run (F := Ideal) m' ρ')
  all_goals obtain ⟨h0, h1, h2, h3, h4⟩ := hagree c
  · refine (h c).1.trans ((Cert.InProjReferenceIdeal.Read.val_main_v54_eq (F := Ideal) _ _ _).trans ?_)
    simp only [h0, h1, h4]
  · refine (h c).2.1.trans ((Cert.InProjReferenceIdeal.Read.val_main_v56_eq (F := Ideal) m' c).trans ?_)
    simp only [h0, h1, h2, h3, h4]
  · refine (h c).2.2.1.trans ((Cert.InProjReferenceIdeal.Read.val_main_v58_eq (F := Ideal) m' c).trans ?_)
    simp only [h0, h1, h2, h3, h4]
  · refine (h c).2.2.2.1.trans ((Cert.InProjReferenceIdeal.Read.val_main_v59_eq (F := Ideal) _ _ _).trans ?_)
    simp only [h0, h1, h4]

/-- The gated embedding call: the kernel's result is the reference's, over the extended reals. -/
theorem algebraic_PleIdeal_PleReferenceIdeal : algebraic_PleIdeal_PleReferenceIdeal := by
  intro m ρ m' ρ' _ hagree
  refine ⟨fun c => Cert.PleReferenceIdeal.Read.val_main_v22 (F := Ideal) (m ((c : Thread Cert.PleIdeal.nD Cert.PleIdeal.τ).loc Cert.PleIdeal.main_arg0)) (m ((c : Thread Cert.PleIdeal.nD Cert.PleIdeal.τ).loc Cert.PleIdeal.main_arg1)) (m ((c : Thread Cert.PleIdeal.nD Cert.PleIdeal.τ).loc Cert.PleIdeal.main_arg2)) (m ((c : Thread Cert.PleIdeal.nD Cert.PleIdeal.τ).loc Cert.PleIdeal.main_arg3)) (m ((c : Thread Cert.PleIdeal.nD Cert.PleIdeal.τ).loc Cert.PleIdeal.main_arg4)),
    (θ_run Cert.PleIdeal.defs _ _).mono (fun r h c => ⟨(h c).1.trans (Cert.PleIdeal.Hand.final m c), (h c).2⟩) (Cert.PleIdeal.Value.run_blocks (F := Ideal) m ρ), ?_⟩
  refine (θ_run Cert.PleReferenceIdeal.defs _ _).mono (fun _ h c => ⟨?_, (h c).2⟩) (Cert.PleReferenceIdeal.Value.run (F := Ideal) m' ρ')
  refine (h c).1.trans ?_
  refine Eq.trans (Cert.PleReferenceIdeal.Read.val_main_v22_eq (F := Ideal) _ _ _ _ _) ?_
  obtain ⟨h0, h1, h2, h3, h4, h5⟩ := hagree c
  simp only [h0, h1, h2, h3, h4]

/-- The last gated embedding call with the final normalization: the kernel's result is the reference's, over the extended reals. -/
theorem algebraic_LastIdeal_LastReferenceIdeal : algebraic_LastIdeal_LastReferenceIdeal := by
  intro m ρ m' ρ' _ hagree
  refine ⟨fun c => Cert.LastReferenceIdeal.Read.val_main_v35 (F := Ideal) (m ((c : Thread Cert.LastIdeal.nD Cert.LastIdeal.τ).loc Cert.LastIdeal.main_arg0)) (m ((c : Thread Cert.LastIdeal.nD Cert.LastIdeal.τ).loc Cert.LastIdeal.main_arg1)) (m ((c : Thread Cert.LastIdeal.nD Cert.LastIdeal.τ).loc Cert.LastIdeal.main_arg2)) (m ((c : Thread Cert.LastIdeal.nD Cert.LastIdeal.τ).loc Cert.LastIdeal.main_arg3)) (m ((c : Thread Cert.LastIdeal.nD Cert.LastIdeal.τ).loc Cert.LastIdeal.main_arg4)) (m ((c : Thread Cert.LastIdeal.nD Cert.LastIdeal.τ).loc Cert.LastIdeal.main_arg5)),
    (θ_run Cert.LastIdeal.defs _ _).mono (fun r h c => ⟨(h c).1.trans (Cert.LastIdeal.Hand.final m c), (h c).2⟩) (Cert.LastIdeal.Value.run_blocks (F := Ideal) m ρ), ?_⟩
  refine (θ_run Cert.LastReferenceIdeal.defs _ _).mono (fun _ h c => ⟨?_, (h c).2⟩) (Cert.LastReferenceIdeal.Value.run (F := Ideal) m' ρ')
  refine (h c).1.trans ?_
  refine Eq.trans (Cert.LastReferenceIdeal.Read.val_main_v35_eq (F := Ideal) m' c) ?_
  obtain ⟨h0, h1, h2, h3, h4, h5⟩ := hagree c
  simp only [h0, h1, h2, h3, h4, h5]

/-- The router call: where every router logit is above the filler and below infinity, the kernel's result is the reference's, over the extended reals. -/
theorem algebraic_RouterIdeal_RouterReferenceIdeal_pre_bounded : algebraic_RouterIdeal_RouterReferenceIdeal_pre_bounded := by
  intro m ρ m' ρ' hpre hagree
  refine ⟨fun c => Cert.RouterReferenceIdeal.Read.val_main_v51 (F := Ideal) (m ((c : Thread Cert.RouterIdeal.nD Cert.RouterIdeal.τ).loc Cert.RouterIdeal.main_arg0)) (m ((c : Thread Cert.RouterIdeal.nD Cert.RouterIdeal.τ).loc Cert.RouterIdeal.main_arg1)) (m ((c : Thread Cert.RouterIdeal.nD Cert.RouterIdeal.τ).loc Cert.RouterIdeal.main_arg2)),
    (θ_run Cert.RouterIdeal.defs _ _).mono (fun r h c => ⟨(h c).1.trans (Cert.RouterIdeal.Hand.final m c (hpre c)), (h c).2⟩) (Cert.RouterIdeal.Value.run_blocks (F := Ideal) m ρ), ?_⟩
  refine (θ_run Cert.RouterReferenceIdeal.defs _ _).mono (fun _ h c => ⟨?_, (h c).2⟩) (Cert.RouterReferenceIdeal.Value.run (F := Ideal) m' ρ')
  refine (h c).1.trans ?_
  refine Eq.trans (Cert.RouterReferenceIdeal.Read.val_main_v51_eq (F := Ideal) m' c) ?_
  obtain ⟨h0, h1, h2⟩ := hagree c
  simp only [h0, h1, h2]

/-- The rotation's tables: each of the kernel's two results is the reference's, over the extended reals. -/
theorem algebraic_TablesIdeal_TablesReferenceIdeal : algebraic_TablesIdeal_TablesReferenceIdeal := by
  intro m ρ m' ρ' _ hagree
  refine ⟨fun c => Cert.TablesReferenceIdeal.Read.val_main_v15 (F := Ideal) (m ((c : Thread Cert.TablesIdeal.nD Cert.TablesIdeal.τ).loc Cert.TablesIdeal.main_arg0)), fun c => Cert.TablesReferenceIdeal.Read.val_main_v18 (F := Ideal) (m ((c : Thread Cert.TablesIdeal.nD Cert.TablesIdeal.τ).loc Cert.TablesIdeal.main_arg0)),
    (θ_run Cert.TablesIdeal.defs _ _).mono (fun r h c => ⟨(h c).1.trans (Cert.TablesIdeal.Hand.final3 m c), (h c).2.1.trans (Cert.TablesIdeal.Hand.final4 m c), (h c).2.2⟩)
      (Cert.TablesIdeal.Hand.run_arrays m ρ), ?_⟩
  refine (θ_run Cert.TablesReferenceIdeal.defs _ _).mono (fun _ h c => ⟨?_, ?_, (h c).2.2⟩) (Cert.TablesReferenceIdeal.Value.run (F := Ideal) m' ρ')
  all_goals have h0 := hagree c
  · refine (h c).1.trans ((Cert.TablesReferenceIdeal.Read.val_main_v15_eq (F := Ideal) _).trans ?_)
    simp only [h0]
  · refine (h c).2.1.trans ((Cert.TablesReferenceIdeal.Read.val_main_v18_eq (F := Ideal) _).trans ?_)
    simp only [h0]

/-- Everything the certificate claims. -/
theorem claim : Cert.Claim := ⟨Cert.Mixer.Gen.facts,
  Cert.MixerIdeal.Gen.facts,
  Cert.MixerReferenceIdeal.Gen.facts,
  Cert.Moe.Gen.facts,
  Cert.MoeIdeal.Gen.facts,
  Cert.MoeReferenceIdeal.Gen.facts,
  Cert.Ffn.Gen.facts,
  Cert.FfnIdeal.Gen.facts,
  Cert.FfnReferenceIdeal.Gen.facts,
  Cert.InProj.Gen.facts,
  Cert.InProjIdeal.Gen.facts,
  Cert.InProjReferenceIdeal.Gen.facts,
  Cert.Ple.Gen.facts,
  Cert.PleIdeal.Gen.facts,
  Cert.PleReferenceIdeal.Gen.facts,
  Cert.Last.Gen.facts,
  Cert.LastIdeal.Gen.facts,
  Cert.LastReferenceIdeal.Gen.facts,
  Cert.Router.Gen.facts,
  Cert.RouterIdeal.Gen.facts,
  Cert.RouterReferenceIdeal.Gen.facts,
  Cert.Tables.Gen.facts,
  Cert.TablesIdeal.Gen.facts,
  Cert.TablesReferenceIdeal.Gen.facts,
  Cert.MixerIdeal.Hand.finite_facts,
  Cert.Pre_routed.Gen.facts,
  Cert.Pre_bounded.Gen.facts,
  fun m ρ _ => Cert.Mixer.Gen.frame m ρ,
  fun m ρ _ => Cert.MixerIdeal.Gen.frame m ρ,
  fun m ρ _ => Cert.MixerIdeal.Gen.frame m ρ,
  quiescent_MixerReferenceIdeal,
  fun m ρ _ => quiescent_MixerReferenceIdeal m ρ trivial,
  fun m ρ _ => Cert.Moe.Gen.frame m ρ,
  fun m ρ _ => Cert.MoeIdeal.Gen.frame m ρ,
  fun m ρ _ => Cert.MoeIdeal.Gen.frame m ρ,
  quiescent_MoeReferenceIdeal,
  fun m ρ _ => quiescent_MoeReferenceIdeal m ρ trivial,
  fun m ρ _ => Cert.Ffn.Gen.frame m ρ,
  fun m ρ _ => Cert.FfnIdeal.Gen.frame m ρ,
  quiescent_FfnReferenceIdeal,
  fun m ρ _ => Cert.InProj.Gen.frame m ρ,
  fun m ρ _ => Cert.InProjIdeal.Gen.frame m ρ,
  quiescent_InProjReferenceIdeal,
  fun m ρ _ => Cert.Ple.Gen.frame m ρ,
  fun m ρ _ => Cert.PleIdeal.Gen.frame m ρ,
  quiescent_PleReferenceIdeal,
  fun m ρ _ => Cert.Last.Gen.frame m ρ,
  fun m ρ _ => Cert.LastIdeal.Gen.frame m ρ,
  quiescent_LastReferenceIdeal,
  fun m ρ _ => Cert.Router.Gen.frame m ρ,
  fun m ρ _ => Cert.RouterIdeal.Gen.frame m ρ,
  fun m ρ _ => Cert.RouterIdeal.Gen.frame m ρ,
  quiescent_RouterReferenceIdeal,
  fun m ρ _ => quiescent_RouterReferenceIdeal m ρ trivial,
  fun m ρ _ => Cert.Tables.Gen.frame m ρ,
  fun m ρ _ => Cert.TablesIdeal.Gen.frame m ρ,
  quiescent_TablesReferenceIdeal,
  (trivial : preserves_Mixer_MixerIdeal),
  algebraic_MixerIdeal_MixerReferenceIdeal_pre_finite,
  (trivial : preserves_Moe_MoeIdeal),
  algebraic_MoeIdeal_MoeReferenceIdeal_pre_routed,
  (trivial : preserves_Ffn_FfnIdeal),
  algebraic_FfnIdeal_FfnReferenceIdeal,
  (trivial : preserves_InProj_InProjIdeal),
  algebraic_InProjIdeal_InProjReferenceIdeal,
  (trivial : preserves_Ple_PleIdeal),
  algebraic_PleIdeal_PleReferenceIdeal,
  (trivial : preserves_Last_LastIdeal),
  algebraic_LastIdeal_LastReferenceIdeal,
  (trivial : preserves_Router_RouterIdeal),
  algebraic_RouterIdeal_RouterReferenceIdeal_pre_bounded,
  (trivial : preserves_Tables_TablesIdeal),
  algebraic_TablesIdeal_TablesReferenceIdeal⟩

end Cert.Proof

end
